-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x768 : Shape := ⟨3, ![16, 2048, 768]⟩
abbrev S16x1x768 : Shape := ⟨3, ![16, 1, 768]⟩
abbrev S16x1x256 : Shape := ⟨3, ![16, 1, 256]⟩
abbrev S16x256x1 : Shape := ⟨3, ![16, 256, 1]⟩
abbrev S16x2048x256 : Shape := ⟨3, ![16, 2048, 256]⟩
abbrev S1x256x768 : Shape := ⟨3, ![1, 256, 768]⟩
abbrev S1x1x256 : Shape := ⟨3, ![1, 1, 256]⟩
abbrev S1x1x768 : Shape := ⟨3, ![1, 1, 768]⟩
abbrev S1x256x256 : Shape := ⟨3, ![1, 256, 256]⟩
abbrev S256x768 : Shape := ⟨2, ![256, 768]⟩
abbrev S1x256 : Shape := ⟨2, ![1, 256]⟩
abbrev S768x256 : Shape := ⟨2, ![768, 256]⟩
abbrev S256x256 : Shape := ⟨2, ![256, 256]⟩
abbrev S1x768 : Shape := ⟨2, ![1, 768]⟩
abbrev S768 : Shape := ⟨1, ![768]⟩
abbrev S256 : Shape := ⟨1, ![256]⟩
abbrev S_ : Shape := ⟨0, ![]⟩
abbrev S1x1 : Shape := ⟨2, ![1, 1]⟩
abbrev S1x256x1 : Shape := ⟨3, ![1, 256, 1]⟩
abbrev S256x1 : Shape := ⟨2, ![256, 1]⟩

abbrev nBuf : Space → Nat
  | .hbm => 22
  | .vmem => 31
  | .smem => 0
  | _ => 0

abbrev bufTy : (tb : Table) → Fin (tcTables nBuf tb) → BufTy
  | .hbm, ⟨0, _⟩ => ⟨S16x2048x768, .f32⟩
  | .hbm, ⟨1, _⟩ => ⟨S16x1x768, .i32⟩
  | .hbm, ⟨2, _⟩ => ⟨S16x1x256, .i32⟩
  | .hbm, ⟨3, _⟩ => ⟨S16x256x1, .i32⟩
  | .hbm, ⟨4, _⟩ => ⟨S16x2048x256, .f32⟩
  | .hbm, ⟨5, _⟩ => ⟨S16x2048x256, .i8⟩
  | .hbm, ⟨6, _⟩ => ⟨S16x2048x768, .i32⟩
  | .hbm, ⟨7, _⟩ => ⟨S16x1x768, .f32⟩
  | .hbm, ⟨8, _⟩ => ⟨S16x1x256, .f32⟩
  | .hbm, ⟨9, _⟩ => ⟨S_, .i32⟩
  | .hbm, ⟨10, _⟩ => ⟨S16x1x768, .i32⟩
  | .hbm, ⟨11, _⟩ => ⟨S16x1x768, .i1⟩
  | .hbm, ⟨12, _⟩ => ⟨S_, .f32⟩
  | .hbm, ⟨13, _⟩ => ⟨S16x1x768, .f32⟩
  | .hbm, ⟨14, _⟩ => ⟨S16x1x768, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1, .f32⟩
  | .hbm, ⟨21, _⟩ => ⟨S16x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x1x256, .i32⟩
  | .local _ .vmem, ⟨3, _⟩ => ⟨S1x1x256, .i32⟩
  | .local _ .vmem, ⟨4, _⟩ => ⟨S1x1x768, .i32⟩
  | .local _ .vmem, ⟨5, _⟩ => ⟨S1x1x768, .i32⟩
  | .local _ .vmem, ⟨6, _⟩ => ⟨S1x256x256, .f32⟩
  | .local _ .vmem, ⟨7, _⟩ => ⟨S1x256x256, .f32⟩
  | .local _ .vmem, ⟨8, _⟩ => ⟨S1x256x256, .i8⟩
  | .local _ .vmem, ⟨9, _⟩ => ⟨S1x256x256, .i8⟩
  | .local _ .vmem, ⟨10, _⟩ => ⟨S1x256x768, .i32⟩
  | .local _ .vmem, ⟨11, _⟩ => ⟨S1x256x768, .i32⟩
  | .local _ .vmem, ⟨12, _⟩ => ⟨S1x1x768, .f32⟩
  | .local _ .vmem, ⟨13, _⟩ => ⟨S1x1x768, .f32⟩
  | .local _ .vmem, ⟨14, _⟩ => ⟨S1x1x256, .f32⟩
  | .local _ .vmem, ⟨15, _⟩ => ⟨S1x1x256, .f32⟩
  | .local _ .vmem, ⟨16, _⟩ => ⟨S1x256x768, .f32⟩
  | .local _ .vmem, ⟨17, _⟩ => ⟨S1x256x768, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .i8⟩
  | .local _ .vmem, ⟨21, _⟩ => ⟨S1x256x256, .i8⟩
  | .local _ .vmem, ⟨22, _⟩ => ⟨S1x1x256, .i32⟩
  | .local _ .vmem, ⟨23, _⟩ => ⟨S1x1x256, .i32⟩
  | .local _ .vmem, ⟨24, _⟩ => ⟨S1x256x1, .i32⟩
  | .local _ .vmem, ⟨25, _⟩ => ⟨S1x256x1, .i32⟩
  | .local _ .vmem, ⟨26, _⟩ => ⟨S1x1x768, .i32⟩
  | .local _ .vmem, ⟨27, _⟩ => ⟨S1x1x768, .i32⟩
  | .local _ .vmem, ⟨28, _⟩ => ⟨S1x1, .f32⟩
  | .local _ .vmem, ⟨29, _⟩ => ⟨S1x256x768, .f32⟩
  | .local _ .vmem, ⟨30, _⟩ => ⟨S1x256x768, .f32⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_call0_v0 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_cst_4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v218 : BitVec 1 := Scalar.cmpi .eq arg1 c0_i32
  let v219 : BitVec 32 := Scalar.extui v218
  let c0_i32_59 : BitVec 32 := 0#32
  let v220 : BitVec 1 := Scalar.cmpi .ne v219 c0_i32_59
  v220

def k0_cond2 (i : grid0.Coords) : BitVec 1 :=
  let arg1 : BitVec 32 := BitVec.ofNat 32 (i 1).val
  let c0_i32_60 : BitVec 32 := 0#32
  let v221 : BitVec 1 := Scalar.cmpi .ne arg1 c0_i32_60
  let v222 : BitVec 32 := Scalar.extui v221
  let c0_i32_61 : BitVec 32 := 0#32
  let v223 : BitVec 1 := Scalar.cmpi .ne v222 c0_i32_61
  v223

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x768 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S16x2048x768 : Shape := ⟨3, ![16, 2048, 768]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x2 : Shape := ⟨2, ![1, 2]⟩
abbrev S16x1x768 : Shape := ⟨3, ![16, 1, 768]⟩
abbrev S16x768 : Shape := ⟨2, ![16, 768]⟩
abbrev S1x1 : Shape := ⟨2, ![1, 1]⟩
abbrev S1x1x1 : Shape := ⟨3, ![1, 1, 1]⟩

abbrev nBuf : Space → Nat
  | .hbm => 1354
  | .vmem => 0
  | .smem => 0
  | _ => 0

abbrev hbmTy0_0 (i : Nat) : BufTy := match i % 128 with
  | 0 => ⟨S16x2048x768, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S4, .i64⟩
  | 16 => ⟨S_, .i64⟩
  | 17 => ⟨S4, .i64⟩
  | 18 => ⟨S4, .i64⟩
  | 19 => ⟨S_, .i64⟩
  | 20 => ⟨S4, .i64⟩
  | 21 => ⟨S4, .i64⟩
  | 22 => ⟨S4, .i32⟩
  | 23 => ⟨S4, .i32⟩
  | 24 => ⟨S_, .i32⟩
  | 25 => ⟨S_, .i32⟩
  | 26 => ⟨S_, .i32⟩
  | 27 => ⟨S4, .i32⟩
  | 28 => ⟨S4, .i32⟩
  | 29 => ⟨S4, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S4, .i32⟩
  | 39 => ⟨S4, .i32⟩
  | 40 => ⟨S4, .i32⟩
  | 41 => ⟨S_, .i32⟩
  | 42 => ⟨S4, .i32⟩
  | 43 => ⟨S4, .i32⟩
  | 44 => ⟨S_, .i32⟩
  | 45 => ⟨S4, .i32⟩
  | 46 => ⟨S4, .i32⟩
  | 47 => ⟨S4, .i32⟩
  | 48 => ⟨S4, .i32⟩
  | 49 => ⟨S4, .i32⟩
  | 50 => ⟨S_, .i32⟩
  | 51 => ⟨S4, .i32⟩
  | 52 => ⟨S4, .i32⟩
  | 53 => ⟨S_, .i32⟩
  | 54 => ⟨S4, .i32⟩
  | 55 => ⟨S4, .i32⟩
  | 56 => ⟨S4, .i32⟩
  | 57 => ⟨S4, .i32⟩
  | 58 => ⟨S4, .i32⟩
  | 59 => ⟨S_, .i32⟩
  | 60 => ⟨S4, .i32⟩
  | 61 => ⟨S4, .i32⟩
  | 62 => ⟨S_, .i32⟩
  | 63 => ⟨S4, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S_, .i32⟩
  | 72 => ⟨S4, .i32⟩
  | 73 => ⟨S4, .i32⟩
  | 74 => ⟨S4, .i32⟩
  | 75 => ⟨S_, .i32⟩
  | 76 => ⟨S4, .i32⟩
  | 77 => ⟨S4, .i32⟩
  | 78 => ⟨S_, .i32⟩
  | 79 => ⟨S4, .i32⟩
  | 80 => ⟨S4, .i32⟩
  | 81 => ⟨S4, .i32⟩
  | 82 => ⟨S4, .i32⟩
  | 83 => ⟨S4, .i32⟩
  | 84 => ⟨S_, .i32⟩
  | 85 => ⟨S4, .i32⟩
  | 86 => ⟨S4, .i32⟩
  | 87 => ⟨S_, .i32⟩
  | 88 => ⟨S4, .i32⟩
  | 89 => ⟨S4, .i32⟩
  | 90 => ⟨S4, .i32⟩
  | 91 => ⟨S4, .i32⟩
  | 92 => ⟨S4, .i32⟩
  | 93 => ⟨S_, .i32⟩
  | 94 => ⟨S4, .i32⟩
  | 95 => ⟨S4, .i32⟩
  | 96 => ⟨S_, .i32⟩
  | 97 => ⟨S4, .i32⟩
  | 98 => ⟨S4, .i32⟩
  | 99 => ⟨S4, .i32⟩
  | 100 => ⟨S4, .i32⟩
  | 101 => ⟨S4, .i32⟩
  | 102 => ⟨S_, .i32⟩
  | 103 => ⟨S4, .i32⟩
  | 104 => ⟨S4, .i32⟩
  | 105 => ⟨S_, .i32⟩
  | 106 => ⟨S4, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S_, .i32⟩
  | 115 => ⟨S4, .i32⟩
  | 116 => ⟨S4, .i32⟩
  | 117 => ⟨S4, .i32⟩
  | 118 => ⟨S_, .i32⟩
  | 119 => ⟨S4, .i32⟩
  | 120 => ⟨S4, .i32⟩
  | 121 => ⟨S_, .i32⟩
  | 122 => ⟨S4, .i32⟩
  | 123 => ⟨S4, .i32⟩
  | 124 => ⟨S4, .i32⟩
  | 125 => ⟨S4, .i32⟩
  | 126 => ⟨S4, .i32⟩
  | 127 => ⟨S_, .i32⟩
  | _ => ⟨S16x2048x768, .f32⟩

abbrev hbmTy0_1 (i : Nat) : BufTy := match i % 128 with
  | 0 => ⟨S4, .i32⟩
  | 1 => ⟨S4, .i32⟩
  | 2 => ⟨S_, .i32⟩
  | 3 => ⟨S4, .i32⟩
  | 4 => ⟨S4, .i32⟩
  | 5 => ⟨S4, .i32⟩
  | 6 => ⟨S4, .i32⟩
  | 7 => ⟨S4, .i32⟩
  | 8 => ⟨S_, .i32⟩
  | 9 => ⟨S4, .i32⟩
  | 10 => ⟨S4, .i32⟩
  | 11 => ⟨S_, .i32⟩
  | 12 => ⟨S4, .i32⟩
  | 13 => ⟨S4, .i32⟩
  | 14 => ⟨S4, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S4, .i32⟩
  | 24 => ⟨S4, .i32⟩
  | 25 => ⟨S4, .i32⟩
  | 26 => ⟨S4, .i32⟩
  | 27 => ⟨S4, .i32⟩
  | 28 => ⟨S4, .i32⟩
  | 29 => ⟨S_, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .i32⟩
  | 40 => ⟨S4, .i32⟩
  | 41 => ⟨S4, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S_, .i32⟩
  | 89 => ⟨S4, .i32⟩
  | 90 => ⟨S4, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S4, .i32⟩
  | 101 => ⟨S4, .i32⟩
  | 102 => ⟨S4, .i32⟩
  | 103 => ⟨S_, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S_, .i32⟩
  | 116 => ⟨S4, .i32⟩
  | 117 => ⟨S4, .i32⟩
  | 118 => ⟨S4x1, .i32⟩
  | 119 => ⟨S4x1, .i32⟩
  | 120 => ⟨S4x2, .i32⟩
  | 121 => ⟨S1x2, .i32⟩
  | 122 => ⟨S2, .i32⟩
  | 123 => ⟨S1x2, .i32⟩
  | 124 => ⟨S2, .i32⟩
  | 125 => ⟨S1x2, .i32⟩
  | 126 => ⟨S2, .i32⟩
  | 127 => ⟨S1x2, .i32⟩
  | _ => ⟨S16x2048x768, .f32⟩

abbrev hbmTy0_2 (i : Nat) : BufTy := match i % 128 with
  | 0 => ⟨S2, .i32⟩
  | 1 => ⟨S16x1x768, .f32⟩
  | 2 => ⟨S16x768, .f32⟩
  | 3 => ⟨S_, .f32⟩
  | 4 => ⟨S_, .f32⟩
  | 5 => ⟨S_, .f32⟩
  | 6 => ⟨S_, .f32⟩
  | 7 => ⟨S_, .f32⟩
  | 8 => ⟨S1x1, .f32⟩
  | 9 => ⟨S1x1, .f32⟩
  | 10 => ⟨S1, .i32⟩
  | 11 => ⟨S_, .i32⟩
  | 12 => ⟨S1, .i32⟩
  | 13 => ⟨S_, .i32⟩
  | 14 => ⟨S16x768, .i64⟩
  | 15 => ⟨S16x768, .i64⟩
  | 16 => ⟨S_, .i64⟩
  | 17 => ⟨S16x768, .i64⟩
  | 18 => ⟨S16x768, .i64⟩
  | 19 => ⟨S_, .i64⟩
  | 20 => ⟨S16x768, .i64⟩
  | 21 => ⟨S16x768, .i64⟩
  | 22 => ⟨S16x768, .i64⟩
  | 23 => ⟨S_, .i64⟩
  | 24 => ⟨S16x768, .i64⟩
  | 25 => ⟨S16x768, .i64⟩
  | 26 => ⟨S16x768, .i32⟩
  | 27 => ⟨S16x768, .i32⟩
  | 28 => ⟨S_, .i32⟩
  | 29 => ⟨S_, .i32⟩
  | 30 => ⟨S_, .i32⟩
  | 31 => ⟨S16x768, .i32⟩
  | 32 => ⟨S16x768, .i32⟩
  | 33 => ⟨S16x768, .i32⟩
  | 34 => ⟨S16x768, .i32⟩
  | 35 => ⟨S16x768, .i32⟩
  | 36 => ⟨S_, .i32⟩
  | 37 => ⟨S16x768, .i32⟩
  | 38 => ⟨S16x768, .i32⟩
  | 39 => ⟨S_, .i32⟩
  | 40 => ⟨S16x768, .i32⟩
  | 41 => ⟨S16x768, .i32⟩
  | 42 => ⟨S16x768, .i32⟩
  | 43 => ⟨S16x768, .i32⟩
  | 44 => ⟨S16x768, .i32⟩
  | 45 => ⟨S_, .i32⟩
  | 46 => ⟨S16x768, .i32⟩
  | 47 => ⟨S16x768, .i32⟩
  | 48 => ⟨S_, .i32⟩
  | 49 => ⟨S16x768, .i32⟩
  | 50 => ⟨S16x768, .i32⟩
  | 51 => ⟨S16x768, .i32⟩
  | 52 => ⟨S16x768, .i32⟩
  | 53 => ⟨S16x768, .i32⟩
  | 54 => ⟨S_, .i32⟩
  | 55 => ⟨S16x768, .i32⟩
  | 56 => ⟨S16x768, .i32⟩
  | 57 => ⟨S_, .i32⟩
  | 58 => ⟨S16x768, .i32⟩
  | 59 => ⟨S16x768, .i32⟩
  | 60 => ⟨S16x768, .i32⟩
  | 61 => ⟨S16x768, .i32⟩
  | 62 => ⟨S16x768, .i32⟩
  | 63 => ⟨S_, .i32⟩
  | 64 => ⟨S16x768, .i32⟩
  | 65 => ⟨S16x768, .i32⟩
  | 66 => ⟨S_, .i32⟩
  | 67 => ⟨S16x768, .i32⟩
  | 68 => ⟨S16x768, .i32⟩
  | 69 => ⟨S16x768, .i32⟩
  | 70 => ⟨S16x768, .i32⟩
  | 71 => ⟨S16x768, .i32⟩
  | 72 => ⟨S16x768, .i32⟩
  | 73 => ⟨S16x768, .i32⟩
  | 74 => ⟨S16x768, .i32⟩
  | 75 => ⟨S_, .i32⟩
  | 76 => ⟨S16x768, .i32⟩
  | 77 => ⟨S16x768, .i32⟩
  | 78 => ⟨S16x768, .i32⟩
  | 79 => ⟨S_, .i32⟩
  | 80 => ⟨S16x768, .i32⟩
  | 81 => ⟨S16x768, .i32⟩
  | 82 => ⟨S_, .i32⟩
  | 83 => ⟨S16x768, .i32⟩
  | 84 => ⟨S16x768, .i32⟩
  | 85 => ⟨S16x768, .i32⟩
  | 86 => ⟨S16x768, .i32⟩
  | 87 => ⟨S16x768, .i32⟩
  | 88 => ⟨S_, .i32⟩
  | 89 => ⟨S16x768, .i32⟩
  | 90 => ⟨S16x768, .i32⟩
  | 91 => ⟨S_, .i32⟩
  | 92 => ⟨S16x768, .i32⟩
  | 93 => ⟨S16x768, .i32⟩
  | 94 => ⟨S16x768, .i32⟩
  | 95 => ⟨S16x768, .i32⟩
  | 96 => ⟨S16x768, .i32⟩
  | 97 => ⟨S_, .i32⟩
  | 98 => ⟨S16x768, .i32⟩
  | 99 => ⟨S16x768, .i32⟩
  | 100 => ⟨S_, .i32⟩
  | 101 => ⟨S16x768, .i32⟩
  | 102 => ⟨S16x768, .i32⟩
  | 103 => ⟨S16x768, .i32⟩
  | 104 => ⟨S16x768, .i32⟩
  | 105 => ⟨S16x768, .i32⟩
  | 106 => ⟨S_, .i32⟩
  | 107 => ⟨S16x768, .i32⟩
  | 108 => ⟨S16x768, .i32⟩
  | 109 => ⟨S_, .i32⟩
  | 110 => ⟨S16x768, .i32⟩
  | 111 => ⟨S16x768, .i32⟩
  | 112 => ⟨S16x768, .i32⟩
  | 113 => ⟨S16x768, .i32⟩
  | 114 => ⟨S16x768, .i32⟩
  | 115 => ⟨S16x768, .i32⟩
  | 116 => ⟨S16x768, .i32⟩
  | 117 => ⟨S16x768, .i32⟩
  | 118 => ⟨S_, .i32⟩
  | 119 => ⟨S16x768, .i32⟩
  | 120 => ⟨S16x768, .i32⟩
  | 121 => ⟨S16x768, .i32⟩
  | 122 => ⟨S_, .i32⟩
  | 123 => ⟨S16x768, .i32⟩
  | 124 => ⟨S16x768, .i32⟩
  | 125 => ⟨S_, .i32⟩
  | 126 => ⟨S16x768, .i32⟩
  | 127 => ⟨S16x768, .i32⟩
  | _ => ⟨S16x2048x768, .f32⟩

abbrev hbmTy0_3 (i : Nat) : BufTy := match i % 128 with
  | 0 => ⟨S16x768, .i32⟩
  | 1 => ⟨S16x768, .i32⟩
  | 2 => ⟨S16x768, .i32⟩
  | 3 => ⟨S_, .i32⟩
  | 4 => ⟨S16x768, .i32⟩
  | 5 => ⟨S16x768, .i32⟩
  | 6 => ⟨S_, .i32⟩
  | 7 => ⟨S16x768, .i32⟩
  | 8 => ⟨S16x768, .i32⟩
  | 9 => ⟨S16x768, .i32⟩
  | 10 => ⟨S16x768, .i32⟩
  | 11 => ⟨S16x768, .i32⟩
  | 12 => ⟨S_, .i32⟩
  | 13 => ⟨S16x768, .i32⟩
  | 14 => ⟨S16x768, .i32⟩
  | 15 => ⟨S_, .i32⟩
  | 16 => ⟨S16x768, .i32⟩
  | 17 => ⟨S16x768, .i32⟩
  | 18 => ⟨S16x768, .i32⟩
  | 19 => ⟨S16x768, .i32⟩
  | 20 => ⟨S16x768, .i32⟩
  | 21 => ⟨S_, .i32⟩
  | 22 => ⟨S16x768, .i32⟩
  | 23 => ⟨S16x768, .i32⟩
  | 24 => ⟨S_, .i32⟩
  | 25 => ⟨S16x768, .i32⟩
  | 26 => ⟨S16x768, .i32⟩
  | 27 => ⟨S16x768, .i32⟩
  | 28 => ⟨S16x768, .i32⟩
  | 29 => ⟨S16x768, .i32⟩
  | 30 => ⟨S16x768, .i32⟩
  | 31 => ⟨S16x768, .i32⟩
  | 32 => ⟨S16x768, .i32⟩
  | 33 => ⟨S_, .i32⟩
  | 34 => ⟨S16x768, .i32⟩
  | 35 => ⟨S16x768, .i32⟩
  | 36 => ⟨S16x768, .i32⟩
  | 37 => ⟨S_, .i32⟩
  | 38 => ⟨S16x768, .i32⟩
  | 39 => ⟨S16x768, .i32⟩
  | 40 => ⟨S_, .i32⟩
  | 41 => ⟨S16x768, .i32⟩
  | 42 => ⟨S16x768, .i32⟩
  | 43 => ⟨S16x768, .i32⟩
  | 44 => ⟨S16x768, .i32⟩
  | 45 => ⟨S16x768, .i32⟩
  | 46 => ⟨S_, .i32⟩
  | 47 => ⟨S16x768, .i32⟩
  | 48 => ⟨S16x768, .i32⟩
  | 49 => ⟨S_, .i32⟩
  | 50 => ⟨S16x768, .i32⟩
  | 51 => ⟨S16x768, .i32⟩
  | 52 => ⟨S16x768, .i32⟩
  | 53 => ⟨S16x768, .i32⟩
  | 54 => ⟨S16x768, .i32⟩
  | 55 => ⟨S_, .i32⟩
  | 56 => ⟨S16x768, .i32⟩
  | 57 => ⟨S16x768, .i32⟩
  | 58 => ⟨S_, .i32⟩
  | 59 => ⟨S16x768, .i32⟩
  | 60 => ⟨S16x768, .i32⟩
  | 61 => ⟨S16x768, .i32⟩
  | 62 => ⟨S16x768, .i32⟩
  | 63 => ⟨S16x768, .i32⟩
  | 64 => ⟨S_, .i32⟩
  | 65 => ⟨S16x768, .i32⟩
  | 66 => ⟨S16x768, .i32⟩
  | 67 => ⟨S_, .i32⟩
  | 68 => ⟨S16x768, .i32⟩
  | 69 => ⟨S16x768, .i32⟩
  | 70 => ⟨S16x768, .i32⟩
  | 71 => ⟨S16x768, .i32⟩
  | 72 => ⟨S16x768, .i32⟩
  | 73 => ⟨S16x768, .i32⟩
  | 74 => ⟨S16x768, .i32⟩
  | 75 => ⟨S16x768, .i32⟩
  | 76 => ⟨S_, .i32⟩
  | 77 => ⟨S16x768, .i32⟩
  | 78 => ⟨S16x768, .i32⟩
  | 79 => ⟨S16x768, .i32⟩
  | 80 => ⟨S_, .i32⟩
  | 81 => ⟨S16x768, .i32⟩
  | 82 => ⟨S16x768, .i32⟩
  | 83 => ⟨S_, .i32⟩
  | 84 => ⟨S16x768, .i32⟩
  | 85 => ⟨S16x768, .i32⟩
  | 86 => ⟨S16x768, .i32⟩
  | 87 => ⟨S16x768, .i32⟩
  | 88 => ⟨S16x768, .i32⟩
  | 89 => ⟨S_, .i32⟩
  | 90 => ⟨S16x768, .i32⟩
  | 91 => ⟨S16x768, .i32⟩
  | 92 => ⟨S_, .i32⟩
  | 93 => ⟨S16x768, .i32⟩
  | 94 => ⟨S16x768, .i32⟩
  | 95 => ⟨S16x768, .i32⟩
  | 96 => ⟨S16x768, .i32⟩
  | 97 => ⟨S16x768, .i32⟩
  | 98 => ⟨S_, .i32⟩
  | 99 => ⟨S16x768, .i32⟩
  | 100 => ⟨S16x768, .i32⟩
  | 101 => ⟨S_, .i32⟩
  | 102 => ⟨S16x768, .i32⟩
  | 103 => ⟨S16x768, .i32⟩
  | 104 => ⟨S16x768, .i32⟩
  | 105 => ⟨S16x768, .i32⟩
  | 106 => ⟨S16x768, .i32⟩
  | 107 => ⟨S_, .i32⟩
  | 108 => ⟨S16x768, .i32⟩
  | 109 => ⟨S16x768, .i32⟩
  | 110 => ⟨S_, .i32⟩
  | 111 => ⟨S16x768, .i32⟩
  | 112 => ⟨S16x768, .i32⟩
  | 113 => ⟨S16x768, .i32⟩
  | 114 => ⟨S16x768, .i32⟩
  | 115 => ⟨S16x768, .i32⟩
  | 116 => ⟨S16x768, .i32⟩
  | 117 => ⟨S16x768, .i32⟩
  | 118 => ⟨S16x768, .i32⟩
  | 119 => ⟨S_, .i32⟩
  | 120 => ⟨S16x768, .i32⟩
  | 121 => ⟨S16x768, .i32⟩
  | 122 => ⟨S16x768, .i32⟩
  | 123 => ⟨S_, .i32⟩
  | 124 => ⟨S16x768, .i32⟩
  | 125 => ⟨S16x768, .i32⟩
  | 126 => ⟨S_, .i32⟩
  | 127 => ⟨S16x768, .i32⟩
  | _ => ⟨S16x2048x768, .f32⟩

abbrev hbmTy0_4 (i : Nat) : BufTy := match i % 128 with
  | 0 => ⟨S16x768, .i32⟩
  | 1 => ⟨S16x768, .f32⟩
  | 2 => ⟨S_, .f32⟩
  | 3 => ⟨S16x768, .f32⟩
  | 4 => ⟨S16x768, .f32⟩
  | 5 => ⟨S1x1, .f32⟩
  | 6 => ⟨S16x768, .f32⟩
  | 7 => ⟨S16x768, .f32⟩
  | 8 => ⟨S16x768, .f32⟩
  | 9 => ⟨S16x768, .f32⟩
  | 10 => ⟨S16x768, .f32⟩
  | 11 => ⟨S16x768, .f32⟩
  | 12 => ⟨S16x768, .f32⟩
  | 13 => ⟨S16x768, .i1⟩
  | 14 => ⟨S16x1x768, .i1⟩
  | 15 => ⟨S16x2048x768, .i1⟩
  | 16 => ⟨S_, .f32⟩
  | 17 => ⟨S_, .f32⟩
  | 18 => ⟨S_, .f32⟩
  | 19 => ⟨S_, .f32⟩
  | 20 => ⟨S_, .f32⟩
  | 21 => ⟨S1x1x1, .f32⟩
  | 22 => ⟨S1x1x1, .f32⟩
  | 23 => ⟨S1, .i32⟩
  | 24 => ⟨S_, .i32⟩
  | 25 => ⟨S1, .i32⟩
  | 26 => ⟨S_, .i32⟩
  | 27 => ⟨S16x2048x768, .i64⟩
  | 28 => ⟨S16x2048x768, .i64⟩
  | 29 => ⟨S16x2048x768, .i64⟩
  | 30 => ⟨S_, .i64⟩
  | 31 => ⟨S16x2048x768, .i64⟩
  | 32 => ⟨S16x2048x768, .i64⟩
  | 33 => ⟨S_, .i64⟩
  | 34 => ⟨S16x2048x768, .i64⟩
  | 35 => ⟨S16x2048x768, .i64⟩
  | 36 => ⟨S_, .i64⟩
  | 37 => ⟨S16x2048x768, .i64⟩
  | 38 => ⟨S16x2048x768, .i64⟩
  | 39 => ⟨S16x2048x768, .i64⟩
  | 40 => ⟨S16x2048x768, .i64⟩
  | 41 => ⟨S_, .i64⟩
  | 42 => ⟨S16x2048x768, .i64⟩
  | 43 => ⟨S16x2048x768, .i64⟩
  | 44 => ⟨S16x2048x768, .i32⟩
  | 45 => ⟨S16x2048x768, .i32⟩
  | 46 => ⟨S_, .i32⟩
  | 47 => ⟨S_, .i32⟩
  | 48 => ⟨S_, .i32⟩
  | 49 => ⟨S16x2048x768, .i32⟩
  | 50 => ⟨S16x2048x768, .i32⟩
  | 51 => ⟨S16x2048x768, .i32⟩
  | 52 => ⟨S16x2048x768, .i32⟩
  | 53 => ⟨S16x2048x768, .i32⟩
  | 54 => ⟨S_, .i32⟩
  | 55 => ⟨S16x2048x768, .i32⟩
  | 56 => ⟨S16x2048x768, .i32⟩
  | 57 => ⟨S_, .i32⟩
  | 58 => ⟨S16x2048x768, .i32⟩
  | 59 => ⟨S16x2048x768, .i32⟩
  | 60 => ⟨S16x2048x768, .i32⟩
  | 61 => ⟨S16x2048x768, .i32⟩
  | 62 => ⟨S16x2048x768, .i32⟩
  | 63 => ⟨S_, .i32⟩
  | 64 => ⟨S16x2048x768, .i32⟩
  | 65 => ⟨S16x2048x768, .i32⟩
  | 66 => ⟨S_, .i32⟩
  | 67 => ⟨S16x2048x768, .i32⟩
  | 68 => ⟨S16x2048x768, .i32⟩
  | 69 => ⟨S16x2048x768, .i32⟩
  | 70 => ⟨S16x2048x768, .i32⟩
  | 71 => ⟨S16x2048x768, .i32⟩
  | 72 => ⟨S_, .i32⟩
  | 73 => ⟨S16x2048x768, .i32⟩
  | 74 => ⟨S16x2048x768, .i32⟩
  | 75 => ⟨S_, .i32⟩
  | 76 => ⟨S16x2048x768, .i32⟩
  | 77 => ⟨S16x2048x768, .i32⟩
  | 78 => ⟨S16x2048x768, .i32⟩
  | 79 => ⟨S16x2048x768, .i32⟩
  | 80 => ⟨S16x2048x768, .i32⟩
  | 81 => ⟨S_, .i32⟩
  | 82 => ⟨S16x2048x768, .i32⟩
  | 83 => ⟨S16x2048x768, .i32⟩
  | 84 => ⟨S_, .i32⟩
  | 85 => ⟨S16x2048x768, .i32⟩
  | 86 => ⟨S16x2048x768, .i32⟩
  | 87 => ⟨S16x2048x768, .i32⟩
  | 88 => ⟨S16x2048x768, .i32⟩
  | 89 => ⟨S16x2048x768, .i32⟩
  | 90 => ⟨S16x2048x768, .i32⟩
  | 91 => ⟨S16x2048x768, .i32⟩
  | 92 => ⟨S16x2048x768, .i32⟩
  | 93 => ⟨S_, .i32⟩
  | 94 => ⟨S16x2048x768, .i32⟩
  | 95 => ⟨S16x2048x768, .i32⟩
  | 96 => ⟨S16x2048x768, .i32⟩
  | 97 => ⟨S_, .i32⟩
  | 98 => ⟨S16x2048x768, .i32⟩
  | 99 => ⟨S16x2048x768, .i32⟩
  | 100 => ⟨S_, .i32⟩
  | 101 => ⟨S16x2048x768, .i32⟩
  | 102 => ⟨S16x2048x768, .i32⟩
  | 103 => ⟨S16x2048x768, .i32⟩
  | 104 => ⟨S16x2048x768, .i32⟩
  | 105 => ⟨S16x2048x768, .i32⟩
  | 106 => ⟨S_, .i32⟩
  | 107 => ⟨S16x2048x768, .i32⟩
  | 108 => ⟨S16x2048x768, .i32⟩
  | 109 => ⟨S_, .i32⟩
  | 110 => ⟨S16x2048x768, .i32⟩
  | 111 => ⟨S16x2048x768, .i32⟩
  | 112 => ⟨S16x2048x768, .i32⟩
  | 113 => ⟨S16x2048x768, .i32⟩
  | 114 => ⟨S16x2048x768, .i32⟩
  | 115 => ⟨S_, .i32⟩
  | 116 => ⟨S16x2048x768, .i32⟩
  | 117 => ⟨S16x2048x768, .i32⟩
  | 118 => ⟨S_, .i32⟩
  | 119 => ⟨S16x2048x768, .i32⟩
  | 120 => ⟨S16x2048x768, .i32⟩
  | 121 => ⟨S16x2048x768, .i32⟩
  | 122 => ⟨S16x2048x768, .i32⟩
  | 123 => ⟨S16x2048x768, .i32⟩
  | 124 => ⟨S_, .i32⟩
  | 125 => ⟨S16x2048x768, .i32⟩
  | 126 => ⟨S16x2048x768, .i32⟩
  | 127 => ⟨S_, .i32⟩
  | _ => ⟨S16x2048x768, .f32⟩

abbrev hbmTy0_5 (i : Nat) : BufTy := match i % 128 with
  | 0 => ⟨S16x2048x768, .i32⟩
  | 1 => ⟨S16x2048x768, .i32⟩
  | 2 => ⟨S16x2048x768, .i32⟩
  | 3 => ⟨S16x2048x768, .i32⟩
  | 4 => ⟨S16x2048x768, .i32⟩
  | 5 => ⟨S16x2048x768, .i32⟩
  | 6 => ⟨S16x2048x768, .i32⟩
  | 7 => ⟨S16x2048x768, .i32⟩
  | 8 => ⟨S_, .i32⟩
  | 9 => ⟨S16x2048x768, .i32⟩
  | 10 => ⟨S16x2048x768, .i32⟩
  | 11 => ⟨S16x2048x768, .i32⟩
  | 12 => ⟨S_, .i32⟩
  | 13 => ⟨S16x2048x768, .i32⟩
  | 14 => ⟨S16x2048x768, .i32⟩
  | 15 => ⟨S_, .i32⟩
  | 16 => ⟨S16x2048x768, .i32⟩
  | 17 => ⟨S16x2048x768, .i32⟩
  | 18 => ⟨S16x2048x768, .i32⟩
  | 19 => ⟨S16x2048x768, .i32⟩
  | 20 => ⟨S16x2048x768, .i32⟩
  | 21 => ⟨S_, .i32⟩
  | 22 => ⟨S16x2048x768, .i32⟩
  | 23 => ⟨S16x2048x768, .i32⟩
  | 24 => ⟨S_, .i32⟩
  | 25 => ⟨S16x2048x768, .i32⟩
  | 26 => ⟨S16x2048x768, .i32⟩
  | 27 => ⟨S16x2048x768, .i32⟩
  | 28 => ⟨S16x2048x768, .i32⟩
  | 29 => ⟨S16x2048x768, .i32⟩
  | 30 => ⟨S_, .i32⟩
  | 31 => ⟨S16x2048x768, .i32⟩
  | 32 => ⟨S16x2048x768, .i32⟩
  | 33 => ⟨S_, .i32⟩
  | 34 => ⟨S16x2048x768, .i32⟩
  | 35 => ⟨S16x2048x768, .i32⟩
  | 36 => ⟨S16x2048x768, .i32⟩
  | 37 => ⟨S16x2048x768, .i32⟩
  | 38 => ⟨S16x2048x768, .i32⟩
  | 39 => ⟨S_, .i32⟩
  | 40 => ⟨S16x2048x768, .i32⟩
  | 41 => ⟨S16x2048x768, .i32⟩
  | 42 => ⟨S_, .i32⟩
  | 43 => ⟨S16x2048x768, .i32⟩
  | 44 => ⟨S16x2048x768, .i32⟩
  | 45 => ⟨S16x2048x768, .i32⟩
  | 46 => ⟨S16x2048x768, .i32⟩
  | 47 => ⟨S16x2048x768, .i32⟩
  | 48 => ⟨S16x2048x768, .i32⟩
  | 49 => ⟨S16x2048x768, .i32⟩
  | 50 => ⟨S16x2048x768, .i32⟩
  | 51 => ⟨S_, .i32⟩
  | 52 => ⟨S16x2048x768, .i32⟩
  | 53 => ⟨S16x2048x768, .i32⟩
  | 54 => ⟨S16x2048x768, .i32⟩
  | 55 => ⟨S_, .i32⟩
  | 56 => ⟨S16x2048x768, .i32⟩
  | 57 => ⟨S16x2048x768, .i32⟩
  | 58 => ⟨S_, .i32⟩
  | 59 => ⟨S16x2048x768, .i32⟩
  | 60 => ⟨S16x2048x768, .i32⟩
  | 61 => ⟨S16x2048x768, .i32⟩
  | 62 => ⟨S16x2048x768, .i32⟩
  | 63 => ⟨S16x2048x768, .i32⟩
  | 64 => ⟨S_, .i32⟩
  | 65 => ⟨S16x2048x768, .i32⟩
  | 66 => ⟨S16x2048x768, .i32⟩
  | 67 => ⟨S_, .i32⟩
  | 68 => ⟨S16x2048x768, .i32⟩
  | 69 => ⟨S16x2048x768, .i32⟩
  | 70 => ⟨S16x2048x768, .i32⟩
  | 71 => ⟨S16x2048x768, .i32⟩
  | 72 => ⟨S16x2048x768, .i32⟩
  | 73 => ⟨S_, .i32⟩
  | 74 => ⟨S16x2048x768, .i32⟩
  | 75 => ⟨S16x2048x768, .i32⟩
  | 76 => ⟨S_, .i32⟩
  | 77 => ⟨S16x2048x768, .i32⟩
  | 78 => ⟨S16x2048x768, .i32⟩
  | 79 => ⟨S16x2048x768, .i32⟩
  | 80 => ⟨S16x2048x768, .i32⟩
  | 81 => ⟨S16x2048x768, .i32⟩
  | 82 => ⟨S_, .i32⟩
  | 83 => ⟨S16x2048x768, .i32⟩
  | 84 => ⟨S16x2048x768, .i32⟩
  | 85 => ⟨S_, .i32⟩
  | 86 => ⟨S16x2048x768, .i32⟩
  | 87 => ⟨S16x2048x768, .i32⟩
  | 88 => ⟨S16x2048x768, .i32⟩
  | 89 => ⟨S16x2048x768, .i32⟩
  | 90 => ⟨S16x2048x768, .i32⟩
  | 91 => ⟨S16x2048x768, .i32⟩
  | 92 => ⟨S16x2048x768, .i32⟩
  | 93 => ⟨S16x2048x768, .i32⟩
  | 94 => ⟨S_, .i32⟩
  | 95 => ⟨S16x2048x768, .i32⟩
  | 96 => ⟨S16x2048x768, .i32⟩
  | 97 => ⟨S16x2048x768, .i32⟩
  | 98 => ⟨S_, .i32⟩
  | 99 => ⟨S16x2048x768, .i32⟩
  | 100 => ⟨S16x2048x768, .i32⟩
  | 101 => ⟨S_, .i32⟩
  | 102 => ⟨S16x2048x768, .i32⟩
  | 103 => ⟨S16x2048x768, .i32⟩
  | 104 => ⟨S16x2048x768, .i32⟩
  | 105 => ⟨S16x2048x768, .i32⟩
  | 106 => ⟨S16x2048x768, .i32⟩
  | 107 => ⟨S_, .i32⟩
  | 108 => ⟨S16x2048x768, .i32⟩
  | 109 => ⟨S16x2048x768, .i32⟩
  | 110 => ⟨S_, .i32⟩
  | 111 => ⟨S16x2048x768, .i32⟩
  | 112 => ⟨S16x2048x768, .i32⟩
  | 113 => ⟨S16x2048x768, .i32⟩
  | 114 => ⟨S16x2048x768, .i32⟩
  | 115 => ⟨S16x2048x768, .i32⟩
  | 116 => ⟨S_, .i32⟩
  | 117 => ⟨S16x2048x768, .i32⟩
  | 118 => ⟨S16x2048x768, .i32⟩
  | 119 => ⟨S_, .i32⟩
  | 120 => ⟨S16x2048x768, .i32⟩
  | 121 => ⟨S16x2048x768, .i32⟩
  | 122 => ⟨S16x2048x768, .i32⟩
  | 123 => ⟨S16x2048x768, .i32⟩
  | 124 => ⟨S16x2048x768, .i32⟩
  | 125 => ⟨S_, .i32⟩
  | 126 => ⟨S16x2048x768, .i32⟩
  | 127 => ⟨S16x2048x768, .i32⟩
  | _ => ⟨S16x2048x768, .f32⟩

abbrev hbmTy0_6 (i : Nat) : BufTy := match i % 128 with
  | 0 => ⟨S_, .i32⟩
  | 1 => ⟨S16x2048x768, .i32⟩
  | 2 => ⟨S16x2048x768, .i32⟩
  | 3 => ⟨S16x2048x768, .i32⟩
  | 4 => ⟨S16x2048x768, .i32⟩
  | 5 => ⟨S16x2048x768, .i32⟩
  | 6 => ⟨S16x2048x768, .i32⟩
  | 7 => ⟨S16x2048x768, .i32⟩
  | 8 => ⟨S16x2048x768, .i32⟩
  | 9 => ⟨S_, .i32⟩
  | 10 => ⟨S16x2048x768, .i32⟩
  | 11 => ⟨S16x2048x768, .i32⟩
  | 12 => ⟨S16x2048x768, .i32⟩
  | 13 => ⟨S_, .i32⟩
  | 14 => ⟨S16x2048x768, .i32⟩
  | 15 => ⟨S16x2048x768, .i32⟩
  | 16 => ⟨S_, .i32⟩
  | 17 => ⟨S16x2048x768, .i32⟩
  | 18 => ⟨S16x2048x768, .i32⟩
  | 19 => ⟨S16x2048x768, .f32⟩
  | 20 => ⟨S_, .f32⟩
  | 21 => ⟨S16x2048x768, .f32⟩
  | 22 => ⟨S16x2048x768, .f32⟩
  | 23 => ⟨S1x1x1, .f32⟩
  | 24 => ⟨S16x2048x768, .f32⟩
  | 25 => ⟨S16x2048x768, .f32⟩
  | 26 => ⟨S16x2048x768, .f32⟩
  | 27 => ⟨S16x2048x768, .f32⟩
  | 28 => ⟨S16x2048x768, .f32⟩
  | 29 => ⟨S16x2048x768, .f32⟩
  | 30 => ⟨S16x2048x768, .f32⟩
  | 31 => ⟨S16x2048x768, .i1⟩
  | 32 => ⟨S16x2048x768, .i1⟩
  | 33 => ⟨S_, .f32⟩
  | 34 => ⟨S16x2048x768, .f32⟩
  | 35 => ⟨S16x2048x768, .f32⟩
  | 36 => ⟨S_, .f32⟩
  | 37 => ⟨S_, .f32⟩
  | 38 => ⟨S_, .f32⟩
  | 39 => ⟨S_, .f32⟩
  | 40 => ⟨S_, .f32⟩
  | 41 => ⟨S1x1x1, .f32⟩
  | 42 => ⟨S1x1x1, .f32⟩
  | 43 => ⟨S1, .i32⟩
  | 44 => ⟨S_, .i32⟩
  | 45 => ⟨S1, .i32⟩
  | 46 => ⟨S_, .i32⟩
  | 47 => ⟨S16x2048x768, .i64⟩
  | 48 => ⟨S16x2048x768, .i64⟩
  | 49 => ⟨S16x2048x768, .i64⟩
  | 50 => ⟨S_, .i64⟩
  | 51 => ⟨S16x2048x768, .i64⟩
  | 52 => ⟨S16x2048x768, .i64⟩
  | 53 => ⟨S_, .i64⟩
  | 54 => ⟨S16x2048x768, .i64⟩
  | 55 => ⟨S16x2048x768, .i64⟩
  | 56 => ⟨S_, .i64⟩
  | 57 => ⟨S16x2048x768, .i64⟩
  | 58 => ⟨S16x2048x768, .i64⟩
  | 59 => ⟨S16x2048x768, .i64⟩
  | 60 => ⟨S16x2048x768, .i64⟩
  | 61 => ⟨S_, .i64⟩
  | 62 => ⟨S16x2048x768, .i64⟩
  | 63 => ⟨S16x2048x768, .i64⟩
  | 64 => ⟨S16x2048x768, .i32⟩
  | 65 => ⟨S16x2048x768, .i32⟩
  | 66 => ⟨S_, .i32⟩
  | 67 => ⟨S_, .i32⟩
  | 68 => ⟨S_, .i32⟩
  | 69 => ⟨S16x2048x768, .i32⟩
  | 70 => ⟨S16x2048x768, .i32⟩
  | 71 => ⟨S16x2048x768, .i32⟩
  | 72 => ⟨S16x2048x768, .i32⟩
  | 73 => ⟨S16x2048x768, .i32⟩
  | 74 => ⟨S_, .i32⟩
  | 75 => ⟨S16x2048x768, .i32⟩
  | 76 => ⟨S16x2048x768, .i32⟩
  | 77 => ⟨S_, .i32⟩
  | 78 => ⟨S16x2048x768, .i32⟩
  | 79 => ⟨S16x2048x768, .i32⟩
  | 80 => ⟨S16x2048x768, .i32⟩
  | 81 => ⟨S16x2048x768, .i32⟩
  | 82 => ⟨S16x2048x768, .i32⟩
  | 83 => ⟨S_, .i32⟩
  | 84 => ⟨S16x2048x768, .i32⟩
  | 85 => ⟨S16x2048x768, .i32⟩
  | 86 => ⟨S_, .i32⟩
  | 87 => ⟨S16x2048x768, .i32⟩
  | 88 => ⟨S16x2048x768, .i32⟩
  | 89 => ⟨S16x2048x768, .i32⟩
  | 90 => ⟨S16x2048x768, .i32⟩
  | 91 => ⟨S16x2048x768, .i32⟩
  | 92 => ⟨S_, .i32⟩
  | 93 => ⟨S16x2048x768, .i32⟩
  | 94 => ⟨S16x2048x768, .i32⟩
  | 95 => ⟨S_, .i32⟩
  | 96 => ⟨S16x2048x768, .i32⟩
  | 97 => ⟨S16x2048x768, .i32⟩
  | 98 => ⟨S16x2048x768, .i32⟩
  | 99 => ⟨S16x2048x768, .i32⟩
  | 100 => ⟨S16x2048x768, .i32⟩
  | 101 => ⟨S_, .i32⟩
  | 102 => ⟨S16x2048x768, .i32⟩
  | 103 => ⟨S16x2048x768, .i32⟩
  | 104 => ⟨S_, .i32⟩
  | 105 => ⟨S16x2048x768, .i32⟩
  | 106 => ⟨S16x2048x768, .i32⟩
  | 107 => ⟨S16x2048x768, .i32⟩
  | 108 => ⟨S16x2048x768, .i32⟩
  | 109 => ⟨S16x2048x768, .i32⟩
  | 110 => ⟨S16x2048x768, .i32⟩
  | 111 => ⟨S16x2048x768, .i32⟩
  | 112 => ⟨S16x2048x768, .i32⟩
  | 113 => ⟨S_, .i32⟩
  | 114 => ⟨S16x2048x768, .i32⟩
  | 115 => ⟨S16x2048x768, .i32⟩
  | 116 => ⟨S16x2048x768, .i32⟩
  | 117 => ⟨S_, .i32⟩
  | 118 => ⟨S16x2048x768, .i32⟩
  | 119 => ⟨S16x2048x768, .i32⟩
  | 120 => ⟨S_, .i32⟩
  | 121 => ⟨S16x2048x768, .i32⟩
  | 122 => ⟨S16x2048x768, .i32⟩
  | 123 => ⟨S16x2048x768, .i32⟩
  | 124 => ⟨S16x2048x768, .i32⟩
  | 125 => ⟨S16x2048x768, .i32⟩
  | 126 => ⟨S_, .i32⟩
  | 127 => ⟨S16x2048x768, .i32⟩
  | _ => ⟨S16x2048x768, .f32⟩

abbrev hbmTy0_7 (i : Nat) : BufTy := match i % 128 with
  | 0 => ⟨S16x2048x768, .i32⟩
  | 1 => ⟨S_, .i32⟩
  | 2 => ⟨S16x2048x768, .i32⟩
  | 3 => ⟨S16x2048x768, .i32⟩
  | 4 => ⟨S16x2048x768, .i32⟩
  | 5 => ⟨S16x2048x768, .i32⟩
  | 6 => ⟨S16x2048x768, .i32⟩
  | 7 => ⟨S_, .i32⟩
  | 8 => ⟨S16x2048x768, .i32⟩
  | 9 => ⟨S16x2048x768, .i32⟩
  | 10 => ⟨S_, .i32⟩
  | 11 => ⟨S16x2048x768, .i32⟩
  | 12 => ⟨S16x2048x768, .i32⟩
  | 13 => ⟨S16x2048x768, .i32⟩
  | 14 => ⟨S16x2048x768, .i32⟩
  | 15 => ⟨S16x2048x768, .i32⟩
  | 16 => ⟨S_, .i32⟩
  | 17 => ⟨S16x2048x768, .i32⟩
  | 18 => ⟨S16x2048x768, .i32⟩
  | 19 => ⟨S_, .i32⟩
  | 20 => ⟨S16x2048x768, .i32⟩
  | 21 => ⟨S16x2048x768, .i32⟩
  | 22 => ⟨S16x2048x768, .i32⟩
  | 23 => ⟨S16x2048x768, .i32⟩
  | 24 => ⟨S16x2048x768, .i32⟩
  | 25 => ⟨S16x2048x768, .i32⟩
  | 26 => ⟨S16x2048x768, .i32⟩
  | 27 => ⟨S16x2048x768, .i32⟩
  | 28 => ⟨S_, .i32⟩
  | 29 => ⟨S16x2048x768, .i32⟩
  | 30 => ⟨S16x2048x768, .i32⟩
  | 31 => ⟨S16x2048x768, .i32⟩
  | 32 => ⟨S_, .i32⟩
  | 33 => ⟨S16x2048x768, .i32⟩
  | 34 => ⟨S16x2048x768, .i32⟩
  | 35 => ⟨S_, .i32⟩
  | 36 => ⟨S16x2048x768, .i32⟩
  | 37 => ⟨S16x2048x768, .i32⟩
  | 38 => ⟨S16x2048x768, .i32⟩
  | 39 => ⟨S16x2048x768, .i32⟩
  | 40 => ⟨S16x2048x768, .i32⟩
  | 41 => ⟨S_, .i32⟩
  | 42 => ⟨S16x2048x768, .i32⟩
  | 43 => ⟨S16x2048x768, .i32⟩
  | 44 => ⟨S_, .i32⟩
  | 45 => ⟨S16x2048x768, .i32⟩
  | 46 => ⟨S16x2048x768, .i32⟩
  | 47 => ⟨S16x2048x768, .i32⟩
  | 48 => ⟨S16x2048x768, .i32⟩
  | 49 => ⟨S16x2048x768, .i32⟩
  | 50 => ⟨S_, .i32⟩
  | 51 => ⟨S16x2048x768, .i32⟩
  | 52 => ⟨S16x2048x768, .i32⟩
  | 53 => ⟨S_, .i32⟩
  | 54 => ⟨S16x2048x768, .i32⟩
  | 55 => ⟨S16x2048x768, .i32⟩
  | 56 => ⟨S16x2048x768, .i32⟩
  | 57 => ⟨S16x2048x768, .i32⟩
  | 58 => ⟨S16x2048x768, .i32⟩
  | 59 => ⟨S_, .i32⟩
  | 60 => ⟨S16x2048x768, .i32⟩
  | 61 => ⟨S16x2048x768, .i32⟩
  | 62 => ⟨S_, .i32⟩
  | 63 => ⟨S16x2048x768, .i32⟩
  | 64 => ⟨S16x2048x768, .i32⟩
  | 65 => ⟨S16x2048x768, .i32⟩
  | 66 => ⟨S16x2048x768, .i32⟩
  | 67 => ⟨S16x2048x768, .i32⟩
  | 68 => ⟨S16x2048x768, .i32⟩
  | 69 => ⟨S16x2048x768, .i32⟩
  | 70 => ⟨S16x2048x768, .i32⟩
  | 71 => ⟨S_, .i32⟩
  | 72 => ⟨S16x2048x768, .i32⟩
  | 73 => ⟨S16x2048x768, .i32⟩
  | 74 => ⟨S16x2048x768, .i32⟩
  | 75 => ⟨S_, .i32⟩
  | 76 => ⟨S16x2048x768, .i32⟩
  | 77 => ⟨S16x2048x768, .i32⟩
  | 78 => ⟨S_, .i32⟩
  | 79 => ⟨S16x2048x768, .i32⟩
  | 80 => ⟨S16x2048x768, .i32⟩
  | 81 => ⟨S16x2048x768, .i32⟩
  | 82 => ⟨S16x2048x768, .i32⟩
  | 83 => ⟨S16x2048x768, .i32⟩
  | 84 => ⟨S_, .i32⟩
  | 85 => ⟨S16x2048x768, .i32⟩
  | 86 => ⟨S16x2048x768, .i32⟩
  | 87 => ⟨S_, .i32⟩
  | 88 => ⟨S16x2048x768, .i32⟩
  | 89 => ⟨S16x2048x768, .i32⟩
  | 90 => ⟨S16x2048x768, .i32⟩
  | 91 => ⟨S16x2048x768, .i32⟩
  | 92 => ⟨S16x2048x768, .i32⟩
  | 93 => ⟨S_, .i32⟩
  | 94 => ⟨S16x2048x768, .i32⟩
  | 95 => ⟨S16x2048x768, .i32⟩
  | 96 => ⟨S_, .i32⟩
  | 97 => ⟨S16x2048x768, .i32⟩
  | 98 => ⟨S16x2048x768, .i32⟩
  | 99 => ⟨S16x2048x768, .i32⟩
  | 100 => ⟨S16x2048x768, .i32⟩
  | 101 => ⟨S16x2048x768, .i32⟩
  | 102 => ⟨S_, .i32⟩
  | 103 => ⟨S16x2048x768, .i32⟩
  | 104 => ⟨S16x2048x768, .i32⟩
  | 105 => ⟨S_, .i32⟩
  | 106 => ⟨S16x2048x768, .i32⟩
  | 107 => ⟨S16x2048x768, .i32⟩
  | 108 => ⟨S16x2048x768, .i32⟩
  | 109 => ⟨S16x2048x768, .i32⟩
  | 110 => ⟨S16x2048x768, .i32⟩
  | 111 => ⟨S16x2048x768, .i32⟩
  | 112 => ⟨S16x2048x768, .i32⟩
  | 113 => ⟨S16x2048x768, .i32⟩
  | 114 => ⟨S_, .i32⟩
  | 115 => ⟨S16x2048x768, .i32⟩
  | 116 => ⟨S16x2048x768, .i32⟩
  | 117 => ⟨S16x2048x768, .i32⟩
  | 118 => ⟨S_, .i32⟩
  | 119 => ⟨S16x2048x768, .i32⟩
  | 120 => ⟨S16x2048x768, .i32⟩
  | 121 => ⟨S_, .i32⟩
  | 122 => ⟨S16x2048x768, .i32⟩
  | 123 => ⟨S16x2048x768, .i32⟩
  | 124 => ⟨S16x2048x768, .i32⟩
  | 125 => ⟨S16x2048x768, .i32⟩
  | 126 => ⟨S16x2048x768, .i32⟩
  | 127 => ⟨S_, .i32⟩
  | _ => ⟨S16x2048x768, .f32⟩

abbrev hbmTy0_8 (i : Nat) : BufTy := match i % 128 with
  | 0 => ⟨S16x2048x768, .i32⟩
  | 1 => ⟨S16x2048x768, .i32⟩
  | 2 => ⟨S_, .i32⟩
  | 3 => ⟨S16x2048x768, .i32⟩
  | 4 => ⟨S16x2048x768, .i32⟩
  | 5 => ⟨S16x2048x768, .i32⟩
  | 6 => ⟨S16x2048x768, .i32⟩
  | 7 => ⟨S16x2048x768, .i32⟩
  | 8 => ⟨S_, .i32⟩
  | 9 => ⟨S16x2048x768, .i32⟩
  | 10 => ⟨S16x2048x768, .i32⟩
  | 11 => ⟨S_, .i32⟩
  | 12 => ⟨S16x2048x768, .i32⟩
  | 13 => ⟨S16x2048x768, .i32⟩
  | 14 => ⟨S16x2048x768, .i32⟩
  | 15 => ⟨S16x2048x768, .i32⟩
  | 16 => ⟨S16x2048x768, .i32⟩
  | 17 => ⟨S_, .i32⟩
  | 18 => ⟨S16x2048x768, .i32⟩
  | 19 => ⟨S16x2048x768, .i32⟩
  | 20 => ⟨S_, .i32⟩
  | 21 => ⟨S16x2048x768, .i32⟩
  | 22 => ⟨S16x2048x768, .i32⟩
  | 23 => ⟨S16x2048x768, .i32⟩
  | 24 => ⟨S16x2048x768, .i32⟩
  | 25 => ⟨S16x2048x768, .i32⟩
  | 26 => ⟨S16x2048x768, .i32⟩
  | 27 => ⟨S16x2048x768, .i32⟩
  | 28 => ⟨S16x2048x768, .i32⟩
  | 29 => ⟨S_, .i32⟩
  | 30 => ⟨S16x2048x768, .i32⟩
  | 31 => ⟨S16x2048x768, .i32⟩
  | 32 => ⟨S16x2048x768, .i32⟩
  | 33 => ⟨S_, .i32⟩
  | 34 => ⟨S16x2048x768, .i32⟩
  | 35 => ⟨S16x2048x768, .i32⟩
  | 36 => ⟨S_, .i32⟩
  | 37 => ⟨S16x2048x768, .i32⟩
  | 38 => ⟨S16x2048x768, .i32⟩
  | 39 => ⟨S16x2048x768, .f32⟩
  | 40 => ⟨S_, .f32⟩
  | 41 => ⟨S16x2048x768, .f32⟩
  | 42 => ⟨S16x2048x768, .f32⟩
  | 43 => ⟨S1x1x1, .f32⟩
  | 44 => ⟨S16x2048x768, .f32⟩
  | 45 => ⟨S16x2048x768, .f32⟩
  | 46 => ⟨S16x2048x768, .f32⟩
  | 47 => ⟨S16x2048x768, .f32⟩
  | 48 => ⟨S16x2048x768, .f32⟩
  | 49 => ⟨S16x2048x768, .f32⟩
  | 50 => ⟨S16x2048x768, .f32⟩
  | 51 => ⟨S16x2048x768, .i1⟩
  | 52 => ⟨S16x2048x768, .i1⟩
  | 53 => ⟨S16x2048x768, .i1⟩
  | 54 => ⟨S16x2048x768, .i1⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S1x1x1, .f32⟩
  | 62 => ⟨S1x1x1, .f32⟩
  | 63 => ⟨S1, .i32⟩
  | 64 => ⟨S_, .i32⟩
  | 65 => ⟨S1, .i32⟩
  | 66 => ⟨S_, .i32⟩
  | 67 => ⟨S16x2048x768, .i64⟩
  | 68 => ⟨S16x2048x768, .i64⟩
  | 69 => ⟨S16x2048x768, .i64⟩
  | 70 => ⟨S_, .i64⟩
  | 71 => ⟨S16x2048x768, .i64⟩
  | 72 => ⟨S16x2048x768, .i64⟩
  | 73 => ⟨S_, .i64⟩
  | 74 => ⟨S16x2048x768, .i64⟩
  | 75 => ⟨S16x2048x768, .i64⟩
  | 76 => ⟨S_, .i64⟩
  | 77 => ⟨S16x2048x768, .i64⟩
  | 78 => ⟨S16x2048x768, .i64⟩
  | 79 => ⟨S16x2048x768, .i64⟩
  | 80 => ⟨S16x2048x768, .i64⟩
  | 81 => ⟨S_, .i64⟩
  | 82 => ⟨S16x2048x768, .i64⟩
  | 83 => ⟨S16x2048x768, .i64⟩
  | 84 => ⟨S16x2048x768, .i32⟩
  | 85 => ⟨S16x2048x768, .i32⟩
  | 86 => ⟨S_, .i32⟩
  | 87 => ⟨S_, .i32⟩
  | 88 => ⟨S_, .i32⟩
  | 89 => ⟨S16x2048x768, .i32⟩
  | 90 => ⟨S16x2048x768, .i32⟩
  | 91 => ⟨S16x2048x768, .i32⟩
  | 92 => ⟨S16x2048x768, .i32⟩
  | 93 => ⟨S16x2048x768, .i32⟩
  | 94 => ⟨S_, .i32⟩
  | 95 => ⟨S16x2048x768, .i32⟩
  | 96 => ⟨S16x2048x768, .i32⟩
  | 97 => ⟨S_, .i32⟩
  | 98 => ⟨S16x2048x768, .i32⟩
  | 99 => ⟨S16x2048x768, .i32⟩
  | 100 => ⟨S16x2048x768, .i32⟩
  | 101 => ⟨S16x2048x768, .i32⟩
  | 102 => ⟨S16x2048x768, .i32⟩
  | 103 => ⟨S_, .i32⟩
  | 104 => ⟨S16x2048x768, .i32⟩
  | 105 => ⟨S16x2048x768, .i32⟩
  | 106 => ⟨S_, .i32⟩
  | 107 => ⟨S16x2048x768, .i32⟩
  | 108 => ⟨S16x2048x768, .i32⟩
  | 109 => ⟨S16x2048x768, .i32⟩
  | 110 => ⟨S16x2048x768, .i32⟩
  | 111 => ⟨S16x2048x768, .i32⟩
  | 112 => ⟨S_, .i32⟩
  | 113 => ⟨S16x2048x768, .i32⟩
  | 114 => ⟨S16x2048x768, .i32⟩
  | 115 => ⟨S_, .i32⟩
  | 116 => ⟨S16x2048x768, .i32⟩
  | 117 => ⟨S16x2048x768, .i32⟩
  | 118 => ⟨S16x2048x768, .i32⟩
  | 119 => ⟨S16x2048x768, .i32⟩
  | 120 => ⟨S16x2048x768, .i32⟩
  | 121 => ⟨S_, .i32⟩
  | 122 => ⟨S16x2048x768, .i32⟩
  | 123 => ⟨S16x2048x768, .i32⟩
  | 124 => ⟨S_, .i32⟩
  | 125 => ⟨S16x2048x768, .i32⟩
  | 126 => ⟨S16x2048x768, .i32⟩
  | 127 => ⟨S16x2048x768, .i32⟩
  | _ => ⟨S16x2048x768, .f32⟩

abbrev hbmTy0_9 (i : Nat) : BufTy := match i % 128 with
  | 0 => ⟨S16x2048x768, .i32⟩
  | 1 => ⟨S16x2048x768, .i32⟩
  | 2 => ⟨S16x2048x768, .i32⟩
  | 3 => ⟨S16x2048x768, .i32⟩
  | 4 => ⟨S16x2048x768, .i32⟩
  | 5 => ⟨S_, .i32⟩
  | 6 => ⟨S16x2048x768, .i32⟩
  | 7 => ⟨S16x2048x768, .i32⟩
  | 8 => ⟨S16x2048x768, .i32⟩
  | 9 => ⟨S_, .i32⟩
  | 10 => ⟨S16x2048x768, .i32⟩
  | 11 => ⟨S16x2048x768, .i32⟩
  | 12 => ⟨S_, .i32⟩
  | 13 => ⟨S16x2048x768, .i32⟩
  | 14 => ⟨S16x2048x768, .i32⟩
  | 15 => ⟨S16x2048x768, .i32⟩
  | 16 => ⟨S16x2048x768, .i32⟩
  | 17 => ⟨S16x2048x768, .i32⟩
  | 18 => ⟨S_, .i32⟩
  | 19 => ⟨S16x2048x768, .i32⟩
  | 20 => ⟨S16x2048x768, .i32⟩
  | 21 => ⟨S_, .i32⟩
  | 22 => ⟨S16x2048x768, .i32⟩
  | 23 => ⟨S16x2048x768, .i32⟩
  | 24 => ⟨S16x2048x768, .i32⟩
  | 25 => ⟨S16x2048x768, .i32⟩
  | 26 => ⟨S16x2048x768, .i32⟩
  | 27 => ⟨S_, .i32⟩
  | 28 => ⟨S16x2048x768, .i32⟩
  | 29 => ⟨S16x2048x768, .i32⟩
  | 30 => ⟨S_, .i32⟩
  | 31 => ⟨S16x2048x768, .i32⟩
  | 32 => ⟨S16x2048x768, .i32⟩
  | 33 => ⟨S16x2048x768, .i32⟩
  | 34 => ⟨S16x2048x768, .i32⟩
  | 35 => ⟨S16x2048x768, .i32⟩
  | 36 => ⟨S_, .i32⟩
  | 37 => ⟨S16x2048x768, .i32⟩
  | 38 => ⟨S16x2048x768, .i32⟩
  | 39 => ⟨S_, .i32⟩
  | 40 => ⟨S16x2048x768, .i32⟩
  | 41 => ⟨S16x2048x768, .i32⟩
  | 42 => ⟨S16x2048x768, .i32⟩
  | 43 => ⟨S16x2048x768, .i32⟩
  | 44 => ⟨S16x2048x768, .i32⟩
  | 45 => ⟨S16x2048x768, .i32⟩
  | 46 => ⟨S16x2048x768, .i32⟩
  | 47 => ⟨S16x2048x768, .i32⟩
  | 48 => ⟨S_, .i32⟩
  | 49 => ⟨S16x2048x768, .i32⟩
  | 50 => ⟨S16x2048x768, .i32⟩
  | 51 => ⟨S16x2048x768, .i32⟩
  | 52 => ⟨S_, .i32⟩
  | 53 => ⟨S16x2048x768, .i32⟩
  | 54 => ⟨S16x2048x768, .i32⟩
  | 55 => ⟨S_, .i32⟩
  | 56 => ⟨S16x2048x768, .i32⟩
  | 57 => ⟨S16x2048x768, .i32⟩
  | 58 => ⟨S16x2048x768, .i32⟩
  | 59 => ⟨S16x2048x768, .i32⟩
  | 60 => ⟨S16x2048x768, .i32⟩
  | 61 => ⟨S_, .i32⟩
  | 62 => ⟨S16x2048x768, .i32⟩
  | 63 => ⟨S16x2048x768, .i32⟩
  | 64 => ⟨S_, .i32⟩
  | 65 => ⟨S16x2048x768, .i32⟩
  | 66 => ⟨S16x2048x768, .i32⟩
  | 67 => ⟨S16x2048x768, .i32⟩
  | 68 => ⟨S16x2048x768, .i32⟩
  | 69 => ⟨S16x2048x768, .i32⟩
  | 70 => ⟨S_, .i32⟩
  | 71 => ⟨S16x2048x768, .i32⟩
  | 72 => ⟨S16x2048x768, .i32⟩
  | 73 => ⟨S_, .i32⟩
  | 74 => ⟨S16x2048x768, .i32⟩
  | 75 => ⟨S16x2048x768, .i32⟩
  | 76 => ⟨S16x2048x768, .i32⟩
  | 77 => ⟨S16x2048x768, .i32⟩
  | 78 => ⟨S16x2048x768, .i32⟩
  | 79 => ⟨S_, .i32⟩
  | 80 => ⟨S16x2048x768, .i32⟩
  | 81 => ⟨S16x2048x768, .i32⟩
  | 82 => ⟨S_, .i32⟩
  | 83 => ⟨S16x2048x768, .i32⟩
  | 84 => ⟨S16x2048x768, .i32⟩
  | 85 => ⟨S16x2048x768, .i32⟩
  | 86 => ⟨S16x2048x768, .i32⟩
  | 87 => ⟨S16x2048x768, .i32⟩
  | 88 => ⟨S16x2048x768, .i32⟩
  | 89 => ⟨S16x2048x768, .i32⟩
  | 90 => ⟨S16x2048x768, .i32⟩
  | 91 => ⟨S_, .i32⟩
  | 92 => ⟨S16x2048x768, .i32⟩
  | 93 => ⟨S16x2048x768, .i32⟩
  | 94 => ⟨S16x2048x768, .i32⟩
  | 95 => ⟨S_, .i32⟩
  | 96 => ⟨S16x2048x768, .i32⟩
  | 97 => ⟨S16x2048x768, .i32⟩
  | 98 => ⟨S_, .i32⟩
  | 99 => ⟨S16x2048x768, .i32⟩
  | 100 => ⟨S16x2048x768, .i32⟩
  | 101 => ⟨S16x2048x768, .i32⟩
  | 102 => ⟨S16x2048x768, .i32⟩
  | 103 => ⟨S16x2048x768, .i32⟩
  | 104 => ⟨S_, .i32⟩
  | 105 => ⟨S16x2048x768, .i32⟩
  | 106 => ⟨S16x2048x768, .i32⟩
  | 107 => ⟨S_, .i32⟩
  | 108 => ⟨S16x2048x768, .i32⟩
  | 109 => ⟨S16x2048x768, .i32⟩
  | 110 => ⟨S16x2048x768, .i32⟩
  | 111 => ⟨S16x2048x768, .i32⟩
  | 112 => ⟨S16x2048x768, .i32⟩
  | 113 => ⟨S_, .i32⟩
  | 114 => ⟨S16x2048x768, .i32⟩
  | 115 => ⟨S16x2048x768, .i32⟩
  | 116 => ⟨S_, .i32⟩
  | 117 => ⟨S16x2048x768, .i32⟩
  | 118 => ⟨S16x2048x768, .i32⟩
  | 119 => ⟨S16x2048x768, .i32⟩
  | 120 => ⟨S16x2048x768, .i32⟩
  | 121 => ⟨S16x2048x768, .i32⟩
  | 122 => ⟨S_, .i32⟩
  | 123 => ⟨S16x2048x768, .i32⟩
  | 124 => ⟨S16x2048x768, .i32⟩
  | 125 => ⟨S_, .i32⟩
  | 126 => ⟨S16x2048x768, .i32⟩
  | 127 => ⟨S16x2048x768, .i32⟩
  | _ => ⟨S16x2048x768, .f32⟩

abbrev hbmTy0_10 (i : Nat) : BufTy := match i % 128 with
  | 0 => ⟨S16x2048x768, .i32⟩
  | 1 => ⟨S16x2048x768, .i32⟩
  | 2 => ⟨S16x2048x768, .i32⟩
  | 3 => ⟨S16x2048x768, .i32⟩
  | 4 => ⟨S16x2048x768, .i32⟩
  | 5 => ⟨S16x2048x768, .i32⟩
  | 6 => ⟨S_, .i32⟩
  | 7 => ⟨S16x2048x768, .i32⟩
  | 8 => ⟨S16x2048x768, .i32⟩
  | 9 => ⟨S16x2048x768, .i32⟩
  | 10 => ⟨S_, .i32⟩
  | 11 => ⟨S16x2048x768, .i32⟩
  | 12 => ⟨S16x2048x768, .i32⟩
  | 13 => ⟨S_, .i32⟩
  | 14 => ⟨S16x2048x768, .i32⟩
  | 15 => ⟨S16x2048x768, .i32⟩
  | 16 => ⟨S16x2048x768, .i32⟩
  | 17 => ⟨S16x2048x768, .i32⟩
  | 18 => ⟨S16x2048x768, .i32⟩
  | 19 => ⟨S_, .i32⟩
  | 20 => ⟨S16x2048x768, .i32⟩
  | 21 => ⟨S16x2048x768, .i32⟩
  | 22 => ⟨S_, .i32⟩
  | 23 => ⟨S16x2048x768, .i32⟩
  | 24 => ⟨S16x2048x768, .i32⟩
  | 25 => ⟨S16x2048x768, .i32⟩
  | 26 => ⟨S16x2048x768, .i32⟩
  | 27 => ⟨S16x2048x768, .i32⟩
  | 28 => ⟨S_, .i32⟩
  | 29 => ⟨S16x2048x768, .i32⟩
  | 30 => ⟨S16x2048x768, .i32⟩
  | 31 => ⟨S_, .i32⟩
  | 32 => ⟨S16x2048x768, .i32⟩
  | 33 => ⟨S16x2048x768, .i32⟩
  | 34 => ⟨S16x2048x768, .i32⟩
  | 35 => ⟨S16x2048x768, .i32⟩
  | 36 => ⟨S16x2048x768, .i32⟩
  | 37 => ⟨S_, .i32⟩
  | 38 => ⟨S16x2048x768, .i32⟩
  | 39 => ⟨S16x2048x768, .i32⟩
  | 40 => ⟨S_, .i32⟩
  | 41 => ⟨S16x2048x768, .i32⟩
  | 42 => ⟨S16x2048x768, .i32⟩
  | 43 => ⟨S16x2048x768, .i32⟩
  | 44 => ⟨S16x2048x768, .i32⟩
  | 45 => ⟨S16x2048x768, .i32⟩
  | 46 => ⟨S16x2048x768, .i32⟩
  | 47 => ⟨S16x2048x768, .i32⟩
  | 48 => ⟨S16x2048x768, .i32⟩
  | 49 => ⟨S_, .i32⟩
  | 50 => ⟨S16x2048x768, .i32⟩
  | 51 => ⟨S16x2048x768, .i32⟩
  | 52 => ⟨S16x2048x768, .i32⟩
  | 53 => ⟨S_, .i32⟩
  | 54 => ⟨S16x2048x768, .i32⟩
  | 55 => ⟨S16x2048x768, .i32⟩
  | 56 => ⟨S_, .i32⟩
  | 57 => ⟨S16x2048x768, .i32⟩
  | 58 => ⟨S16x2048x768, .i32⟩
  | 59 => ⟨S16x2048x768, .f32⟩
  | 60 => ⟨S_, .f32⟩
  | 61 => ⟨S16x2048x768, .f32⟩
  | 62 => ⟨S16x2048x768, .f32⟩
  | 63 => ⟨S1x1x1, .f32⟩
  | 64 => ⟨S16x2048x768, .f32⟩
  | 65 => ⟨S16x2048x768, .f32⟩
  | 66 => ⟨S16x2048x768, .f32⟩
  | 67 => ⟨S16x2048x768, .f32⟩
  | 68 => ⟨S16x2048x768, .f32⟩
  | 69 => ⟨S16x2048x768, .f32⟩
  | 70 => ⟨S16x2048x768, .f32⟩
  | 71 => ⟨S16x2048x768, .f32⟩
  | 72 => ⟨S16x2048x768, .f32⟩
  | 73 => ⟨S16x2048x768, .i32⟩
  | _ => ⟨S16x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S16x2048x768, .f32⟩

abbrev bufTy : (tb : Table) → Fin (tcTables nBuf tb) → BufTy
  | .hbm, ⟨i, _⟩ => hbmTy i
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_v13 : Ref sig .tc := ⟨.hbm, 254, rfl⟩
abbrev main_v14 : Ref sig .tc := ⟨.hbm, 255, rfl⟩
abbrev main_v15 : Ref sig .tc := ⟨.hbm, 256, rfl⟩
abbrev main_v16 : Ref sig .tc := ⟨.hbm, 257, rfl⟩
abbrev main_v17 : Ref sig .tc := ⟨.hbm, 258, rfl⟩
abbrev main_cst : Ref sig .tc := ⟨.hbm, 259, rfl⟩
abbrev main_call1_cst : Ref sig .tc := ⟨.hbm, 260, rfl⟩
abbrev main_call1_cst_0 : Ref sig .tc := ⟨.hbm, 261, rfl⟩
abbrev main_call1_call0_v0 : Ref sig .tc := ⟨.hbm, 262, rfl⟩
abbrev main_call1_call0_v1 : Ref sig .tc := ⟨.hbm, 263, rfl⟩
abbrev main_call1_call0_v2 : Ref sig .tc := ⟨.hbm, 264, rfl⟩
abbrev main_call1_call0_v3 : Ref sig .tc := ⟨.hbm, 265, rfl⟩
abbrev main_call1_call0_v4 : Ref sig .tc := ⟨.hbm, 266, rfl⟩
abbrev main_call1_call0_v5 : Ref sig .tc := ⟨.hbm, 267, rfl⟩
abbrev main_call1_call0_v6 : Ref sig .tc := ⟨.hbm, 268, rfl⟩
abbrev main_call1_call0_v7 : Ref sig .tc := ⟨.hbm, 269, rfl⟩
abbrev main_call1_call0_v8 : Ref sig .tc := ⟨.hbm, 270, rfl⟩
abbrev main_call1_call0_v9 : Ref sig .tc := ⟨.hbm, 271, rfl⟩
abbrev main_call1_call0_c : Ref sig .tc := ⟨.hbm, 272, rfl⟩
abbrev main_call1_call0_v10 : Ref sig .tc := ⟨.hbm, 273, rfl⟩
abbrev main_call1_call0_v11 : Ref sig .tc := ⟨.hbm, 274, rfl⟩
abbrev main_call1_call0_c_0 : Ref sig .tc := ⟨.hbm, 275, rfl⟩
abbrev main_call1_call0_v12 : Ref sig .tc := ⟨.hbm, 276, rfl⟩
abbrev main_call1_call0_v13 : Ref sig .tc := ⟨.hbm, 277, rfl⟩
abbrev main_call1_call0_v14 : Ref sig .tc := ⟨.hbm, 278, rfl⟩
abbrev main_call1_call0_c_1 : Ref sig .tc := ⟨.hbm, 279, rfl⟩
abbrev main_call1_call0_v15 : Ref sig .tc := ⟨.hbm, 280, rfl⟩
abbrev main_call1_call0_v16 : Ref sig .tc := ⟨.hbm, 281, rfl⟩
abbrev main_call1_call0_v17 : Ref sig .tc := ⟨.hbm, 282, rfl⟩
abbrev main_call1_call0_v18 : Ref sig .tc := ⟨.hbm, 283, rfl⟩
abbrev main_call1_call0_call0_v0 : Ref sig .tc := ⟨.hbm, 284, rfl⟩
abbrev main_call1_call0_call0_c : Ref sig .tc := ⟨.hbm, 285, rfl⟩
abbrev main_call1_call0_call0_v1 : Ref sig .tc := ⟨.hbm, 286, rfl⟩
abbrev main_call1_call0_call0_v2 : Ref sig .tc := ⟨.hbm, 287, rfl⟩
abbrev main_call1_call0_call0_v3 : Ref sig .tc := ⟨.hbm, 288, rfl⟩
abbrev main_call1_call0_call0_v4 : Ref sig .tc := ⟨.hbm, 289, rfl⟩
abbrev main_call1_call0_call0_v5 : Ref sig .tc := ⟨.hbm, 290, rfl⟩
abbrev main_call1_call0_call0_v6 : Ref sig .tc := ⟨.hbm, 291, rfl⟩
abbrev main_call1_call0_call0_c_0 : Ref sig .tc := ⟨.hbm, 292, rfl⟩
abbrev main_call1_call0_call0_v7 : Ref sig .tc := ⟨.hbm, 293, rfl⟩
abbrev main_call1_call0_call0_v8 : Ref sig .tc := ⟨.hbm, 294, rfl⟩
abbrev main_call1_call0_call0_c_1 : Ref sig .tc := ⟨.hbm, 295, rfl⟩
abbrev main_call1_call0_call0_v9 : Ref sig .tc := ⟨.hbm, 296, rfl⟩
abbrev main_call1_call0_call0_v10 : Ref sig .tc := ⟨.hbm, 297, rfl⟩
abbrev main_call1_call0_call0_v11 : Ref sig .tc := ⟨.hbm, 298, rfl⟩
abbrev main_call1_call0_call0_v12 : Ref sig .tc := ⟨.hbm, 299, rfl⟩
abbrev main_call1_call0_call0_v13 : Ref sig .tc := ⟨.hbm, 300, rfl⟩
abbrev main_call1_call0_call0_c_2 : Ref sig .tc := ⟨.hbm, 301, rfl⟩
abbrev main_call1_call0_call0_v14 : Ref sig .tc := ⟨.hbm, 302, rfl⟩
abbrev main_call1_call0_call0_v15 : Ref sig .tc := ⟨.hbm, 303, rfl⟩
abbrev main_call1_call0_call0_c_3 : Ref sig .tc := ⟨.hbm, 304, rfl⟩
abbrev main_call1_call0_call0_v16 : Ref sig .tc := ⟨.hbm, 305, rfl⟩
abbrev main_call1_call0_call0_v17 : Ref sig .tc := ⟨.hbm, 306, rfl⟩
abbrev main_call1_call0_call0_v18 : Ref sig .tc := ⟨.hbm, 307, rfl⟩
abbrev main_call1_call0_call0_v19 : Ref sig .tc := ⟨.hbm, 308, rfl⟩
abbrev main_call1_call0_call0_v20 : Ref sig .tc := ⟨.hbm, 309, rfl⟩
abbrev main_call1_call0_call0_c_4 : Ref sig .tc := ⟨.hbm, 310, rfl⟩
abbrev main_call1_call0_call0_v21 : Ref sig .tc := ⟨.hbm, 311, rfl⟩
abbrev main_call1_call0_call0_v22 : Ref sig .tc := ⟨.hbm, 312, rfl⟩
abbrev main_call1_call0_call0_c_5 : Ref sig .tc := ⟨.hbm, 313, rfl⟩
abbrev main_call1_call0_call0_v23 : Ref sig .tc := ⟨.hbm, 314, rfl⟩
abbrev main_call1_call0_call0_v24 : Ref sig .tc := ⟨.hbm, 315, rfl⟩
abbrev main_call1_call0_call0_v25 : Ref sig .tc := ⟨.hbm, 316, rfl⟩
abbrev main_call1_call0_call0_v26 : Ref sig .tc := ⟨.hbm, 317, rfl⟩
abbrev main_call1_call0_call0_v27 : Ref sig .tc := ⟨.hbm, 318, rfl⟩
abbrev main_call1_call0_call0_c_6 : Ref sig .tc := ⟨.hbm, 319, rfl⟩
abbrev main_call1_call0_call0_v28 : Ref sig .tc := ⟨.hbm, 320, rfl⟩
abbrev main_call1_call0_call0_v29 : Ref sig .tc := ⟨.hbm, 321, rfl⟩
abbrev main_call1_call0_call0_c_7 : Ref sig .tc := ⟨.hbm, 322, rfl⟩
abbrev main_call1_call0_call0_v30 : Ref sig .tc := ⟨.hbm, 323, rfl⟩
abbrev main_call1_call0_call0_v31 : Ref sig .tc := ⟨.hbm, 324, rfl⟩
abbrev main_call1_call0_call0_v32 : Ref sig .tc := ⟨.hbm, 325, rfl⟩
abbrev main_call1_call0_call0_v33 : Ref sig .tc := ⟨.hbm, 326, rfl⟩
abbrev main_call1_call0_call0_v34 : Ref sig .tc := ⟨.hbm, 327, rfl⟩
abbrev main_call1_call0_call0_v35 : Ref sig .tc := ⟨.hbm, 328, rfl⟩
abbrev main_call1_call0_call0_v36 : Ref sig .tc := ⟨.hbm, 329, rfl⟩
abbrev main_call1_call0_call0_v37 : Ref sig .tc := ⟨.hbm, 330, rfl⟩
abbrev main_call1_call0_call0_c_8 : Ref sig .tc := ⟨.hbm, 331, rfl⟩
abbrev main_call1_call0_call0_v38 : Ref sig .tc := ⟨.hbm, 332, rfl⟩
abbrev main_call1_call0_call0_v39 : Ref sig .tc := ⟨.hbm, 333, rfl⟩
abbrev main_call1_call0_call0_v40 : Ref sig .tc := ⟨.hbm, 334, rfl⟩
abbrev main_call1_call0_call0_c_9 : Ref sig .tc := ⟨.hbm, 335, rfl⟩
abbrev main_call1_call0_call0_v41 : Ref sig .tc := ⟨.hbm, 336, rfl⟩
abbrev main_call1_call0_call0_v42 : Ref sig .tc := ⟨.hbm, 337, rfl⟩
abbrev main_call1_call0_call0_c_10 : Ref sig .tc := ⟨.hbm, 338, rfl⟩
abbrev main_call1_call0_call0_v43 : Ref sig .tc := ⟨.hbm, 339, rfl⟩
abbrev main_call1_call0_call0_v44 : Ref sig .tc := ⟨.hbm, 340, rfl⟩
abbrev main_call1_call0_call0_v45 : Ref sig .tc := ⟨.hbm, 341, rfl⟩
abbrev main_call1_call0_call0_v46 : Ref sig .tc := ⟨.hbm, 342, rfl⟩
abbrev main_call1_call0_call0_v47 : Ref sig .tc := ⟨.hbm, 343, rfl⟩
abbrev main_call1_call0_call0_c_11 : Ref sig .tc := ⟨.hbm, 344, rfl⟩
abbrev main_call1_call0_call0_v48 : Ref sig .tc := ⟨.hbm, 345, rfl⟩
abbrev main_call1_call0_call0_v49 : Ref sig .tc := ⟨.hbm, 346, rfl⟩
abbrev main_call1_call0_call0_c_12 : Ref sig .tc := ⟨.hbm, 347, rfl⟩
abbrev main_call1_call0_call0_v50 : Ref sig .tc := ⟨.hbm, 348, rfl⟩
abbrev main_call1_call0_call0_v51 : Ref sig .tc := ⟨.hbm, 349, rfl⟩
abbrev main_call1_call0_call0_v52 : Ref sig .tc := ⟨.hbm, 350, rfl⟩
abbrev main_call1_call0_call0_v53 : Ref sig .tc := ⟨.hbm, 351, rfl⟩
abbrev main_call1_call0_call0_v54 : Ref sig .tc := ⟨.hbm, 352, rfl⟩
abbrev main_call1_call0_call0_c_13 : Ref sig .tc := ⟨.hbm, 353, rfl⟩
abbrev main_call1_call0_call0_v55 : Ref sig .tc := ⟨.hbm, 354, rfl⟩
abbrev main_call1_call0_call0_v56 : Ref sig .tc := ⟨.hbm, 355, rfl⟩
abbrev main_call1_call0_call0_c_14 : Ref sig .tc := ⟨.hbm, 356, rfl⟩
abbrev main_call1_call0_call0_v57 : Ref sig .tc := ⟨.hbm, 357, rfl⟩
abbrev main_call1_call0_call0_v58 : Ref sig .tc := ⟨.hbm, 358, rfl⟩
abbrev main_call1_call0_call0_v59 : Ref sig .tc := ⟨.hbm, 359, rfl⟩
abbrev main_call1_call0_call0_v60 : Ref sig .tc := ⟨.hbm, 360, rfl⟩
abbrev main_call1_call0_call0_v61 : Ref sig .tc := ⟨.hbm, 361, rfl⟩
abbrev main_call1_call0_call0_c_15 : Ref sig .tc := ⟨.hbm, 362, rfl⟩
abbrev main_call1_call0_call0_v62 : Ref sig .tc := ⟨.hbm, 363, rfl⟩
abbrev main_call1_call0_call0_v63 : Ref sig .tc := ⟨.hbm, 364, rfl⟩
abbrev main_call1_call0_call0_c_16 : Ref sig .tc := ⟨.hbm, 365, rfl⟩
abbrev main_call1_call0_call0_v64 : Ref sig .tc := ⟨.hbm, 366, rfl⟩
abbrev main_call1_call0_call0_v65 : Ref sig .tc := ⟨.hbm, 367, rfl⟩
abbrev main_call1_call0_call0_v66 : Ref sig .tc := ⟨.hbm, 368, rfl⟩
abbrev main_call1_call0_call0_v67 : Ref sig .tc := ⟨.hbm, 369, rfl⟩
abbrev main_call1_call0_call0_v68 : Ref sig .tc := ⟨.hbm, 370, rfl⟩
abbrev main_call1_call0_call0_v69 : Ref sig .tc := ⟨.hbm, 371, rfl⟩
abbrev main_call1_call0_call0_v70 : Ref sig .tc := ⟨.hbm, 372, rfl⟩
abbrev main_call1_call0_call0_v71 : Ref sig .tc := ⟨.hbm, 373, rfl⟩
abbrev main_call1_call0_call0_c_17 : Ref sig .tc := ⟨.hbm, 374, rfl⟩
abbrev main_call1_call0_call0_v72 : Ref sig .tc := ⟨.hbm, 375, rfl⟩
abbrev main_call1_call0_call0_v73 : Ref sig .tc := ⟨.hbm, 376, rfl⟩
abbrev main_call1_call0_call0_v74 : Ref sig .tc := ⟨.hbm, 377, rfl⟩
abbrev main_call1_call0_call0_c_18 : Ref sig .tc := ⟨.hbm, 378, rfl⟩
abbrev main_call1_call0_call0_v75 : Ref sig .tc := ⟨.hbm, 379, rfl⟩
abbrev main_call1_call0_call0_v76 : Ref sig .tc := ⟨.hbm, 380, rfl⟩
abbrev main_call1_call0_call0_c_19 : Ref sig .tc := ⟨.hbm, 381, rfl⟩
abbrev main_call1_call0_call0_v77 : Ref sig .tc := ⟨.hbm, 382, rfl⟩
abbrev main_call1_call0_call0_v78 : Ref sig .tc := ⟨.hbm, 383, rfl⟩
abbrev main_call1_call0_call0_v79 : Ref sig .tc := ⟨.hbm, 384, rfl⟩
abbrev main_call1_call0_call0_v80 : Ref sig .tc := ⟨.hbm, 385, rfl⟩
abbrev main_call1_call0_call0_v81 : Ref sig .tc := ⟨.hbm, 386, rfl⟩
abbrev main_call1_call0_call0_c_20 : Ref sig .tc := ⟨.hbm, 387, rfl⟩
abbrev main_call1_call0_call0_v82 : Ref sig .tc := ⟨.hbm, 388, rfl⟩
abbrev main_call1_call0_call0_v83 : Ref sig .tc := ⟨.hbm, 389, rfl⟩
abbrev main_call1_call0_call0_c_21 : Ref sig .tc := ⟨.hbm, 390, rfl⟩
abbrev main_call1_call0_call0_v84 : Ref sig .tc := ⟨.hbm, 391, rfl⟩
abbrev main_call1_call0_call0_v85 : Ref sig .tc := ⟨.hbm, 392, rfl⟩
abbrev main_call1_call0_call0_v86 : Ref sig .tc := ⟨.hbm, 393, rfl⟩
abbrev main_call1_call0_call0_v87 : Ref sig .tc := ⟨.hbm, 394, rfl⟩
abbrev main_call1_call0_call0_v88 : Ref sig .tc := ⟨.hbm, 395, rfl⟩
abbrev main_call1_call0_call0_c_22 : Ref sig .tc := ⟨.hbm, 396, rfl⟩
abbrev main_call1_call0_call0_v89 : Ref sig .tc := ⟨.hbm, 397, rfl⟩
abbrev main_call1_call0_call0_v90 : Ref sig .tc := ⟨.hbm, 398, rfl⟩
abbrev main_call1_call0_call0_c_23 : Ref sig .tc := ⟨.hbm, 399, rfl⟩
abbrev main_call1_call0_call0_v91 : Ref sig .tc := ⟨.hbm, 400, rfl⟩
abbrev main_call1_call0_call0_v92 : Ref sig .tc := ⟨.hbm, 401, rfl⟩
abbrev main_call1_call0_call0_v93 : Ref sig .tc := ⟨.hbm, 402, rfl⟩
abbrev main_call1_call0_call0_v94 : Ref sig .tc := ⟨.hbm, 403, rfl⟩
abbrev main_call1_call0_call0_v95 : Ref sig .tc := ⟨.hbm, 404, rfl⟩
abbrev main_call1_call0_call0_c_24 : Ref sig .tc := ⟨.hbm, 405, rfl⟩
abbrev main_call1_call0_call0_v96 : Ref sig .tc := ⟨.hbm, 406, rfl⟩
abbrev main_call1_call0_call0_v97 : Ref sig .tc := ⟨.hbm, 407, rfl⟩
abbrev main_call1_call0_call0_c_25 : Ref sig .tc := ⟨.hbm, 408, rfl⟩
abbrev main_call1_call0_call0_v98 : Ref sig .tc := ⟨.hbm, 409, rfl⟩
abbrev main_call1_call0_call0_v99 : Ref sig .tc := ⟨.hbm, 410, rfl⟩
abbrev main_call1_call0_call0_v100 : Ref sig .tc := ⟨.hbm, 411, rfl⟩
abbrev main_call1_call0_call0_v101 : Ref sig .tc := ⟨.hbm, 412, rfl⟩
abbrev main_call1_call0_call0_v102 : Ref sig .tc := ⟨.hbm, 413, rfl⟩
abbrev main_call1_call0_call0_v103 : Ref sig .tc := ⟨.hbm, 414, rfl⟩
abbrev main_call1_call0_call0_v104 : Ref sig .tc := ⟨.hbm, 415, rfl⟩
abbrev main_call1_call0_call0_v105 : Ref sig .tc := ⟨.hbm, 416, rfl⟩
abbrev main_call1_call0_call0_c_26 : Ref sig .tc := ⟨.hbm, 417, rfl⟩
abbrev main_call1_call0_call0_v106 : Ref sig .tc := ⟨.hbm, 418, rfl⟩
abbrev main_call1_call0_call0_v107 : Ref sig .tc := ⟨.hbm, 419, rfl⟩
abbrev main_call1_call0_call0_v108 : Ref sig .tc := ⟨.hbm, 420, rfl⟩
abbrev main_call1_call0_call0_c_27 : Ref sig .tc := ⟨.hbm, 421, rfl⟩
abbrev main_call1_call0_call0_v109 : Ref sig .tc := ⟨.hbm, 422, rfl⟩
abbrev main_call1_call0_call0_v110 : Ref sig .tc := ⟨.hbm, 423, rfl⟩
abbrev main_call1_call0_call0_c_28 : Ref sig .tc := ⟨.hbm, 424, rfl⟩
abbrev main_call1_call0_call0_v111 : Ref sig .tc := ⟨.hbm, 425, rfl⟩
abbrev main_call1_call0_call0_v112 : Ref sig .tc := ⟨.hbm, 426, rfl⟩
abbrev main_call1_call0_call0_v113 : Ref sig .tc := ⟨.hbm, 427, rfl⟩
abbrev main_call1_call0_call0_v114 : Ref sig .tc := ⟨.hbm, 428, rfl⟩
abbrev main_call1_call0_call0_v115 : Ref sig .tc := ⟨.hbm, 429, rfl⟩
abbrev main_call1_call0_call0_c_29 : Ref sig .tc := ⟨.hbm, 430, rfl⟩
abbrev main_call1_call0_call0_v116 : Ref sig .tc := ⟨.hbm, 431, rfl⟩
abbrev main_call1_call0_call0_v117 : Ref sig .tc := ⟨.hbm, 432, rfl⟩
abbrev main_call1_call0_call0_c_30 : Ref sig .tc := ⟨.hbm, 433, rfl⟩
abbrev main_call1_call0_call0_v118 : Ref sig .tc := ⟨.hbm, 434, rfl⟩
abbrev main_call1_call0_call0_v119 : Ref sig .tc := ⟨.hbm, 435, rfl⟩
abbrev main_call1_call0_call0_v120 : Ref sig .tc := ⟨.hbm, 436, rfl⟩
abbrev main_call1_call0_call0_v121 : Ref sig .tc := ⟨.hbm, 437, rfl⟩
abbrev main_call1_call0_call0_v122 : Ref sig .tc := ⟨.hbm, 438, rfl⟩
abbrev main_call1_call0_call0_c_31 : Ref sig .tc := ⟨.hbm, 439, rfl⟩
abbrev main_call1_call0_call0_v123 : Ref sig .tc := ⟨.hbm, 440, rfl⟩
abbrev main_call1_call0_call0_v124 : Ref sig .tc := ⟨.hbm, 441, rfl⟩
abbrev main_call1_call0_call0_c_32 : Ref sig .tc := ⟨.hbm, 442, rfl⟩
abbrev main_call1_call0_call0_v125 : Ref sig .tc := ⟨.hbm, 443, rfl⟩
abbrev main_call1_call0_call0_v126 : Ref sig .tc := ⟨.hbm, 444, rfl⟩
abbrev main_call1_call0_call0_v127 : Ref sig .tc := ⟨.hbm, 445, rfl⟩
abbrev main_call1_call0_call0_v128 : Ref sig .tc := ⟨.hbm, 446, rfl⟩
abbrev main_call1_call0_call0_v129 : Ref sig .tc := ⟨.hbm, 447, rfl⟩
abbrev main_call1_call0_call0_c_33 : Ref sig .tc := ⟨.hbm, 448, rfl⟩
abbrev main_call1_call0_call0_v130 : Ref sig .tc := ⟨.hbm, 449, rfl⟩
abbrev main_call1_call0_call0_v131 : Ref sig .tc := ⟨.hbm, 450, rfl⟩
abbrev main_call1_call0_call0_c_34 : Ref sig .tc := ⟨.hbm, 451, rfl⟩
abbrev main_call1_call0_call0_v132 : Ref sig .tc := ⟨.hbm, 452, rfl⟩
abbrev main_call1_call0_call0_v133 : Ref sig .tc := ⟨.hbm, 453, rfl⟩
abbrev main_call1_call0_call0_v134 : Ref sig .tc := ⟨.hbm, 454, rfl⟩
abbrev main_call1_call0_call0_v135 : Ref sig .tc := ⟨.hbm, 455, rfl⟩
abbrev main_call1_call0_call0_v136 : Ref sig .tc := ⟨.hbm, 456, rfl⟩
abbrev main_call1_call0_call0_v137 : Ref sig .tc := ⟨.hbm, 457, rfl⟩
abbrev main_call1_call0_call0_v138 : Ref sig .tc := ⟨.hbm, 458, rfl⟩
abbrev main_call1_call0_call0_v139 : Ref sig .tc := ⟨.hbm, 459, rfl⟩
abbrev main_call1_call0_call0_c_35 : Ref sig .tc := ⟨.hbm, 460, rfl⟩
abbrev main_call1_call0_call0_v140 : Ref sig .tc := ⟨.hbm, 461, rfl⟩
abbrev main_call1_call0_call0_v141 : Ref sig .tc := ⟨.hbm, 462, rfl⟩
abbrev main_call1_call0_call0_v142 : Ref sig .tc := ⟨.hbm, 463, rfl⟩
abbrev main_call1_call0_call0_c_36 : Ref sig .tc := ⟨.hbm, 464, rfl⟩
abbrev main_call1_call0_call0_v143 : Ref sig .tc := ⟨.hbm, 465, rfl⟩
abbrev main_call1_call0_call0_v144 : Ref sig .tc := ⟨.hbm, 466, rfl⟩
abbrev main_call1_call0_call0_c_37 : Ref sig .tc := ⟨.hbm, 467, rfl⟩
abbrev main_call1_call0_call0_v145 : Ref sig .tc := ⟨.hbm, 468, rfl⟩
abbrev main_call1_call0_call0_v146 : Ref sig .tc := ⟨.hbm, 469, rfl⟩
abbrev main_call1_call0_call0_v147 : Ref sig .tc := ⟨.hbm, 470, rfl⟩
abbrev main_call1_call0_call0_v148 : Ref sig .tc := ⟨.hbm, 471, rfl⟩
abbrev main_call1_call0_call0_v149 : Ref sig .tc := ⟨.hbm, 472, rfl⟩
abbrev main_call1_call0_call0_c_38 : Ref sig .tc := ⟨.hbm, 473, rfl⟩
abbrev main_call1_call0_call0_v150 : Ref sig .tc := ⟨.hbm, 474, rfl⟩
abbrev main_call1_call0_call0_v151 : Ref sig .tc := ⟨.hbm, 475, rfl⟩
abbrev main_call1_call0_call0_c_39 : Ref sig .tc := ⟨.hbm, 476, rfl⟩
abbrev main_call1_call0_call0_v152 : Ref sig .tc := ⟨.hbm, 477, rfl⟩
abbrev main_call1_call0_call0_v153 : Ref sig .tc := ⟨.hbm, 478, rfl⟩
abbrev main_call1_call0_call0_v154 : Ref sig .tc := ⟨.hbm, 479, rfl⟩
abbrev main_call1_call0_call0_v155 : Ref sig .tc := ⟨.hbm, 480, rfl⟩
abbrev main_call1_call0_call0_v156 : Ref sig .tc := ⟨.hbm, 481, rfl⟩
abbrev main_call1_call0_call0_c_40 : Ref sig .tc := ⟨.hbm, 482, rfl⟩
abbrev main_call1_call0_call0_v157 : Ref sig .tc := ⟨.hbm, 483, rfl⟩
abbrev main_call1_call0_call0_v158 : Ref sig .tc := ⟨.hbm, 484, rfl⟩
abbrev main_call1_call0_call0_c_41 : Ref sig .tc := ⟨.hbm, 485, rfl⟩
abbrev main_call1_call0_call0_v159 : Ref sig .tc := ⟨.hbm, 486, rfl⟩
abbrev main_call1_call0_call0_v160 : Ref sig .tc := ⟨.hbm, 487, rfl⟩
abbrev main_call1_call0_call0_v161 : Ref sig .tc := ⟨.hbm, 488, rfl⟩
abbrev main_call1_call0_call0_v162 : Ref sig .tc := ⟨.hbm, 489, rfl⟩
abbrev main_call1_call0_call0_v163 : Ref sig .tc := ⟨.hbm, 490, rfl⟩
abbrev main_call1_call0_call0_c_42 : Ref sig .tc := ⟨.hbm, 491, rfl⟩
abbrev main_call1_call0_call0_v164 : Ref sig .tc := ⟨.hbm, 492, rfl⟩
abbrev main_call1_call0_call0_v165 : Ref sig .tc := ⟨.hbm, 493, rfl⟩
abbrev main_call1_call0_call0_c_43 : Ref sig .tc := ⟨.hbm, 494, rfl⟩
abbrev main_call1_call0_call0_v166 : Ref sig .tc := ⟨.hbm, 495, rfl⟩
abbrev main_call1_call0_call0_v167 : Ref sig .tc := ⟨.hbm, 496, rfl⟩
abbrev main_call1_call0_call0_v168 : Ref sig .tc := ⟨.hbm, 497, rfl⟩
abbrev main_call1_call0_call0_v169 : Ref sig .tc := ⟨.hbm, 498, rfl⟩
abbrev main_call1_call0_call0_v170 : Ref sig .tc := ⟨.hbm, 499, rfl⟩
abbrev main_call1_call0_v19_0 : Ref sig .tc := ⟨.hbm, 500, rfl⟩
abbrev main_call1_call0_call0_v172 : Ref sig .tc := ⟨.hbm, 501, rfl⟩
abbrev main_call1_call0_call0_v173 : Ref sig .tc := ⟨.hbm, 502, rfl⟩
abbrev main_call1_call0_call0_c_44 : Ref sig .tc := ⟨.hbm, 503, rfl⟩
abbrev main_call1_call0_call0_v174 : Ref sig .tc := ⟨.hbm, 504, rfl⟩
abbrev main_call1_call0_v19_1 : Ref sig .tc := ⟨.hbm, 505, rfl⟩
abbrev main_call1_call0_v20 : Ref sig .tc := ⟨.hbm, 506, rfl⟩
abbrev main_call1_call0_c_2 : Ref sig .tc := ⟨.hbm, 507, rfl⟩
abbrev main_call1_call0_v21 : Ref sig .tc := ⟨.hbm, 508, rfl⟩
abbrev main_call1_call0_v22 : Ref sig .tc := ⟨.hbm, 509, rfl⟩
abbrev main_call1_call0_c_3 : Ref sig .tc := ⟨.hbm, 510, rfl⟩
abbrev main_call1_call0_v23 : Ref sig .tc := ⟨.hbm, 511, rfl⟩
abbrev main_call1_call0_v24 : Ref sig .tc := ⟨.hbm, 512, rfl⟩
abbrev main_call1_call0_v25 : Ref sig .tc := ⟨.hbm, 513, rfl⟩
abbrev main_call1_call0_cst : Ref sig .tc := ⟨.hbm, 514, rfl⟩
abbrev main_call1_call0_v26 : Ref sig .tc := ⟨.hbm, 515, rfl⟩
abbrev main_call1_call0_v27 : Ref sig .tc := ⟨.hbm, 516, rfl⟩
abbrev main_call1_call0_v28 : Ref sig .tc := ⟨.hbm, 517, rfl⟩
abbrev main_call1_call0_v29 : Ref sig .tc := ⟨.hbm, 518, rfl⟩
abbrev main_call1_call0_v30 : Ref sig .tc := ⟨.hbm, 519, rfl⟩
abbrev main_call1_call0_v31 : Ref sig .tc := ⟨.hbm, 520, rfl⟩
abbrev main_call1_call0_v32 : Ref sig .tc := ⟨.hbm, 521, rfl⟩
abbrev main_call1_call0_v33 : Ref sig .tc := ⟨.hbm, 522, rfl⟩
abbrev main_call1_v0 : Ref sig .tc := ⟨.hbm, 523, rfl⟩
abbrev main_call1_v1 : Ref sig .tc := ⟨.hbm, 524, rfl⟩
abbrev main_v18 : Ref sig .tc := ⟨.hbm, 525, rfl⟩
abbrev main_v19 : Ref sig .tc := ⟨.hbm, 526, rfl⟩
abbrev main_v20 : Ref sig .tc := ⟨.hbm, 527, rfl⟩
abbrev main_cst_2 : Ref sig .tc := ⟨.hbm, 528, rfl⟩
abbrev main_call2_cst : Ref sig .tc := ⟨.hbm, 529, rfl⟩
abbrev main_call2_cst_0 : Ref sig .tc := ⟨.hbm, 530, rfl⟩
abbrev main_call2_call0_v0 : Ref sig .tc := ⟨.hbm, 531, rfl⟩
abbrev main_call2_call0_v1 : Ref sig .tc := ⟨.hbm, 532, rfl⟩
abbrev main_call2_call0_v2 : Ref sig .tc := ⟨.hbm, 533, rfl⟩
abbrev main_call2_call0_v3 : Ref sig .tc := ⟨.hbm, 534, rfl⟩
abbrev main_call2_call0_v4 : Ref sig .tc := ⟨.hbm, 535, rfl⟩
abbrev main_call2_call0_v5 : Ref sig .tc := ⟨.hbm, 536, rfl⟩
abbrev main_call2_call0_v6 : Ref sig .tc := ⟨.hbm, 537, rfl⟩
abbrev main_call2_call0_v7 : Ref sig .tc := ⟨.hbm, 538, rfl⟩
abbrev main_call2_call0_v8 : Ref sig .tc := ⟨.hbm, 539, rfl⟩
abbrev main_call2_call0_v9 : Ref sig .tc := ⟨.hbm, 540, rfl⟩
abbrev main_call2_call0_v10 : Ref sig .tc := ⟨.hbm, 541, rfl⟩
abbrev main_call2_call0_c : Ref sig .tc := ⟨.hbm, 542, rfl⟩
abbrev main_call2_call0_v11 : Ref sig .tc := ⟨.hbm, 543, rfl⟩
abbrev main_call2_call0_v12 : Ref sig .tc := ⟨.hbm, 544, rfl⟩
abbrev main_call2_call0_c_0 : Ref sig .tc := ⟨.hbm, 545, rfl⟩
abbrev main_call2_call0_v13 : Ref sig .tc := ⟨.hbm, 546, rfl⟩
abbrev main_call2_call0_v14 : Ref sig .tc := ⟨.hbm, 547, rfl⟩
abbrev main_call2_call0_c_1 : Ref sig .tc := ⟨.hbm, 548, rfl⟩
abbrev main_call2_call0_v15 : Ref sig .tc := ⟨.hbm, 549, rfl⟩
abbrev main_call2_call0_v16 : Ref sig .tc := ⟨.hbm, 550, rfl⟩
abbrev main_call2_call0_v17 : Ref sig .tc := ⟨.hbm, 551, rfl⟩
abbrev main_call2_call0_v18 : Ref sig .tc := ⟨.hbm, 552, rfl⟩
abbrev main_call2_call0_c_2 : Ref sig .tc := ⟨.hbm, 553, rfl⟩
abbrev main_call2_call0_v19 : Ref sig .tc := ⟨.hbm, 554, rfl⟩
abbrev main_call2_call0_v20 : Ref sig .tc := ⟨.hbm, 555, rfl⟩
abbrev main_call2_call0_v21 : Ref sig .tc := ⟨.hbm, 556, rfl⟩
abbrev main_call2_call0_v22 : Ref sig .tc := ⟨.hbm, 557, rfl⟩
abbrev main_call2_call0_call0_v0 : Ref sig .tc := ⟨.hbm, 558, rfl⟩
abbrev main_call2_call0_call0_c : Ref sig .tc := ⟨.hbm, 559, rfl⟩
abbrev main_call2_call0_call0_v1 : Ref sig .tc := ⟨.hbm, 560, rfl⟩
abbrev main_call2_call0_call0_v2 : Ref sig .tc := ⟨.hbm, 561, rfl⟩
abbrev main_call2_call0_call0_v3 : Ref sig .tc := ⟨.hbm, 562, rfl⟩
abbrev main_call2_call0_call0_v4 : Ref sig .tc := ⟨.hbm, 563, rfl⟩
abbrev main_call2_call0_call0_v5 : Ref sig .tc := ⟨.hbm, 564, rfl⟩
abbrev main_call2_call0_call0_v6 : Ref sig .tc := ⟨.hbm, 565, rfl⟩
abbrev main_call2_call0_call0_c_0 : Ref sig .tc := ⟨.hbm, 566, rfl⟩
abbrev main_call2_call0_call0_v7 : Ref sig .tc := ⟨.hbm, 567, rfl⟩
abbrev main_call2_call0_call0_v8 : Ref sig .tc := ⟨.hbm, 568, rfl⟩
abbrev main_call2_call0_call0_c_1 : Ref sig .tc := ⟨.hbm, 569, rfl⟩
abbrev main_call2_call0_call0_v9 : Ref sig .tc := ⟨.hbm, 570, rfl⟩
abbrev main_call2_call0_call0_v10 : Ref sig .tc := ⟨.hbm, 571, rfl⟩
abbrev main_call2_call0_call0_v11 : Ref sig .tc := ⟨.hbm, 572, rfl⟩
abbrev main_call2_call0_call0_v12 : Ref sig .tc := ⟨.hbm, 573, rfl⟩
abbrev main_call2_call0_call0_v13 : Ref sig .tc := ⟨.hbm, 574, rfl⟩
abbrev main_call2_call0_call0_c_2 : Ref sig .tc := ⟨.hbm, 575, rfl⟩
abbrev main_call2_call0_call0_v14 : Ref sig .tc := ⟨.hbm, 576, rfl⟩
abbrev main_call2_call0_call0_v15 : Ref sig .tc := ⟨.hbm, 577, rfl⟩
abbrev main_call2_call0_call0_c_3 : Ref sig .tc := ⟨.hbm, 578, rfl⟩
abbrev main_call2_call0_call0_v16 : Ref sig .tc := ⟨.hbm, 579, rfl⟩
abbrev main_call2_call0_call0_v17 : Ref sig .tc := ⟨.hbm, 580, rfl⟩
abbrev main_call2_call0_call0_v18 : Ref sig .tc := ⟨.hbm, 581, rfl⟩
abbrev main_call2_call0_call0_v19 : Ref sig .tc := ⟨.hbm, 582, rfl⟩
abbrev main_call2_call0_call0_v20 : Ref sig .tc := ⟨.hbm, 583, rfl⟩
abbrev main_call2_call0_call0_c_4 : Ref sig .tc := ⟨.hbm, 584, rfl⟩
abbrev main_call2_call0_call0_v21 : Ref sig .tc := ⟨.hbm, 585, rfl⟩
abbrev main_call2_call0_call0_v22 : Ref sig .tc := ⟨.hbm, 586, rfl⟩
abbrev main_call2_call0_call0_c_5 : Ref sig .tc := ⟨.hbm, 587, rfl⟩
abbrev main_call2_call0_call0_v23 : Ref sig .tc := ⟨.hbm, 588, rfl⟩
abbrev main_call2_call0_call0_v24 : Ref sig .tc := ⟨.hbm, 589, rfl⟩
abbrev main_call2_call0_call0_v25 : Ref sig .tc := ⟨.hbm, 590, rfl⟩
abbrev main_call2_call0_call0_v26 : Ref sig .tc := ⟨.hbm, 591, rfl⟩
abbrev main_call2_call0_call0_v27 : Ref sig .tc := ⟨.hbm, 592, rfl⟩
abbrev main_call2_call0_call0_c_6 : Ref sig .tc := ⟨.hbm, 593, rfl⟩
abbrev main_call2_call0_call0_v28 : Ref sig .tc := ⟨.hbm, 594, rfl⟩
abbrev main_call2_call0_call0_v29 : Ref sig .tc := ⟨.hbm, 595, rfl⟩
abbrev main_call2_call0_call0_c_7 : Ref sig .tc := ⟨.hbm, 596, rfl⟩
abbrev main_call2_call0_call0_v30 : Ref sig .tc := ⟨.hbm, 597, rfl⟩
abbrev main_call2_call0_call0_v31 : Ref sig .tc := ⟨.hbm, 598, rfl⟩
abbrev main_call2_call0_call0_v32 : Ref sig .tc := ⟨.hbm, 599, rfl⟩
abbrev main_call2_call0_call0_v33 : Ref sig .tc := ⟨.hbm, 600, rfl⟩
abbrev main_call2_call0_call0_v34 : Ref sig .tc := ⟨.hbm, 601, rfl⟩
abbrev main_call2_call0_call0_v35 : Ref sig .tc := ⟨.hbm, 602, rfl⟩
abbrev main_call2_call0_call0_v36 : Ref sig .tc := ⟨.hbm, 603, rfl⟩
abbrev main_call2_call0_call0_v37 : Ref sig .tc := ⟨.hbm, 604, rfl⟩
abbrev main_call2_call0_call0_c_8 : Ref sig .tc := ⟨.hbm, 605, rfl⟩
abbrev main_call2_call0_call0_v38 : Ref sig .tc := ⟨.hbm, 606, rfl⟩
abbrev main_call2_call0_call0_v39 : Ref sig .tc := ⟨.hbm, 607, rfl⟩
abbrev main_call2_call0_call0_v40 : Ref sig .tc := ⟨.hbm, 608, rfl⟩
abbrev main_call2_call0_call0_c_9 : Ref sig .tc := ⟨.hbm, 609, rfl⟩
abbrev main_call2_call0_call0_v41 : Ref sig .tc := ⟨.hbm, 610, rfl⟩
abbrev main_call2_call0_call0_v42 : Ref sig .tc := ⟨.hbm, 611, rfl⟩
abbrev main_call2_call0_call0_c_10 : Ref sig .tc := ⟨.hbm, 612, rfl⟩
abbrev main_call2_call0_call0_v43 : Ref sig .tc := ⟨.hbm, 613, rfl⟩
abbrev main_call2_call0_call0_v44 : Ref sig .tc := ⟨.hbm, 614, rfl⟩
abbrev main_call2_call0_call0_v45 : Ref sig .tc := ⟨.hbm, 615, rfl⟩
abbrev main_call2_call0_call0_v46 : Ref sig .tc := ⟨.hbm, 616, rfl⟩
abbrev main_call2_call0_call0_v47 : Ref sig .tc := ⟨.hbm, 617, rfl⟩
abbrev main_call2_call0_call0_c_11 : Ref sig .tc := ⟨.hbm, 618, rfl⟩
abbrev main_call2_call0_call0_v48 : Ref sig .tc := ⟨.hbm, 619, rfl⟩
abbrev main_call2_call0_call0_v49 : Ref sig .tc := ⟨.hbm, 620, rfl⟩
abbrev main_call2_call0_call0_c_12 : Ref sig .tc := ⟨.hbm, 621, rfl⟩
abbrev main_call2_call0_call0_v50 : Ref sig .tc := ⟨.hbm, 622, rfl⟩
abbrev main_call2_call0_call0_v51 : Ref sig .tc := ⟨.hbm, 623, rfl⟩
abbrev main_call2_call0_call0_v52 : Ref sig .tc := ⟨.hbm, 624, rfl⟩
abbrev main_call2_call0_call0_v53 : Ref sig .tc := ⟨.hbm, 625, rfl⟩
abbrev main_call2_call0_call0_v54 : Ref sig .tc := ⟨.hbm, 626, rfl⟩
abbrev main_call2_call0_call0_c_13 : Ref sig .tc := ⟨.hbm, 627, rfl⟩
abbrev main_call2_call0_call0_v55 : Ref sig .tc := ⟨.hbm, 628, rfl⟩
abbrev main_call2_call0_call0_v56 : Ref sig .tc := ⟨.hbm, 629, rfl⟩
abbrev main_call2_call0_call0_c_14 : Ref sig .tc := ⟨.hbm, 630, rfl⟩
abbrev main_call2_call0_call0_v57 : Ref sig .tc := ⟨.hbm, 631, rfl⟩
abbrev main_call2_call0_call0_v58 : Ref sig .tc := ⟨.hbm, 632, rfl⟩
abbrev main_call2_call0_call0_v59 : Ref sig .tc := ⟨.hbm, 633, rfl⟩
abbrev main_call2_call0_call0_v60 : Ref sig .tc := ⟨.hbm, 634, rfl⟩
abbrev main_call2_call0_call0_v61 : Ref sig .tc := ⟨.hbm, 635, rfl⟩
abbrev main_call2_call0_call0_c_15 : Ref sig .tc := ⟨.hbm, 636, rfl⟩
abbrev main_call2_call0_call0_v62 : Ref sig .tc := ⟨.hbm, 637, rfl⟩
abbrev main_call2_call0_call0_v63 : Ref sig .tc := ⟨.hbm, 638, rfl⟩
abbrev main_call2_call0_call0_c_16 : Ref sig .tc := ⟨.hbm, 639, rfl⟩
abbrev main_call2_call0_call0_v64 : Ref sig .tc := ⟨.hbm, 640, rfl⟩
abbrev main_call2_call0_call0_v65 : Ref sig .tc := ⟨.hbm, 641, rfl⟩
abbrev main_call2_call0_call0_v66 : Ref sig .tc := ⟨.hbm, 642, rfl⟩
abbrev main_call2_call0_call0_v67 : Ref sig .tc := ⟨.hbm, 643, rfl⟩
abbrev main_call2_call0_call0_v68 : Ref sig .tc := ⟨.hbm, 644, rfl⟩
abbrev main_call2_call0_call0_v69 : Ref sig .tc := ⟨.hbm, 645, rfl⟩
abbrev main_call2_call0_call0_v70 : Ref sig .tc := ⟨.hbm, 646, rfl⟩
abbrev main_call2_call0_call0_v71 : Ref sig .tc := ⟨.hbm, 647, rfl⟩
abbrev main_call2_call0_call0_c_17 : Ref sig .tc := ⟨.hbm, 648, rfl⟩
abbrev main_call2_call0_call0_v72 : Ref sig .tc := ⟨.hbm, 649, rfl⟩
abbrev main_call2_call0_call0_v73 : Ref sig .tc := ⟨.hbm, 650, rfl⟩
abbrev main_call2_call0_call0_v74 : Ref sig .tc := ⟨.hbm, 651, rfl⟩
abbrev main_call2_call0_call0_c_18 : Ref sig .tc := ⟨.hbm, 652, rfl⟩
abbrev main_call2_call0_call0_v75 : Ref sig .tc := ⟨.hbm, 653, rfl⟩
abbrev main_call2_call0_call0_v76 : Ref sig .tc := ⟨.hbm, 654, rfl⟩
abbrev main_call2_call0_call0_c_19 : Ref sig .tc := ⟨.hbm, 655, rfl⟩
abbrev main_call2_call0_call0_v77 : Ref sig .tc := ⟨.hbm, 656, rfl⟩
abbrev main_call2_call0_call0_v78 : Ref sig .tc := ⟨.hbm, 657, rfl⟩
abbrev main_call2_call0_call0_v79 : Ref sig .tc := ⟨.hbm, 658, rfl⟩
abbrev main_call2_call0_call0_v80 : Ref sig .tc := ⟨.hbm, 659, rfl⟩
abbrev main_call2_call0_call0_v81 : Ref sig .tc := ⟨.hbm, 660, rfl⟩
abbrev main_call2_call0_call0_c_20 : Ref sig .tc := ⟨.hbm, 661, rfl⟩
abbrev main_call2_call0_call0_v82 : Ref sig .tc := ⟨.hbm, 662, rfl⟩
abbrev main_call2_call0_call0_v83 : Ref sig .tc := ⟨.hbm, 663, rfl⟩
abbrev main_call2_call0_call0_c_21 : Ref sig .tc := ⟨.hbm, 664, rfl⟩
abbrev main_call2_call0_call0_v84 : Ref sig .tc := ⟨.hbm, 665, rfl⟩
abbrev main_call2_call0_call0_v85 : Ref sig .tc := ⟨.hbm, 666, rfl⟩
abbrev main_call2_call0_call0_v86 : Ref sig .tc := ⟨.hbm, 667, rfl⟩
abbrev main_call2_call0_call0_v87 : Ref sig .tc := ⟨.hbm, 668, rfl⟩
abbrev main_call2_call0_call0_v88 : Ref sig .tc := ⟨.hbm, 669, rfl⟩
abbrev main_call2_call0_call0_c_22 : Ref sig .tc := ⟨.hbm, 670, rfl⟩
abbrev main_call2_call0_call0_v89 : Ref sig .tc := ⟨.hbm, 671, rfl⟩
abbrev main_call2_call0_call0_v90 : Ref sig .tc := ⟨.hbm, 672, rfl⟩
abbrev main_call2_call0_call0_c_23 : Ref sig .tc := ⟨.hbm, 673, rfl⟩
abbrev main_call2_call0_call0_v91 : Ref sig .tc := ⟨.hbm, 674, rfl⟩
abbrev main_call2_call0_call0_v92 : Ref sig .tc := ⟨.hbm, 675, rfl⟩
abbrev main_call2_call0_call0_v93 : Ref sig .tc := ⟨.hbm, 676, rfl⟩
abbrev main_call2_call0_call0_v94 : Ref sig .tc := ⟨.hbm, 677, rfl⟩
abbrev main_call2_call0_call0_v95 : Ref sig .tc := ⟨.hbm, 678, rfl⟩
abbrev main_call2_call0_call0_c_24 : Ref sig .tc := ⟨.hbm, 679, rfl⟩
abbrev main_call2_call0_call0_v96 : Ref sig .tc := ⟨.hbm, 680, rfl⟩
abbrev main_call2_call0_call0_v97 : Ref sig .tc := ⟨.hbm, 681, rfl⟩
abbrev main_call2_call0_call0_c_25 : Ref sig .tc := ⟨.hbm, 682, rfl⟩
abbrev main_call2_call0_call0_v98 : Ref sig .tc := ⟨.hbm, 683, rfl⟩
abbrev main_call2_call0_call0_v99 : Ref sig .tc := ⟨.hbm, 684, rfl⟩
abbrev main_call2_call0_call0_v100 : Ref sig .tc := ⟨.hbm, 685, rfl⟩
abbrev main_call2_call0_call0_v101 : Ref sig .tc := ⟨.hbm, 686, rfl⟩
abbrev main_call2_call0_call0_v102 : Ref sig .tc := ⟨.hbm, 687, rfl⟩
abbrev main_call2_call0_call0_v103 : Ref sig .tc := ⟨.hbm, 688, rfl⟩
abbrev main_call2_call0_call0_v104 : Ref sig .tc := ⟨.hbm, 689, rfl⟩
abbrev main_call2_call0_call0_v105 : Ref sig .tc := ⟨.hbm, 690, rfl⟩
abbrev main_call2_call0_call0_c_26 : Ref sig .tc := ⟨.hbm, 691, rfl⟩
abbrev main_call2_call0_call0_v106 : Ref sig .tc := ⟨.hbm, 692, rfl⟩
abbrev main_call2_call0_call0_v107 : Ref sig .tc := ⟨.hbm, 693, rfl⟩
abbrev main_call2_call0_call0_v108 : Ref sig .tc := ⟨.hbm, 694, rfl⟩
abbrev main_call2_call0_call0_c_27 : Ref sig .tc := ⟨.hbm, 695, rfl⟩
abbrev main_call2_call0_call0_v109 : Ref sig .tc := ⟨.hbm, 696, rfl⟩
abbrev main_call2_call0_call0_v110 : Ref sig .tc := ⟨.hbm, 697, rfl⟩
abbrev main_call2_call0_call0_c_28 : Ref sig .tc := ⟨.hbm, 698, rfl⟩
abbrev main_call2_call0_call0_v111 : Ref sig .tc := ⟨.hbm, 699, rfl⟩
abbrev main_call2_call0_call0_v112 : Ref sig .tc := ⟨.hbm, 700, rfl⟩
abbrev main_call2_call0_call0_v113 : Ref sig .tc := ⟨.hbm, 701, rfl⟩
abbrev main_call2_call0_call0_v114 : Ref sig .tc := ⟨.hbm, 702, rfl⟩
abbrev main_call2_call0_call0_v115 : Ref sig .tc := ⟨.hbm, 703, rfl⟩
abbrev main_call2_call0_call0_c_29 : Ref sig .tc := ⟨.hbm, 704, rfl⟩
abbrev main_call2_call0_call0_v116 : Ref sig .tc := ⟨.hbm, 705, rfl⟩
abbrev main_call2_call0_call0_v117 : Ref sig .tc := ⟨.hbm, 706, rfl⟩
abbrev main_call2_call0_call0_c_30 : Ref sig .tc := ⟨.hbm, 707, rfl⟩
abbrev main_call2_call0_call0_v118 : Ref sig .tc := ⟨.hbm, 708, rfl⟩
abbrev main_call2_call0_call0_v119 : Ref sig .tc := ⟨.hbm, 709, rfl⟩
abbrev main_call2_call0_call0_v120 : Ref sig .tc := ⟨.hbm, 710, rfl⟩
abbrev main_call2_call0_call0_v121 : Ref sig .tc := ⟨.hbm, 711, rfl⟩
abbrev main_call2_call0_call0_v122 : Ref sig .tc := ⟨.hbm, 712, rfl⟩
abbrev main_call2_call0_call0_c_31 : Ref sig .tc := ⟨.hbm, 713, rfl⟩
abbrev main_call2_call0_call0_v123 : Ref sig .tc := ⟨.hbm, 714, rfl⟩
abbrev main_call2_call0_call0_v124 : Ref sig .tc := ⟨.hbm, 715, rfl⟩
abbrev main_call2_call0_call0_c_32 : Ref sig .tc := ⟨.hbm, 716, rfl⟩
abbrev main_call2_call0_call0_v125 : Ref sig .tc := ⟨.hbm, 717, rfl⟩
abbrev main_call2_call0_call0_v126 : Ref sig .tc := ⟨.hbm, 718, rfl⟩
abbrev main_call2_call0_call0_v127 : Ref sig .tc := ⟨.hbm, 719, rfl⟩
abbrev main_call2_call0_call0_v128 : Ref sig .tc := ⟨.hbm, 720, rfl⟩
abbrev main_call2_call0_call0_v129 : Ref sig .tc := ⟨.hbm, 721, rfl⟩
abbrev main_call2_call0_call0_c_33 : Ref sig .tc := ⟨.hbm, 722, rfl⟩
abbrev main_call2_call0_call0_v130 : Ref sig .tc := ⟨.hbm, 723, rfl⟩
abbrev main_call2_call0_call0_v131 : Ref sig .tc := ⟨.hbm, 724, rfl⟩
abbrev main_call2_call0_call0_c_34 : Ref sig .tc := ⟨.hbm, 725, rfl⟩
abbrev main_call2_call0_call0_v132 : Ref sig .tc := ⟨.hbm, 726, rfl⟩
abbrev main_call2_call0_call0_v133 : Ref sig .tc := ⟨.hbm, 727, rfl⟩
abbrev main_call2_call0_call0_v134 : Ref sig .tc := ⟨.hbm, 728, rfl⟩
abbrev main_call2_call0_call0_v135 : Ref sig .tc := ⟨.hbm, 729, rfl⟩
abbrev main_call2_call0_call0_v136 : Ref sig .tc := ⟨.hbm, 730, rfl⟩
abbrev main_call2_call0_call0_v137 : Ref sig .tc := ⟨.hbm, 731, rfl⟩
abbrev main_call2_call0_call0_v138 : Ref sig .tc := ⟨.hbm, 732, rfl⟩
abbrev main_call2_call0_call0_v139 : Ref sig .tc := ⟨.hbm, 733, rfl⟩
abbrev main_call2_call0_call0_c_35 : Ref sig .tc := ⟨.hbm, 734, rfl⟩
abbrev main_call2_call0_call0_v140 : Ref sig .tc := ⟨.hbm, 735, rfl⟩
abbrev main_call2_call0_call0_v141 : Ref sig .tc := ⟨.hbm, 736, rfl⟩
abbrev main_call2_call0_call0_v142 : Ref sig .tc := ⟨.hbm, 737, rfl⟩
abbrev main_call2_call0_call0_c_36 : Ref sig .tc := ⟨.hbm, 738, rfl⟩
abbrev main_call2_call0_call0_v143 : Ref sig .tc := ⟨.hbm, 739, rfl⟩
abbrev main_call2_call0_call0_v144 : Ref sig .tc := ⟨.hbm, 740, rfl⟩
abbrev main_call2_call0_call0_c_37 : Ref sig .tc := ⟨.hbm, 741, rfl⟩
abbrev main_call2_call0_call0_v145 : Ref sig .tc := ⟨.hbm, 742, rfl⟩
abbrev main_call2_call0_call0_v146 : Ref sig .tc := ⟨.hbm, 743, rfl⟩
abbrev main_call2_call0_call0_v147 : Ref sig .tc := ⟨.hbm, 744, rfl⟩
abbrev main_call2_call0_call0_v148 : Ref sig .tc := ⟨.hbm, 745, rfl⟩
abbrev main_call2_call0_call0_v149 : Ref sig .tc := ⟨.hbm, 746, rfl⟩
abbrev main_call2_call0_call0_c_38 : Ref sig .tc := ⟨.hbm, 747, rfl⟩
abbrev main_call2_call0_call0_v150 : Ref sig .tc := ⟨.hbm, 748, rfl⟩
abbrev main_call2_call0_call0_v151 : Ref sig .tc := ⟨.hbm, 749, rfl⟩
abbrev main_call2_call0_call0_c_39 : Ref sig .tc := ⟨.hbm, 750, rfl⟩
abbrev main_call2_call0_call0_v152 : Ref sig .tc := ⟨.hbm, 751, rfl⟩
abbrev main_call2_call0_call0_v153 : Ref sig .tc := ⟨.hbm, 752, rfl⟩
abbrev main_call2_call0_call0_v154 : Ref sig .tc := ⟨.hbm, 753, rfl⟩
abbrev main_call2_call0_call0_v155 : Ref sig .tc := ⟨.hbm, 754, rfl⟩
abbrev main_call2_call0_call0_v156 : Ref sig .tc := ⟨.hbm, 755, rfl⟩
abbrev main_call2_call0_call0_c_40 : Ref sig .tc := ⟨.hbm, 756, rfl⟩
abbrev main_call2_call0_call0_v157 : Ref sig .tc := ⟨.hbm, 757, rfl⟩
abbrev main_call2_call0_call0_v158 : Ref sig .tc := ⟨.hbm, 758, rfl⟩
abbrev main_call2_call0_call0_c_41 : Ref sig .tc := ⟨.hbm, 759, rfl⟩
abbrev main_call2_call0_call0_v159 : Ref sig .tc := ⟨.hbm, 760, rfl⟩
abbrev main_call2_call0_call0_v160 : Ref sig .tc := ⟨.hbm, 761, rfl⟩
abbrev main_call2_call0_call0_v161 : Ref sig .tc := ⟨.hbm, 762, rfl⟩
abbrev main_call2_call0_call0_v162 : Ref sig .tc := ⟨.hbm, 763, rfl⟩
abbrev main_call2_call0_call0_v163 : Ref sig .tc := ⟨.hbm, 764, rfl⟩
abbrev main_call2_call0_call0_c_42 : Ref sig .tc := ⟨.hbm, 765, rfl⟩
abbrev main_call2_call0_call0_v164 : Ref sig .tc := ⟨.hbm, 766, rfl⟩
abbrev main_call2_call0_call0_v165 : Ref sig .tc := ⟨.hbm, 767, rfl⟩
abbrev main_call2_call0_call0_c_43 : Ref sig .tc := ⟨.hbm, 768, rfl⟩
abbrev main_call2_call0_call0_v166 : Ref sig .tc := ⟨.hbm, 769, rfl⟩
abbrev main_call2_call0_call0_v167 : Ref sig .tc := ⟨.hbm, 770, rfl⟩
abbrev main_call2_call0_call0_v168 : Ref sig .tc := ⟨.hbm, 771, rfl⟩
abbrev main_call2_call0_call0_v169 : Ref sig .tc := ⟨.hbm, 772, rfl⟩
abbrev main_call2_call0_call0_v170 : Ref sig .tc := ⟨.hbm, 773, rfl⟩
abbrev main_call2_call0_v23_0 : Ref sig .tc := ⟨.hbm, 774, rfl⟩
abbrev main_call2_call0_call0_v172 : Ref sig .tc := ⟨.hbm, 775, rfl⟩
abbrev main_call2_call0_call0_v173 : Ref sig .tc := ⟨.hbm, 776, rfl⟩
abbrev main_call2_call0_call0_c_44 : Ref sig .tc := ⟨.hbm, 777, rfl⟩
abbrev main_call2_call0_call0_v174 : Ref sig .tc := ⟨.hbm, 778, rfl⟩
abbrev main_call2_call0_v23_1 : Ref sig .tc := ⟨.hbm, 779, rfl⟩
abbrev main_call2_call0_v24 : Ref sig .tc := ⟨.hbm, 780, rfl⟩
abbrev main_call2_call0_c_3 : Ref sig .tc := ⟨.hbm, 781, rfl⟩
abbrev main_call2_call0_v25 : Ref sig .tc := ⟨.hbm, 782, rfl⟩
abbrev main_call2_call0_v26 : Ref sig .tc := ⟨.hbm, 783, rfl⟩
abbrev main_call2_call0_c_4 : Ref sig .tc := ⟨.hbm, 784, rfl⟩
abbrev main_call2_call0_v27 : Ref sig .tc := ⟨.hbm, 785, rfl⟩
abbrev main_call2_call0_v28 : Ref sig .tc := ⟨.hbm, 786, rfl⟩
abbrev main_call2_call0_v29 : Ref sig .tc := ⟨.hbm, 787, rfl⟩
abbrev main_call2_call0_cst : Ref sig .tc := ⟨.hbm, 788, rfl⟩
abbrev main_call2_call0_v30 : Ref sig .tc := ⟨.hbm, 789, rfl⟩
abbrev main_call2_call0_v31 : Ref sig .tc := ⟨.hbm, 790, rfl⟩
abbrev main_call2_call0_v32 : Ref sig .tc := ⟨.hbm, 791, rfl⟩
abbrev main_call2_call0_v33 : Ref sig .tc := ⟨.hbm, 792, rfl⟩
abbrev main_call2_call0_v34 : Ref sig .tc := ⟨.hbm, 793, rfl⟩
abbrev main_call2_call0_v35 : Ref sig .tc := ⟨.hbm, 794, rfl⟩
abbrev main_call2_call0_v36 : Ref sig .tc := ⟨.hbm, 795, rfl⟩
abbrev main_call2_call0_v37 : Ref sig .tc := ⟨.hbm, 796, rfl⟩
abbrev main_call2_v0 : Ref sig .tc := ⟨.hbm, 797, rfl⟩
abbrev main_call2_v1 : Ref sig .tc := ⟨.hbm, 798, rfl⟩
abbrev main_v21 : Ref sig .tc := ⟨.hbm, 799, rfl⟩
abbrev main_v22 : Ref sig .tc := ⟨.hbm, 800, rfl⟩
abbrev main_cst_3 : Ref sig .tc := ⟨.hbm, 801, rfl⟩
abbrev main_call3_v0 : Ref sig .tc := ⟨.hbm, 802, rfl⟩
abbrev main_v23 : Ref sig .tc := ⟨.hbm, 803, rfl⟩
abbrev main_cst_4 : Ref sig .tc := ⟨.hbm, 804, rfl⟩
abbrev main_call4_cst : Ref sig .tc := ⟨.hbm, 805, rfl⟩
abbrev main_call4_cst_0 : Ref sig .tc := ⟨.hbm, 806, rfl⟩
abbrev main_call4_call0_v0 : Ref sig .tc := ⟨.hbm, 807, rfl⟩
abbrev main_call4_call0_v1 : Ref sig .tc := ⟨.hbm, 808, rfl⟩
abbrev main_call4_call0_v2 : Ref sig .tc := ⟨.hbm, 809, rfl⟩
abbrev main_call4_call0_v3 : Ref sig .tc := ⟨.hbm, 810, rfl⟩
abbrev main_call4_call0_v4 : Ref sig .tc := ⟨.hbm, 811, rfl⟩
abbrev main_call4_call0_v5 : Ref sig .tc := ⟨.hbm, 812, rfl⟩
abbrev main_call4_call0_v6 : Ref sig .tc := ⟨.hbm, 813, rfl⟩
abbrev main_call4_call0_v7 : Ref sig .tc := ⟨.hbm, 814, rfl⟩
abbrev main_call4_call0_v8 : Ref sig .tc := ⟨.hbm, 815, rfl⟩
abbrev main_call4_call0_v9 : Ref sig .tc := ⟨.hbm, 816, rfl⟩
abbrev main_call4_call0_v10 : Ref sig .tc := ⟨.hbm, 817, rfl⟩
abbrev main_call4_call0_c : Ref sig .tc := ⟨.hbm, 818, rfl⟩
abbrev main_call4_call0_v11 : Ref sig .tc := ⟨.hbm, 819, rfl⟩
abbrev main_call4_call0_v12 : Ref sig .tc := ⟨.hbm, 820, rfl⟩
abbrev main_call4_call0_c_0 : Ref sig .tc := ⟨.hbm, 821, rfl⟩
abbrev main_call4_call0_v13 : Ref sig .tc := ⟨.hbm, 822, rfl⟩
abbrev main_call4_call0_v14 : Ref sig .tc := ⟨.hbm, 823, rfl⟩
abbrev main_call4_call0_c_1 : Ref sig .tc := ⟨.hbm, 824, rfl⟩
abbrev main_call4_call0_v15 : Ref sig .tc := ⟨.hbm, 825, rfl⟩
abbrev main_call4_call0_v16 : Ref sig .tc := ⟨.hbm, 826, rfl⟩
abbrev main_call4_call0_v17 : Ref sig .tc := ⟨.hbm, 827, rfl⟩
abbrev main_call4_call0_v18 : Ref sig .tc := ⟨.hbm, 828, rfl⟩
abbrev main_call4_call0_c_2 : Ref sig .tc := ⟨.hbm, 829, rfl⟩
abbrev main_call4_call0_v19 : Ref sig .tc := ⟨.hbm, 830, rfl⟩
abbrev main_call4_call0_v20 : Ref sig .tc := ⟨.hbm, 831, rfl⟩
abbrev main_call4_call0_v21 : Ref sig .tc := ⟨.hbm, 832, rfl⟩
abbrev main_call4_call0_v22 : Ref sig .tc := ⟨.hbm, 833, rfl⟩
abbrev main_call4_call0_call0_v0 : Ref sig .tc := ⟨.hbm, 834, rfl⟩
abbrev main_call4_call0_call0_c : Ref sig .tc := ⟨.hbm, 835, rfl⟩
abbrev main_call4_call0_call0_v1 : Ref sig .tc := ⟨.hbm, 836, rfl⟩
abbrev main_call4_call0_call0_v2 : Ref sig .tc := ⟨.hbm, 837, rfl⟩
abbrev main_call4_call0_call0_v3 : Ref sig .tc := ⟨.hbm, 838, rfl⟩
abbrev main_call4_call0_call0_v4 : Ref sig .tc := ⟨.hbm, 839, rfl⟩
abbrev main_call4_call0_call0_v5 : Ref sig .tc := ⟨.hbm, 840, rfl⟩
abbrev main_call4_call0_call0_v6 : Ref sig .tc := ⟨.hbm, 841, rfl⟩
abbrev main_call4_call0_call0_c_0 : Ref sig .tc := ⟨.hbm, 842, rfl⟩
abbrev main_call4_call0_call0_v7 : Ref sig .tc := ⟨.hbm, 843, rfl⟩
abbrev main_call4_call0_call0_v8 : Ref sig .tc := ⟨.hbm, 844, rfl⟩
abbrev main_call4_call0_call0_c_1 : Ref sig .tc := ⟨.hbm, 845, rfl⟩
abbrev main_call4_call0_call0_v9 : Ref sig .tc := ⟨.hbm, 846, rfl⟩
abbrev main_call4_call0_call0_v10 : Ref sig .tc := ⟨.hbm, 847, rfl⟩
abbrev main_call4_call0_call0_v11 : Ref sig .tc := ⟨.hbm, 848, rfl⟩
abbrev main_call4_call0_call0_v12 : Ref sig .tc := ⟨.hbm, 849, rfl⟩
abbrev main_call4_call0_call0_v13 : Ref sig .tc := ⟨.hbm, 850, rfl⟩
abbrev main_call4_call0_call0_c_2 : Ref sig .tc := ⟨.hbm, 851, rfl⟩
abbrev main_call4_call0_call0_v14 : Ref sig .tc := ⟨.hbm, 852, rfl⟩
abbrev main_call4_call0_call0_v15 : Ref sig .tc := ⟨.hbm, 853, rfl⟩
abbrev main_call4_call0_call0_c_3 : Ref sig .tc := ⟨.hbm, 854, rfl⟩
abbrev main_call4_call0_call0_v16 : Ref sig .tc := ⟨.hbm, 855, rfl⟩
abbrev main_call4_call0_call0_v17 : Ref sig .tc := ⟨.hbm, 856, rfl⟩
abbrev main_call4_call0_call0_v18 : Ref sig .tc := ⟨.hbm, 857, rfl⟩
abbrev main_call4_call0_call0_v19 : Ref sig .tc := ⟨.hbm, 858, rfl⟩
abbrev main_call4_call0_call0_v20 : Ref sig .tc := ⟨.hbm, 859, rfl⟩
abbrev main_call4_call0_call0_c_4 : Ref sig .tc := ⟨.hbm, 860, rfl⟩
abbrev main_call4_call0_call0_v21 : Ref sig .tc := ⟨.hbm, 861, rfl⟩
abbrev main_call4_call0_call0_v22 : Ref sig .tc := ⟨.hbm, 862, rfl⟩
abbrev main_call4_call0_call0_c_5 : Ref sig .tc := ⟨.hbm, 863, rfl⟩
abbrev main_call4_call0_call0_v23 : Ref sig .tc := ⟨.hbm, 864, rfl⟩
abbrev main_call4_call0_call0_v24 : Ref sig .tc := ⟨.hbm, 865, rfl⟩
abbrev main_call4_call0_call0_v25 : Ref sig .tc := ⟨.hbm, 866, rfl⟩
abbrev main_call4_call0_call0_v26 : Ref sig .tc := ⟨.hbm, 867, rfl⟩
abbrev main_call4_call0_call0_v27 : Ref sig .tc := ⟨.hbm, 868, rfl⟩
abbrev main_call4_call0_call0_c_6 : Ref sig .tc := ⟨.hbm, 869, rfl⟩
abbrev main_call4_call0_call0_v28 : Ref sig .tc := ⟨.hbm, 870, rfl⟩
abbrev main_call4_call0_call0_v29 : Ref sig .tc := ⟨.hbm, 871, rfl⟩
abbrev main_call4_call0_call0_c_7 : Ref sig .tc := ⟨.hbm, 872, rfl⟩
abbrev main_call4_call0_call0_v30 : Ref sig .tc := ⟨.hbm, 873, rfl⟩
abbrev main_call4_call0_call0_v31 : Ref sig .tc := ⟨.hbm, 874, rfl⟩
abbrev main_call4_call0_call0_v32 : Ref sig .tc := ⟨.hbm, 875, rfl⟩
abbrev main_call4_call0_call0_v33 : Ref sig .tc := ⟨.hbm, 876, rfl⟩
abbrev main_call4_call0_call0_v34 : Ref sig .tc := ⟨.hbm, 877, rfl⟩
abbrev main_call4_call0_call0_v35 : Ref sig .tc := ⟨.hbm, 878, rfl⟩
abbrev main_call4_call0_call0_v36 : Ref sig .tc := ⟨.hbm, 879, rfl⟩
abbrev main_call4_call0_call0_v37 : Ref sig .tc := ⟨.hbm, 880, rfl⟩
abbrev main_call4_call0_call0_c_8 : Ref sig .tc := ⟨.hbm, 881, rfl⟩
abbrev main_call4_call0_call0_v38 : Ref sig .tc := ⟨.hbm, 882, rfl⟩
abbrev main_call4_call0_call0_v39 : Ref sig .tc := ⟨.hbm, 883, rfl⟩
abbrev main_call4_call0_call0_v40 : Ref sig .tc := ⟨.hbm, 884, rfl⟩
abbrev main_call4_call0_call0_c_9 : Ref sig .tc := ⟨.hbm, 885, rfl⟩
abbrev main_call4_call0_call0_v41 : Ref sig .tc := ⟨.hbm, 886, rfl⟩
abbrev main_call4_call0_call0_v42 : Ref sig .tc := ⟨.hbm, 887, rfl⟩
abbrev main_call4_call0_call0_c_10 : Ref sig .tc := ⟨.hbm, 888, rfl⟩
abbrev main_call4_call0_call0_v43 : Ref sig .tc := ⟨.hbm, 889, rfl⟩
abbrev main_call4_call0_call0_v44 : Ref sig .tc := ⟨.hbm, 890, rfl⟩
abbrev main_call4_call0_call0_v45 : Ref sig .tc := ⟨.hbm, 891, rfl⟩
abbrev main_call4_call0_call0_v46 : Ref sig .tc := ⟨.hbm, 892, rfl⟩
abbrev main_call4_call0_call0_v47 : Ref sig .tc := ⟨.hbm, 893, rfl⟩
abbrev main_call4_call0_call0_c_11 : Ref sig .tc := ⟨.hbm, 894, rfl⟩
abbrev main_call4_call0_call0_v48 : Ref sig .tc := ⟨.hbm, 895, rfl⟩
abbrev main_call4_call0_call0_v49 : Ref sig .tc := ⟨.hbm, 896, rfl⟩
abbrev main_call4_call0_call0_c_12 : Ref sig .tc := ⟨.hbm, 897, rfl⟩
abbrev main_call4_call0_call0_v50 : Ref sig .tc := ⟨.hbm, 898, rfl⟩
abbrev main_call4_call0_call0_v51 : Ref sig .tc := ⟨.hbm, 899, rfl⟩
abbrev main_call4_call0_call0_v52 : Ref sig .tc := ⟨.hbm, 900, rfl⟩
abbrev main_call4_call0_call0_v53 : Ref sig .tc := ⟨.hbm, 901, rfl⟩
abbrev main_call4_call0_call0_v54 : Ref sig .tc := ⟨.hbm, 902, rfl⟩
abbrev main_call4_call0_call0_c_13 : Ref sig .tc := ⟨.hbm, 903, rfl⟩
abbrev main_call4_call0_call0_v55 : Ref sig .tc := ⟨.hbm, 904, rfl⟩
abbrev main_call4_call0_call0_v56 : Ref sig .tc := ⟨.hbm, 905, rfl⟩
abbrev main_call4_call0_call0_c_14 : Ref sig .tc := ⟨.hbm, 906, rfl⟩
abbrev main_call4_call0_call0_v57 : Ref sig .tc := ⟨.hbm, 907, rfl⟩
abbrev main_call4_call0_call0_v58 : Ref sig .tc := ⟨.hbm, 908, rfl⟩
abbrev main_call4_call0_call0_v59 : Ref sig .tc := ⟨.hbm, 909, rfl⟩
abbrev main_call4_call0_call0_v60 : Ref sig .tc := ⟨.hbm, 910, rfl⟩
abbrev main_call4_call0_call0_v61 : Ref sig .tc := ⟨.hbm, 911, rfl⟩
abbrev main_call4_call0_call0_c_15 : Ref sig .tc := ⟨.hbm, 912, rfl⟩
abbrev main_call4_call0_call0_v62 : Ref sig .tc := ⟨.hbm, 913, rfl⟩
abbrev main_call4_call0_call0_v63 : Ref sig .tc := ⟨.hbm, 914, rfl⟩
abbrev main_call4_call0_call0_c_16 : Ref sig .tc := ⟨.hbm, 915, rfl⟩
abbrev main_call4_call0_call0_v64 : Ref sig .tc := ⟨.hbm, 916, rfl⟩
abbrev main_call4_call0_call0_v65 : Ref sig .tc := ⟨.hbm, 917, rfl⟩
abbrev main_call4_call0_call0_v66 : Ref sig .tc := ⟨.hbm, 918, rfl⟩
abbrev main_call4_call0_call0_v67 : Ref sig .tc := ⟨.hbm, 919, rfl⟩
abbrev main_call4_call0_call0_v68 : Ref sig .tc := ⟨.hbm, 920, rfl⟩
abbrev main_call4_call0_call0_v69 : Ref sig .tc := ⟨.hbm, 921, rfl⟩
abbrev main_call4_call0_call0_v70 : Ref sig .tc := ⟨.hbm, 922, rfl⟩
abbrev main_call4_call0_call0_v71 : Ref sig .tc := ⟨.hbm, 923, rfl⟩
abbrev main_call4_call0_call0_c_17 : Ref sig .tc := ⟨.hbm, 924, rfl⟩
abbrev main_call4_call0_call0_v72 : Ref sig .tc := ⟨.hbm, 925, rfl⟩
abbrev main_call4_call0_call0_v73 : Ref sig .tc := ⟨.hbm, 926, rfl⟩
abbrev main_call4_call0_call0_v74 : Ref sig .tc := ⟨.hbm, 927, rfl⟩
abbrev main_call4_call0_call0_c_18 : Ref sig .tc := ⟨.hbm, 928, rfl⟩
abbrev main_call4_call0_call0_v75 : Ref sig .tc := ⟨.hbm, 929, rfl⟩
abbrev main_call4_call0_call0_v76 : Ref sig .tc := ⟨.hbm, 930, rfl⟩
abbrev main_call4_call0_call0_c_19 : Ref sig .tc := ⟨.hbm, 931, rfl⟩
abbrev main_call4_call0_call0_v77 : Ref sig .tc := ⟨.hbm, 932, rfl⟩
abbrev main_call4_call0_call0_v78 : Ref sig .tc := ⟨.hbm, 933, rfl⟩
abbrev main_call4_call0_call0_v79 : Ref sig .tc := ⟨.hbm, 934, rfl⟩
abbrev main_call4_call0_call0_v80 : Ref sig .tc := ⟨.hbm, 935, rfl⟩
abbrev main_call4_call0_call0_v81 : Ref sig .tc := ⟨.hbm, 936, rfl⟩
abbrev main_call4_call0_call0_c_20 : Ref sig .tc := ⟨.hbm, 937, rfl⟩
abbrev main_call4_call0_call0_v82 : Ref sig .tc := ⟨.hbm, 938, rfl⟩
abbrev main_call4_call0_call0_v83 : Ref sig .tc := ⟨.hbm, 939, rfl⟩
abbrev main_call4_call0_call0_c_21 : Ref sig .tc := ⟨.hbm, 940, rfl⟩
abbrev main_call4_call0_call0_v84 : Ref sig .tc := ⟨.hbm, 941, rfl⟩
abbrev main_call4_call0_call0_v85 : Ref sig .tc := ⟨.hbm, 942, rfl⟩
abbrev main_call4_call0_call0_v86 : Ref sig .tc := ⟨.hbm, 943, rfl⟩
abbrev main_call4_call0_call0_v87 : Ref sig .tc := ⟨.hbm, 944, rfl⟩
abbrev main_call4_call0_call0_v88 : Ref sig .tc := ⟨.hbm, 945, rfl⟩
abbrev main_call4_call0_call0_c_22 : Ref sig .tc := ⟨.hbm, 946, rfl⟩
abbrev main_call4_call0_call0_v89 : Ref sig .tc := ⟨.hbm, 947, rfl⟩
abbrev main_call4_call0_call0_v90 : Ref sig .tc := ⟨.hbm, 948, rfl⟩
abbrev main_call4_call0_call0_c_23 : Ref sig .tc := ⟨.hbm, 949, rfl⟩
abbrev main_call4_call0_call0_v91 : Ref sig .tc := ⟨.hbm, 950, rfl⟩
abbrev main_call4_call0_call0_v92 : Ref sig .tc := ⟨.hbm, 951, rfl⟩
abbrev main_call4_call0_call0_v93 : Ref sig .tc := ⟨.hbm, 952, rfl⟩
abbrev main_call4_call0_call0_v94 : Ref sig .tc := ⟨.hbm, 953, rfl⟩
abbrev main_call4_call0_call0_v95 : Ref sig .tc := ⟨.hbm, 954, rfl⟩
abbrev main_call4_call0_call0_c_24 : Ref sig .tc := ⟨.hbm, 955, rfl⟩
abbrev main_call4_call0_call0_v96 : Ref sig .tc := ⟨.hbm, 956, rfl⟩
abbrev main_call4_call0_call0_v97 : Ref sig .tc := ⟨.hbm, 957, rfl⟩
abbrev main_call4_call0_call0_c_25 : Ref sig .tc := ⟨.hbm, 958, rfl⟩
abbrev main_call4_call0_call0_v98 : Ref sig .tc := ⟨.hbm, 959, rfl⟩
abbrev main_call4_call0_call0_v99 : Ref sig .tc := ⟨.hbm, 960, rfl⟩
abbrev main_call4_call0_call0_v100 : Ref sig .tc := ⟨.hbm, 961, rfl⟩
abbrev main_call4_call0_call0_v101 : Ref sig .tc := ⟨.hbm, 962, rfl⟩
abbrev main_call4_call0_call0_v102 : Ref sig .tc := ⟨.hbm, 963, rfl⟩
abbrev main_call4_call0_call0_v103 : Ref sig .tc := ⟨.hbm, 964, rfl⟩
abbrev main_call4_call0_call0_v104 : Ref sig .tc := ⟨.hbm, 965, rfl⟩
abbrev main_call4_call0_call0_v105 : Ref sig .tc := ⟨.hbm, 966, rfl⟩
abbrev main_call4_call0_call0_c_26 : Ref sig .tc := ⟨.hbm, 967, rfl⟩
abbrev main_call4_call0_call0_v106 : Ref sig .tc := ⟨.hbm, 968, rfl⟩
abbrev main_call4_call0_call0_v107 : Ref sig .tc := ⟨.hbm, 969, rfl⟩
abbrev main_call4_call0_call0_v108 : Ref sig .tc := ⟨.hbm, 970, rfl⟩
abbrev main_call4_call0_call0_c_27 : Ref sig .tc := ⟨.hbm, 971, rfl⟩
abbrev main_call4_call0_call0_v109 : Ref sig .tc := ⟨.hbm, 972, rfl⟩
abbrev main_call4_call0_call0_v110 : Ref sig .tc := ⟨.hbm, 973, rfl⟩
abbrev main_call4_call0_call0_c_28 : Ref sig .tc := ⟨.hbm, 974, rfl⟩
abbrev main_call4_call0_call0_v111 : Ref sig .tc := ⟨.hbm, 975, rfl⟩
abbrev main_call4_call0_call0_v112 : Ref sig .tc := ⟨.hbm, 976, rfl⟩
abbrev main_call4_call0_call0_v113 : Ref sig .tc := ⟨.hbm, 977, rfl⟩
abbrev main_call4_call0_call0_v114 : Ref sig .tc := ⟨.hbm, 978, rfl⟩
abbrev main_call4_call0_call0_v115 : Ref sig .tc := ⟨.hbm, 979, rfl⟩
abbrev main_call4_call0_call0_c_29 : Ref sig .tc := ⟨.hbm, 980, rfl⟩
abbrev main_call4_call0_call0_v116 : Ref sig .tc := ⟨.hbm, 981, rfl⟩
abbrev main_call4_call0_call0_v117 : Ref sig .tc := ⟨.hbm, 982, rfl⟩
abbrev main_call4_call0_call0_c_30 : Ref sig .tc := ⟨.hbm, 983, rfl⟩
abbrev main_call4_call0_call0_v118 : Ref sig .tc := ⟨.hbm, 984, rfl⟩
abbrev main_call4_call0_call0_v119 : Ref sig .tc := ⟨.hbm, 985, rfl⟩
abbrev main_call4_call0_call0_v120 : Ref sig .tc := ⟨.hbm, 986, rfl⟩
abbrev main_call4_call0_call0_v121 : Ref sig .tc := ⟨.hbm, 987, rfl⟩
abbrev main_call4_call0_call0_v122 : Ref sig .tc := ⟨.hbm, 988, rfl⟩
abbrev main_call4_call0_call0_c_31 : Ref sig .tc := ⟨.hbm, 989, rfl⟩
abbrev main_call4_call0_call0_v123 : Ref sig .tc := ⟨.hbm, 990, rfl⟩
abbrev main_call4_call0_call0_v124 : Ref sig .tc := ⟨.hbm, 991, rfl⟩
abbrev main_call4_call0_call0_c_32 : Ref sig .tc := ⟨.hbm, 992, rfl⟩
abbrev main_call4_call0_call0_v125 : Ref sig .tc := ⟨.hbm, 993, rfl⟩
abbrev main_call4_call0_call0_v126 : Ref sig .tc := ⟨.hbm, 994, rfl⟩
abbrev main_call4_call0_call0_v127 : Ref sig .tc := ⟨.hbm, 995, rfl⟩
abbrev main_call4_call0_call0_v128 : Ref sig .tc := ⟨.hbm, 996, rfl⟩
abbrev main_call4_call0_call0_v129 : Ref sig .tc := ⟨.hbm, 997, rfl⟩
abbrev main_call4_call0_call0_c_33 : Ref sig .tc := ⟨.hbm, 998, rfl⟩
abbrev main_call4_call0_call0_v130 : Ref sig .tc := ⟨.hbm, 999, rfl⟩
abbrev main_call4_call0_call0_v131 : Ref sig .tc := ⟨.hbm, 1000, rfl⟩
abbrev main_call4_call0_call0_c_34 : Ref sig .tc := ⟨.hbm, 1001, rfl⟩
abbrev main_call4_call0_call0_v132 : Ref sig .tc := ⟨.hbm, 1002, rfl⟩
abbrev main_call4_call0_call0_v133 : Ref sig .tc := ⟨.hbm, 1003, rfl⟩
abbrev main_call4_call0_call0_v134 : Ref sig .tc := ⟨.hbm, 1004, rfl⟩
abbrev main_call4_call0_call0_v135 : Ref sig .tc := ⟨.hbm, 1005, rfl⟩
abbrev main_call4_call0_call0_v136 : Ref sig .tc := ⟨.hbm, 1006, rfl⟩
abbrev main_call4_call0_call0_v137 : Ref sig .tc := ⟨.hbm, 1007, rfl⟩
abbrev main_call4_call0_call0_v138 : Ref sig .tc := ⟨.hbm, 1008, rfl⟩
abbrev main_call4_call0_call0_v139 : Ref sig .tc := ⟨.hbm, 1009, rfl⟩
abbrev main_call4_call0_call0_c_35 : Ref sig .tc := ⟨.hbm, 1010, rfl⟩
abbrev main_call4_call0_call0_v140 : Ref sig .tc := ⟨.hbm, 1011, rfl⟩
abbrev main_call4_call0_call0_v141 : Ref sig .tc := ⟨.hbm, 1012, rfl⟩
abbrev main_call4_call0_call0_v142 : Ref sig .tc := ⟨.hbm, 1013, rfl⟩
abbrev main_call4_call0_call0_c_36 : Ref sig .tc := ⟨.hbm, 1014, rfl⟩
abbrev main_call4_call0_call0_v143 : Ref sig .tc := ⟨.hbm, 1015, rfl⟩
abbrev main_call4_call0_call0_v144 : Ref sig .tc := ⟨.hbm, 1016, rfl⟩
abbrev main_call4_call0_call0_c_37 : Ref sig .tc := ⟨.hbm, 1017, rfl⟩
abbrev main_call4_call0_call0_v145 : Ref sig .tc := ⟨.hbm, 1018, rfl⟩
abbrev main_call4_call0_call0_v146 : Ref sig .tc := ⟨.hbm, 1019, rfl⟩
abbrev main_call4_call0_call0_v147 : Ref sig .tc := ⟨.hbm, 1020, rfl⟩
abbrev main_call4_call0_call0_v148 : Ref sig .tc := ⟨.hbm, 1021, rfl⟩
abbrev main_call4_call0_call0_v149 : Ref sig .tc := ⟨.hbm, 1022, rfl⟩
abbrev main_call4_call0_call0_c_38 : Ref sig .tc := ⟨.hbm, 1023, rfl⟩
abbrev main_call4_call0_call0_v150 : Ref sig .tc := ⟨.hbm, 1024, rfl⟩
abbrev main_call4_call0_call0_v151 : Ref sig .tc := ⟨.hbm, 1025, rfl⟩
abbrev main_call4_call0_call0_c_39 : Ref sig .tc := ⟨.hbm, 1026, rfl⟩
abbrev main_call4_call0_call0_v152 : Ref sig .tc := ⟨.hbm, 1027, rfl⟩
abbrev main_call4_call0_call0_v153 : Ref sig .tc := ⟨.hbm, 1028, rfl⟩
abbrev main_call4_call0_call0_v154 : Ref sig .tc := ⟨.hbm, 1029, rfl⟩
abbrev main_call4_call0_call0_v155 : Ref sig .tc := ⟨.hbm, 1030, rfl⟩
abbrev main_call4_call0_call0_v156 : Ref sig .tc := ⟨.hbm, 1031, rfl⟩
abbrev main_call4_call0_call0_c_40 : Ref sig .tc := ⟨.hbm, 1032, rfl⟩
abbrev main_call4_call0_call0_v157 : Ref sig .tc := ⟨.hbm, 1033, rfl⟩
abbrev main_call4_call0_call0_v158 : Ref sig .tc := ⟨.hbm, 1034, rfl⟩
abbrev main_call4_call0_call0_c_41 : Ref sig .tc := ⟨.hbm, 1035, rfl⟩
abbrev main_call4_call0_call0_v159 : Ref sig .tc := ⟨.hbm, 1036, rfl⟩
abbrev main_call4_call0_call0_v160 : Ref sig .tc := ⟨.hbm, 1037, rfl⟩
abbrev main_call4_call0_call0_v161 : Ref sig .tc := ⟨.hbm, 1038, rfl⟩
abbrev main_call4_call0_call0_v162 : Ref sig .tc := ⟨.hbm, 1039, rfl⟩
abbrev main_call4_call0_call0_v163 : Ref sig .tc := ⟨.hbm, 1040, rfl⟩
abbrev main_call4_call0_call0_c_42 : Ref sig .tc := ⟨.hbm, 1041, rfl⟩
abbrev main_call4_call0_call0_v164 : Ref sig .tc := ⟨.hbm, 1042, rfl⟩
abbrev main_call4_call0_call0_v165 : Ref sig .tc := ⟨.hbm, 1043, rfl⟩
abbrev main_call4_call0_call0_c_43 : Ref sig .tc := ⟨.hbm, 1044, rfl⟩
abbrev main_call4_call0_call0_v166 : Ref sig .tc := ⟨.hbm, 1045, rfl⟩
abbrev main_call4_call0_call0_v167 : Ref sig .tc := ⟨.hbm, 1046, rfl⟩
abbrev main_call4_call0_call0_v168 : Ref sig .tc := ⟨.hbm, 1047, rfl⟩
abbrev main_call4_call0_call0_v169 : Ref sig .tc := ⟨.hbm, 1048, rfl⟩
abbrev main_call4_call0_call0_v170 : Ref sig .tc := ⟨.hbm, 1049, rfl⟩
abbrev main_call4_call0_v23_0 : Ref sig .tc := ⟨.hbm, 1050, rfl⟩
abbrev main_call4_call0_call0_v172 : Ref sig .tc := ⟨.hbm, 1051, rfl⟩
abbrev main_call4_call0_call0_v173 : Ref sig .tc := ⟨.hbm, 1052, rfl⟩
abbrev main_call4_call0_call0_c_44 : Ref sig .tc := ⟨.hbm, 1053, rfl⟩
abbrev main_call4_call0_call0_v174 : Ref sig .tc := ⟨.hbm, 1054, rfl⟩
abbrev main_call4_call0_v23_1 : Ref sig .tc := ⟨.hbm, 1055, rfl⟩
abbrev main_call4_call0_v24 : Ref sig .tc := ⟨.hbm, 1056, rfl⟩
abbrev main_call4_call0_c_3 : Ref sig .tc := ⟨.hbm, 1057, rfl⟩
abbrev main_call4_call0_v25 : Ref sig .tc := ⟨.hbm, 1058, rfl⟩
abbrev main_call4_call0_v26 : Ref sig .tc := ⟨.hbm, 1059, rfl⟩
abbrev main_call4_call0_c_4 : Ref sig .tc := ⟨.hbm, 1060, rfl⟩
abbrev main_call4_call0_v27 : Ref sig .tc := ⟨.hbm, 1061, rfl⟩
abbrev main_call4_call0_v28 : Ref sig .tc := ⟨.hbm, 1062, rfl⟩
abbrev main_call4_call0_v29 : Ref sig .tc := ⟨.hbm, 1063, rfl⟩
abbrev main_call4_call0_cst : Ref sig .tc := ⟨.hbm, 1064, rfl⟩
abbrev main_call4_call0_v30 : Ref sig .tc := ⟨.hbm, 1065, rfl⟩
abbrev main_call4_call0_v31 : Ref sig .tc := ⟨.hbm, 1066, rfl⟩
abbrev main_call4_call0_v32 : Ref sig .tc := ⟨.hbm, 1067, rfl⟩
abbrev main_call4_call0_v33 : Ref sig .tc := ⟨.hbm, 1068, rfl⟩
abbrev main_call4_call0_v34 : Ref sig .tc := ⟨.hbm, 1069, rfl⟩
abbrev main_call4_call0_v35 : Ref sig .tc := ⟨.hbm, 1070, rfl⟩
abbrev main_call4_call0_v36 : Ref sig .tc := ⟨.hbm, 1071, rfl⟩
abbrev main_call4_call0_v37 : Ref sig .tc := ⟨.hbm, 1072, rfl⟩
abbrev main_call4_v0 : Ref sig .tc := ⟨.hbm, 1073, rfl⟩
abbrev main_call4_v1 : Ref sig .tc := ⟨.hbm, 1074, rfl⟩
abbrev main_v24 : Ref sig .tc := ⟨.hbm, 1075, rfl⟩
abbrev main_v25 : Ref sig .tc := ⟨.hbm, 1076, rfl⟩
abbrev main_v26 : Ref sig .tc := ⟨.hbm, 1077, rfl⟩
abbrev main_v27 : Ref sig .tc := ⟨.hbm, 1078, rfl⟩
abbrev main_cst_5 : Ref sig .tc := ⟨.hbm, 1079, rfl⟩
abbrev main_v28 : Ref sig .tc := ⟨.hbm, 1080, rfl⟩
abbrev main_cst_6 : Ref sig .tc := ⟨.hbm, 1081, rfl⟩
abbrev main_cst_7 : Ref sig .tc := ⟨.hbm, 1082, rfl⟩
abbrev main_call5_v0 : Ref sig .tc := ⟨.hbm, 1083, rfl⟩
abbrev main_call5_v1 : Ref sig .tc := ⟨.hbm, 1084, rfl⟩
abbrev main_call5_v2 : Ref sig .tc := ⟨.hbm, 1085, rfl⟩
abbrev main_call5_v3 : Ref sig .tc := ⟨.hbm, 1086, rfl⟩
abbrev main_call5_v4 : Ref sig .tc := ⟨.hbm, 1087, rfl⟩
abbrev main_call5_v5 : Ref sig .tc := ⟨.hbm, 1088, rfl⟩
abbrev main_call5_v6 : Ref sig .tc := ⟨.hbm, 1089, rfl⟩
abbrev main_call5_v7 : Ref sig .tc := ⟨.hbm, 1090, rfl⟩
abbrev main_call5_v8 : Ref sig .tc := ⟨.hbm, 1091, rfl⟩
abbrev main_call5_v9 : Ref sig .tc := ⟨.hbm, 1092, rfl⟩
abbrev main_call5_v10 : Ref sig .tc := ⟨.hbm, 1093, rfl⟩
abbrev main_call5_c : Ref sig .tc := ⟨.hbm, 1094, rfl⟩
abbrev main_call5_v11 : Ref sig .tc := ⟨.hbm, 1095, rfl⟩
abbrev main_call5_v12 : Ref sig .tc := ⟨.hbm, 1096, rfl⟩
abbrev main_call5_c_0 : Ref sig .tc := ⟨.hbm, 1097, rfl⟩
abbrev main_call5_v13 : Ref sig .tc := ⟨.hbm, 1098, rfl⟩
abbrev main_call5_v14 : Ref sig .tc := ⟨.hbm, 1099, rfl⟩
abbrev main_call5_c_1 : Ref sig .tc := ⟨.hbm, 1100, rfl⟩
abbrev main_call5_v15 : Ref sig .tc := ⟨.hbm, 1101, rfl⟩
abbrev main_call5_v16 : Ref sig .tc := ⟨.hbm, 1102, rfl⟩
abbrev main_call5_v17 : Ref sig .tc := ⟨.hbm, 1103, rfl⟩
abbrev main_call5_v18 : Ref sig .tc := ⟨.hbm, 1104, rfl⟩
abbrev main_call5_c_2 : Ref sig .tc := ⟨.hbm, 1105, rfl⟩
abbrev main_call5_v19 : Ref sig .tc := ⟨.hbm, 1106, rfl⟩
abbrev main_call5_v20 : Ref sig .tc := ⟨.hbm, 1107, rfl⟩
abbrev main_call5_v21 : Ref sig .tc := ⟨.hbm, 1108, rfl⟩
abbrev main_call5_v22 : Ref sig .tc := ⟨.hbm, 1109, rfl⟩
abbrev main_call5_call0_v0 : Ref sig .tc := ⟨.hbm, 1110, rfl⟩
abbrev main_call5_call0_c : Ref sig .tc := ⟨.hbm, 1111, rfl⟩
abbrev main_call5_call0_v1 : Ref sig .tc := ⟨.hbm, 1112, rfl⟩
abbrev main_call5_call0_v2 : Ref sig .tc := ⟨.hbm, 1113, rfl⟩
abbrev main_call5_call0_v3 : Ref sig .tc := ⟨.hbm, 1114, rfl⟩
abbrev main_call5_call0_v4 : Ref sig .tc := ⟨.hbm, 1115, rfl⟩
abbrev main_call5_call0_v5 : Ref sig .tc := ⟨.hbm, 1116, rfl⟩
abbrev main_call5_call0_v6 : Ref sig .tc := ⟨.hbm, 1117, rfl⟩
abbrev main_call5_call0_c_0 : Ref sig .tc := ⟨.hbm, 1118, rfl⟩
abbrev main_call5_call0_v7 : Ref sig .tc := ⟨.hbm, 1119, rfl⟩
abbrev main_call5_call0_v8 : Ref sig .tc := ⟨.hbm, 1120, rfl⟩
abbrev main_call5_call0_c_1 : Ref sig .tc := ⟨.hbm, 1121, rfl⟩
abbrev main_call5_call0_v9 : Ref sig .tc := ⟨.hbm, 1122, rfl⟩
abbrev main_call5_call0_v10 : Ref sig .tc := ⟨.hbm, 1123, rfl⟩
abbrev main_call5_call0_v11 : Ref sig .tc := ⟨.hbm, 1124, rfl⟩
abbrev main_call5_call0_v12 : Ref sig .tc := ⟨.hbm, 1125, rfl⟩
abbrev main_call5_call0_v13 : Ref sig .tc := ⟨.hbm, 1126, rfl⟩
abbrev main_call5_call0_c_2 : Ref sig .tc := ⟨.hbm, 1127, rfl⟩
abbrev main_call5_call0_v14 : Ref sig .tc := ⟨.hbm, 1128, rfl⟩
abbrev main_call5_call0_v15 : Ref sig .tc := ⟨.hbm, 1129, rfl⟩
abbrev main_call5_call0_c_3 : Ref sig .tc := ⟨.hbm, 1130, rfl⟩
abbrev main_call5_call0_v16 : Ref sig .tc := ⟨.hbm, 1131, rfl⟩
abbrev main_call5_call0_v17 : Ref sig .tc := ⟨.hbm, 1132, rfl⟩
abbrev main_call5_call0_v18 : Ref sig .tc := ⟨.hbm, 1133, rfl⟩
abbrev main_call5_call0_v19 : Ref sig .tc := ⟨.hbm, 1134, rfl⟩
abbrev main_call5_call0_v20 : Ref sig .tc := ⟨.hbm, 1135, rfl⟩
abbrev main_call5_call0_c_4 : Ref sig .tc := ⟨.hbm, 1136, rfl⟩
abbrev main_call5_call0_v21 : Ref sig .tc := ⟨.hbm, 1137, rfl⟩
abbrev main_call5_call0_v22 : Ref sig .tc := ⟨.hbm, 1138, rfl⟩
abbrev main_call5_call0_c_5 : Ref sig .tc := ⟨.hbm, 1139, rfl⟩
abbrev main_call5_call0_v23 : Ref sig .tc := ⟨.hbm, 1140, rfl⟩
abbrev main_call5_call0_v24 : Ref sig .tc := ⟨.hbm, 1141, rfl⟩
abbrev main_call5_call0_v25 : Ref sig .tc := ⟨.hbm, 1142, rfl⟩
abbrev main_call5_call0_v26 : Ref sig .tc := ⟨.hbm, 1143, rfl⟩
abbrev main_call5_call0_v27 : Ref sig .tc := ⟨.hbm, 1144, rfl⟩
abbrev main_call5_call0_c_6 : Ref sig .tc := ⟨.hbm, 1145, rfl⟩
abbrev main_call5_call0_v28 : Ref sig .tc := ⟨.hbm, 1146, rfl⟩
abbrev main_call5_call0_v29 : Ref sig .tc := ⟨.hbm, 1147, rfl⟩
abbrev main_call5_call0_c_7 : Ref sig .tc := ⟨.hbm, 1148, rfl⟩
abbrev main_call5_call0_v30 : Ref sig .tc := ⟨.hbm, 1149, rfl⟩
abbrev main_call5_call0_v31 : Ref sig .tc := ⟨.hbm, 1150, rfl⟩
abbrev main_call5_call0_v32 : Ref sig .tc := ⟨.hbm, 1151, rfl⟩
abbrev main_call5_call0_v33 : Ref sig .tc := ⟨.hbm, 1152, rfl⟩
abbrev main_call5_call0_v34 : Ref sig .tc := ⟨.hbm, 1153, rfl⟩
abbrev main_call5_call0_v35 : Ref sig .tc := ⟨.hbm, 1154, rfl⟩
abbrev main_call5_call0_v36 : Ref sig .tc := ⟨.hbm, 1155, rfl⟩
abbrev main_call5_call0_v37 : Ref sig .tc := ⟨.hbm, 1156, rfl⟩
abbrev main_call5_call0_c_8 : Ref sig .tc := ⟨.hbm, 1157, rfl⟩
abbrev main_call5_call0_v38 : Ref sig .tc := ⟨.hbm, 1158, rfl⟩
abbrev main_call5_call0_v39 : Ref sig .tc := ⟨.hbm, 1159, rfl⟩
abbrev main_call5_call0_v40 : Ref sig .tc := ⟨.hbm, 1160, rfl⟩
abbrev main_call5_call0_c_9 : Ref sig .tc := ⟨.hbm, 1161, rfl⟩
abbrev main_call5_call0_v41 : Ref sig .tc := ⟨.hbm, 1162, rfl⟩
abbrev main_call5_call0_v42 : Ref sig .tc := ⟨.hbm, 1163, rfl⟩
abbrev main_call5_call0_c_10 : Ref sig .tc := ⟨.hbm, 1164, rfl⟩
abbrev main_call5_call0_v43 : Ref sig .tc := ⟨.hbm, 1165, rfl⟩
abbrev main_call5_call0_v44 : Ref sig .tc := ⟨.hbm, 1166, rfl⟩
abbrev main_call5_call0_v45 : Ref sig .tc := ⟨.hbm, 1167, rfl⟩
abbrev main_call5_call0_v46 : Ref sig .tc := ⟨.hbm, 1168, rfl⟩
abbrev main_call5_call0_v47 : Ref sig .tc := ⟨.hbm, 1169, rfl⟩
abbrev main_call5_call0_c_11 : Ref sig .tc := ⟨.hbm, 1170, rfl⟩
abbrev main_call5_call0_v48 : Ref sig .tc := ⟨.hbm, 1171, rfl⟩
abbrev main_call5_call0_v49 : Ref sig .tc := ⟨.hbm, 1172, rfl⟩
abbrev main_call5_call0_c_12 : Ref sig .tc := ⟨.hbm, 1173, rfl⟩
abbrev main_call5_call0_v50 : Ref sig .tc := ⟨.hbm, 1174, rfl⟩
abbrev main_call5_call0_v51 : Ref sig .tc := ⟨.hbm, 1175, rfl⟩
abbrev main_call5_call0_v52 : Ref sig .tc := ⟨.hbm, 1176, rfl⟩
abbrev main_call5_call0_v53 : Ref sig .tc := ⟨.hbm, 1177, rfl⟩
abbrev main_call5_call0_v54 : Ref sig .tc := ⟨.hbm, 1178, rfl⟩
abbrev main_call5_call0_c_13 : Ref sig .tc := ⟨.hbm, 1179, rfl⟩
abbrev main_call5_call0_v55 : Ref sig .tc := ⟨.hbm, 1180, rfl⟩
abbrev main_call5_call0_v56 : Ref sig .tc := ⟨.hbm, 1181, rfl⟩
abbrev main_call5_call0_c_14 : Ref sig .tc := ⟨.hbm, 1182, rfl⟩
abbrev main_call5_call0_v57 : Ref sig .tc := ⟨.hbm, 1183, rfl⟩
abbrev main_call5_call0_v58 : Ref sig .tc := ⟨.hbm, 1184, rfl⟩
abbrev main_call5_call0_v59 : Ref sig .tc := ⟨.hbm, 1185, rfl⟩
abbrev main_call5_call0_v60 : Ref sig .tc := ⟨.hbm, 1186, rfl⟩
abbrev main_call5_call0_v61 : Ref sig .tc := ⟨.hbm, 1187, rfl⟩
abbrev main_call5_call0_c_15 : Ref sig .tc := ⟨.hbm, 1188, rfl⟩
abbrev main_call5_call0_v62 : Ref sig .tc := ⟨.hbm, 1189, rfl⟩
abbrev main_call5_call0_v63 : Ref sig .tc := ⟨.hbm, 1190, rfl⟩
abbrev main_call5_call0_c_16 : Ref sig .tc := ⟨.hbm, 1191, rfl⟩
abbrev main_call5_call0_v64 : Ref sig .tc := ⟨.hbm, 1192, rfl⟩
abbrev main_call5_call0_v65 : Ref sig .tc := ⟨.hbm, 1193, rfl⟩
abbrev main_call5_call0_v66 : Ref sig .tc := ⟨.hbm, 1194, rfl⟩
abbrev main_call5_call0_v67 : Ref sig .tc := ⟨.hbm, 1195, rfl⟩
abbrev main_call5_call0_v68 : Ref sig .tc := ⟨.hbm, 1196, rfl⟩
abbrev main_call5_call0_v69 : Ref sig .tc := ⟨.hbm, 1197, rfl⟩
abbrev main_call5_call0_v70 : Ref sig .tc := ⟨.hbm, 1198, rfl⟩
abbrev main_call5_call0_v71 : Ref sig .tc := ⟨.hbm, 1199, rfl⟩
abbrev main_call5_call0_c_17 : Ref sig .tc := ⟨.hbm, 1200, rfl⟩
abbrev main_call5_call0_v72 : Ref sig .tc := ⟨.hbm, 1201, rfl⟩
abbrev main_call5_call0_v73 : Ref sig .tc := ⟨.hbm, 1202, rfl⟩
abbrev main_call5_call0_v74 : Ref sig .tc := ⟨.hbm, 1203, rfl⟩
abbrev main_call5_call0_c_18 : Ref sig .tc := ⟨.hbm, 1204, rfl⟩
abbrev main_call5_call0_v75 : Ref sig .tc := ⟨.hbm, 1205, rfl⟩
abbrev main_call5_call0_v76 : Ref sig .tc := ⟨.hbm, 1206, rfl⟩
abbrev main_call5_call0_c_19 : Ref sig .tc := ⟨.hbm, 1207, rfl⟩
abbrev main_call5_call0_v77 : Ref sig .tc := ⟨.hbm, 1208, rfl⟩
abbrev main_call5_call0_v78 : Ref sig .tc := ⟨.hbm, 1209, rfl⟩
abbrev main_call5_call0_v79 : Ref sig .tc := ⟨.hbm, 1210, rfl⟩
abbrev main_call5_call0_v80 : Ref sig .tc := ⟨.hbm, 1211, rfl⟩
abbrev main_call5_call0_v81 : Ref sig .tc := ⟨.hbm, 1212, rfl⟩
abbrev main_call5_call0_c_20 : Ref sig .tc := ⟨.hbm, 1213, rfl⟩
abbrev main_call5_call0_v82 : Ref sig .tc := ⟨.hbm, 1214, rfl⟩
abbrev main_call5_call0_v83 : Ref sig .tc := ⟨.hbm, 1215, rfl⟩
abbrev main_call5_call0_c_21 : Ref sig .tc := ⟨.hbm, 1216, rfl⟩
abbrev main_call5_call0_v84 : Ref sig .tc := ⟨.hbm, 1217, rfl⟩
abbrev main_call5_call0_v85 : Ref sig .tc := ⟨.hbm, 1218, rfl⟩
abbrev main_call5_call0_v86 : Ref sig .tc := ⟨.hbm, 1219, rfl⟩
abbrev main_call5_call0_v87 : Ref sig .tc := ⟨.hbm, 1220, rfl⟩
abbrev main_call5_call0_v88 : Ref sig .tc := ⟨.hbm, 1221, rfl⟩
abbrev main_call5_call0_c_22 : Ref sig .tc := ⟨.hbm, 1222, rfl⟩
abbrev main_call5_call0_v89 : Ref sig .tc := ⟨.hbm, 1223, rfl⟩
abbrev main_call5_call0_v90 : Ref sig .tc := ⟨.hbm, 1224, rfl⟩
abbrev main_call5_call0_c_23 : Ref sig .tc := ⟨.hbm, 1225, rfl⟩
abbrev main_call5_call0_v91 : Ref sig .tc := ⟨.hbm, 1226, rfl⟩
abbrev main_call5_call0_v92 : Ref sig .tc := ⟨.hbm, 1227, rfl⟩
abbrev main_call5_call0_v93 : Ref sig .tc := ⟨.hbm, 1228, rfl⟩
abbrev main_call5_call0_v94 : Ref sig .tc := ⟨.hbm, 1229, rfl⟩
abbrev main_call5_call0_v95 : Ref sig .tc := ⟨.hbm, 1230, rfl⟩
abbrev main_call5_call0_c_24 : Ref sig .tc := ⟨.hbm, 1231, rfl⟩
abbrev main_call5_call0_v96 : Ref sig .tc := ⟨.hbm, 1232, rfl⟩
abbrev main_call5_call0_v97 : Ref sig .tc := ⟨.hbm, 1233, rfl⟩
abbrev main_call5_call0_c_25 : Ref sig .tc := ⟨.hbm, 1234, rfl⟩
abbrev main_call5_call0_v98 : Ref sig .tc := ⟨.hbm, 1235, rfl⟩
abbrev main_call5_call0_v99 : Ref sig .tc := ⟨.hbm, 1236, rfl⟩
abbrev main_call5_call0_v100 : Ref sig .tc := ⟨.hbm, 1237, rfl⟩
abbrev main_call5_call0_v101 : Ref sig .tc := ⟨.hbm, 1238, rfl⟩
abbrev main_call5_call0_v102 : Ref sig .tc := ⟨.hbm, 1239, rfl⟩
abbrev main_call5_call0_v103 : Ref sig .tc := ⟨.hbm, 1240, rfl⟩
abbrev main_call5_call0_v104 : Ref sig .tc := ⟨.hbm, 1241, rfl⟩
abbrev main_call5_call0_v105 : Ref sig .tc := ⟨.hbm, 1242, rfl⟩
abbrev main_call5_call0_c_26 : Ref sig .tc := ⟨.hbm, 1243, rfl⟩
abbrev main_call5_call0_v106 : Ref sig .tc := ⟨.hbm, 1244, rfl⟩
abbrev main_call5_call0_v107 : Ref sig .tc := ⟨.hbm, 1245, rfl⟩
abbrev main_call5_call0_v108 : Ref sig .tc := ⟨.hbm, 1246, rfl⟩
abbrev main_call5_call0_c_27 : Ref sig .tc := ⟨.hbm, 1247, rfl⟩
abbrev main_call5_call0_v109 : Ref sig .tc := ⟨.hbm, 1248, rfl⟩
abbrev main_call5_call0_v110 : Ref sig .tc := ⟨.hbm, 1249, rfl⟩
abbrev main_call5_call0_c_28 : Ref sig .tc := ⟨.hbm, 1250, rfl⟩
abbrev main_call5_call0_v111 : Ref sig .tc := ⟨.hbm, 1251, rfl⟩
abbrev main_call5_call0_v112 : Ref sig .tc := ⟨.hbm, 1252, rfl⟩
abbrev main_call5_call0_v113 : Ref sig .tc := ⟨.hbm, 1253, rfl⟩
abbrev main_call5_call0_v114 : Ref sig .tc := ⟨.hbm, 1254, rfl⟩
abbrev main_call5_call0_v115 : Ref sig .tc := ⟨.hbm, 1255, rfl⟩
abbrev main_call5_call0_c_29 : Ref sig .tc := ⟨.hbm, 1256, rfl⟩
abbrev main_call5_call0_v116 : Ref sig .tc := ⟨.hbm, 1257, rfl⟩
abbrev main_call5_call0_v117 : Ref sig .tc := ⟨.hbm, 1258, rfl⟩
abbrev main_call5_call0_c_30 : Ref sig .tc := ⟨.hbm, 1259, rfl⟩
abbrev main_call5_call0_v118 : Ref sig .tc := ⟨.hbm, 1260, rfl⟩
abbrev main_call5_call0_v119 : Ref sig .tc := ⟨.hbm, 1261, rfl⟩
abbrev main_call5_call0_v120 : Ref sig .tc := ⟨.hbm, 1262, rfl⟩
abbrev main_call5_call0_v121 : Ref sig .tc := ⟨.hbm, 1263, rfl⟩
abbrev main_call5_call0_v122 : Ref sig .tc := ⟨.hbm, 1264, rfl⟩
abbrev main_call5_call0_c_31 : Ref sig .tc := ⟨.hbm, 1265, rfl⟩
abbrev main_call5_call0_v123 : Ref sig .tc := ⟨.hbm, 1266, rfl⟩
abbrev main_call5_call0_v124 : Ref sig .tc := ⟨.hbm, 1267, rfl⟩
abbrev main_call5_call0_c_32 : Ref sig .tc := ⟨.hbm, 1268, rfl⟩
abbrev main_call5_call0_v125 : Ref sig .tc := ⟨.hbm, 1269, rfl⟩
abbrev main_call5_call0_v126 : Ref sig .tc := ⟨.hbm, 1270, rfl⟩
abbrev main_call5_call0_v127 : Ref sig .tc := ⟨.hbm, 1271, rfl⟩
abbrev main_call5_call0_v128 : Ref sig .tc := ⟨.hbm, 1272, rfl⟩
abbrev main_call5_call0_v129 : Ref sig .tc := ⟨.hbm, 1273, rfl⟩
abbrev main_call5_call0_c_33 : Ref sig .tc := ⟨.hbm, 1274, rfl⟩
abbrev main_call5_call0_v130 : Ref sig .tc := ⟨.hbm, 1275, rfl⟩
abbrev main_call5_call0_v131 : Ref sig .tc := ⟨.hbm, 1276, rfl⟩
abbrev main_call5_call0_c_34 : Ref sig .tc := ⟨.hbm, 1277, rfl⟩
abbrev main_call5_call0_v132 : Ref sig .tc := ⟨.hbm, 1278, rfl⟩
abbrev main_call5_call0_v133 : Ref sig .tc := ⟨.hbm, 1279, rfl⟩
abbrev main_call5_call0_v134 : Ref sig .tc := ⟨.hbm, 1280, rfl⟩
abbrev main_call5_call0_v135 : Ref sig .tc := ⟨.hbm, 1281, rfl⟩
abbrev main_call5_call0_v136 : Ref sig .tc := ⟨.hbm, 1282, rfl⟩
abbrev main_call5_call0_v137 : Ref sig .tc := ⟨.hbm, 1283, rfl⟩
abbrev main_call5_call0_v138 : Ref sig .tc := ⟨.hbm, 1284, rfl⟩
abbrev main_call5_call0_v139 : Ref sig .tc := ⟨.hbm, 1285, rfl⟩
abbrev main_call5_call0_c_35 : Ref sig .tc := ⟨.hbm, 1286, rfl⟩
abbrev main_call5_call0_v140 : Ref sig .tc := ⟨.hbm, 1287, rfl⟩
abbrev main_call5_call0_v141 : Ref sig .tc := ⟨.hbm, 1288, rfl⟩
abbrev main_call5_call0_v142 : Ref sig .tc := ⟨.hbm, 1289, rfl⟩
abbrev main_call5_call0_c_36 : Ref sig .tc := ⟨.hbm, 1290, rfl⟩
abbrev main_call5_call0_v143 : Ref sig .tc := ⟨.hbm, 1291, rfl⟩
abbrev main_call5_call0_v144 : Ref sig .tc := ⟨.hbm, 1292, rfl⟩
abbrev main_call5_call0_c_37 : Ref sig .tc := ⟨.hbm, 1293, rfl⟩
abbrev main_call5_call0_v145 : Ref sig .tc := ⟨.hbm, 1294, rfl⟩
abbrev main_call5_call0_v146 : Ref sig .tc := ⟨.hbm, 1295, rfl⟩
abbrev main_call5_call0_v147 : Ref sig .tc := ⟨.hbm, 1296, rfl⟩
abbrev main_call5_call0_v148 : Ref sig .tc := ⟨.hbm, 1297, rfl⟩
abbrev main_call5_call0_v149 : Ref sig .tc := ⟨.hbm, 1298, rfl⟩
abbrev main_call5_call0_c_38 : Ref sig .tc := ⟨.hbm, 1299, rfl⟩
abbrev main_call5_call0_v150 : Ref sig .tc := ⟨.hbm, 1300, rfl⟩
abbrev main_call5_call0_v151 : Ref sig .tc := ⟨.hbm, 1301, rfl⟩
abbrev main_call5_call0_c_39 : Ref sig .tc := ⟨.hbm, 1302, rfl⟩
abbrev main_call5_call0_v152 : Ref sig .tc := ⟨.hbm, 1303, rfl⟩
abbrev main_call5_call0_v153 : Ref sig .tc := ⟨.hbm, 1304, rfl⟩
abbrev main_call5_call0_v154 : Ref sig .tc := ⟨.hbm, 1305, rfl⟩
abbrev main_call5_call0_v155 : Ref sig .tc := ⟨.hbm, 1306, rfl⟩
abbrev main_call5_call0_v156 : Ref sig .tc := ⟨.hbm, 1307, rfl⟩
abbrev main_call5_call0_c_40 : Ref sig .tc := ⟨.hbm, 1308, rfl⟩
abbrev main_call5_call0_v157 : Ref sig .tc := ⟨.hbm, 1309, rfl⟩
abbrev main_call5_call0_v158 : Ref sig .tc := ⟨.hbm, 1310, rfl⟩
abbrev main_call5_call0_c_41 : Ref sig .tc := ⟨.hbm, 1311, rfl⟩
abbrev main_call5_call0_v159 : Ref sig .tc := ⟨.hbm, 1312, rfl⟩
abbrev main_call5_call0_v160 : Ref sig .tc := ⟨.hbm, 1313, rfl⟩
abbrev main_call5_call0_v161 : Ref sig .tc := ⟨.hbm, 1314, rfl⟩
abbrev main_call5_call0_v162 : Ref sig .tc := ⟨.hbm, 1315, rfl⟩
abbrev main_call5_call0_v163 : Ref sig .tc := ⟨.hbm, 1316, rfl⟩
abbrev main_call5_call0_c_42 : Ref sig .tc := ⟨.hbm, 1317, rfl⟩
abbrev main_call5_call0_v164 : Ref sig .tc := ⟨.hbm, 1318, rfl⟩
abbrev main_call5_call0_v165 : Ref sig .tc := ⟨.hbm, 1319, rfl⟩
abbrev main_call5_call0_c_43 : Ref sig .tc := ⟨.hbm, 1320, rfl⟩
abbrev main_call5_call0_v166 : Ref sig .tc := ⟨.hbm, 1321, rfl⟩
abbrev main_call5_call0_v167 : Ref sig .tc := ⟨.hbm, 1322, rfl⟩
abbrev main_call5_call0_v168 : Ref sig .tc := ⟨.hbm, 1323, rfl⟩
abbrev main_call5_call0_v169 : Ref sig .tc := ⟨.hbm, 1324, rfl⟩
abbrev main_call5_call0_v170 : Ref sig .tc := ⟨.hbm, 1325, rfl⟩
abbrev main_call5_v23_0 : Ref sig .tc := ⟨.hbm, 1326, rfl⟩
abbrev main_call5_call0_v172 : Ref sig .tc := ⟨.hbm, 1327, rfl⟩
abbrev main_call5_call0_v173 : Ref sig .tc := ⟨.hbm, 1328, rfl⟩
abbrev main_call5_call0_c_44 : Ref sig .tc := ⟨.hbm, 1329, rfl⟩
abbrev main_call5_call0_v174 : Ref sig .tc := ⟨.hbm, 1330, rfl⟩
abbrev main_call5_v23_1 : Ref sig .tc := ⟨.hbm, 1331, rfl⟩
abbrev main_call5_v24 : Ref sig .tc := ⟨.hbm, 1332, rfl⟩
abbrev main_call5_c_3 : Ref sig .tc := ⟨.hbm, 1333, rfl⟩
abbrev main_call5_v25 : Ref sig .tc := ⟨.hbm, 1334, rfl⟩
abbrev main_call5_v26 : Ref sig .tc := ⟨.hbm, 1335, rfl⟩
abbrev main_call5_c_4 : Ref sig .tc := ⟨.hbm, 1336, rfl⟩
abbrev main_call5_v27 : Ref sig .tc := ⟨.hbm, 1337, rfl⟩
abbrev main_call5_v28 : Ref sig .tc := ⟨.hbm, 1338, rfl⟩
abbrev main_call5_v29 : Ref sig .tc := ⟨.hbm, 1339, rfl⟩
abbrev main_call5_cst : Ref sig .tc := ⟨.hbm, 1340, rfl⟩
abbrev main_call5_v30 : Ref sig .tc := ⟨.hbm, 1341, rfl⟩
abbrev main_call5_v31 : Ref sig .tc := ⟨.hbm, 1342, rfl⟩
abbrev main_call5_v32 : Ref sig .tc := ⟨.hbm, 1343, rfl⟩
abbrev main_call5_v33 : Ref sig .tc := ⟨.hbm, 1344, rfl⟩
abbrev main_call5_v34 : Ref sig .tc := ⟨.hbm, 1345, rfl⟩
abbrev main_call5_v35 : Ref sig .tc := ⟨.hbm, 1346, rfl⟩
abbrev main_call5_v36 : Ref sig .tc := ⟨.hbm, 1347, rfl⟩
abbrev main_call5_v37 : Ref sig .tc := ⟨.hbm, 1348, rfl⟩
abbrev main_v29 : Ref sig .tc := ⟨.hbm, 1349, rfl⟩
abbrev main_v30 : Ref sig .tc := ⟨.hbm, 1350, rfl⟩
abbrev main_v31 : Ref sig .tc := ⟨.hbm, 1351, rfl⟩
abbrev main_v32 : Ref sig .tc := ⟨.hbm, 1352, rfl⟩
abbrev main_v33 : Ref sig .tc := ⟨.hbm, 1353, rfl⟩

abbrev nD : Nat := 1
abbrev τ : Topo := Topo.v7x

variable {F : FTy → Type} [FloatOps F]
-- ==== Proof.BodyA.lean ====
/- The first pass at one grid point: what its body leaves in each output's buffer, as functions of the input
   blocks and, for the two running maxima, of what the buffer held before; and the body's triple in both cases of its
   branch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Spike

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words of the hash, at the points where the printed body cuts it -/

/-- The first word after the first cut of the hash of the position, -/
def word1a (i : grid0.Coords) (ci : Vec F S1x1x256 .i32) : IVec S256x256 32 :=
  k0_pay26 (k0_pay14 i ci) (k0_pay15 i ci) (k0_pay16 i ci) 6#32
/-- and the second. -/
def word1b (i : grid0.Coords) (ci : Vec F S1x1x256 .i32) : IVec S256x256 32 :=
  k0_pay27 (k0_pay14 i ci) (k0_pay15 i ci) (k0_pay16 i ci) 6#32

/-- The first word after the second cut, -/
def word2a (i : grid0.Coords) (ci : Vec F S1x1x256 .i32) : IVec S256x256 32 :=
  k0_pay38 (word1a i ci) (word1b i ci) k0_pay28
/-- and the second. -/
def word2b (i : grid0.Coords) (ci : Vec F S1x1x256 .i32) : IVec S256x256 32 :=
  k0_pay39 (word1a i ci) (word1b i ci) k0_pay28

/-- The first word after the third cut, -/
def word3a (i : grid0.Coords) (ci : Vec F S1x1x256 .i32) : IVec S256x256 32 := k0_pay50 (word2a i ci) (word2b i ci)
/-- the second, -/
def word3b (i : grid0.Coords) (ci : Vec F S1x1x256 .i32) : IVec S256x256 32 := k0_pay51 (word2a i ci) (word2b i ci)
/-- and the third. -/
def word3c (i : grid0.Coords) (ci : Vec F S1x1x256 .i32) : IVec S256x256 32 := k0_pay52 (word2a i ci) (word2b i ci)

/-! ## What the body leaves in each output's buffer -/

/-- The gathered columns of the block, the zeroed entries set to zero, as a matrix. -/
def zeroedMat (i : grid0.Coords) (x : Vec F S1x256x768 .f32) (ci : Vec F S1x1x256 .i32) : FVec F S256x256 .f32 :=
  k0_pay54 (k0_pay9 x ci) (word3a i ci) (word3b i ci) (word3c i ci) 6#32

/-- The same as the block stored. -/
def zeroedBlk (i : grid0.Coords) (x : Vec F S1x256x768 .f32) (ci : Vec F S1x1x256 .i32) : Vec F S1x256x256 .f32 :=
  k0_pay55 (k0_pay9 x ci) (word3a i ci) (word3b i ci) (word3c i ci) 6#32

/-- The block of flags that says which gathered entries were zeroed. -/
def flagBlk (i : grid0.Coords) (ci : Vec F S1x1x256 .i32) : Vec F S1x256x256 .i8 :=
  k0_pay56 (word3a i ci) (word3b i ci) (word3c i ci) 6#32

/-- The mask's row, repeated over the block's rows. -/
def maskBlk (mk : Vec F S1x1x768 .i32) : Vec F S1x256x768 .i32 := k0_pay57 mk

/-- The column maxima of a block, at the first block of a batch. -/
def colStart (x : Vec F S1x256x768 .f32) : Vec F S1x1x768 .f32 := k0_pay3 (k0_pay7 x)
/-- The column maxima of a block taken together with those of the blocks before. -/
def colStep (x : Vec F S1x256x768 .f32) (old : Vec F S1x1x768 .f32) : Vec F S1x1x768 .f32 := k0_pay5 (k0_pay7 x) old
/-- The column maxima of the zeroed block, at the first block of a batch. -/
def zcolStart (i : grid0.Coords) (x : Vec F S1x256x768 .f32) (ci : Vec F S1x1x256 .i32) : Vec F S1x1x256 .f32 :=
  k0_pay4 (zeroedMat i x ci)
/-- The column maxima of the zeroed block taken together with those of the blocks before. -/
def zcolStep (i : grid0.Coords) (x : Vec F S1x256x768 .f32) (ci : Vec F S1x1x256 .i32) (old : Vec F S1x1x256 .f32) :
    Vec F S1x1x256 .f32 := k0_pay6 (zeroedMat i x ci) old

/-! ## The whole-buffer accesses -/

/-- A store of a whole buffer, read back, is what was stored. -/
theorem stored_whole {s : Shape} {sp : Space} {e : EltTy} (v : View sig .tc sp s e) (f : v.ty.Contents (Elt F))
    (off : Fin s.rank → Nat) (h : off = fun _ => 0) (inb : ∀ a, off a + s.size a ≤ s.size a) (w : s.Idx → Elt F e) :
    v.read (Elt F) (v.writes (Elt F) f [⟨Rect.unit off s.size inb, w⟩]) = w :=
  (View.read_writes_eq_canon _ _ _ fun y => ⟨_, List.mem_singleton_self _, View.mem_set_unit_zero h inb y⟩).trans
    (View.canon_unit_zero h inb w)

/-- A load of a whole buffer is the buffer. -/
theorem read_whole {s : Shape} {sp : Space} {e : EltTy} (v : View sig .tc sp s e) (f : v.ty.Contents (Elt F))
    (off : Fin s.rank → Nat) (h : off = fun _ => 0) (inb : ∀ a, off a + s.size a ≤ s.size a) :
    v.readAt (Elt F) (Rect.unit off s.size inb).toLoadRect f = v.read (Elt F) f :=
  (View.readAt_eq_ld v f _).trans (View.ld_unit_zero h inb _)

/-- Offsets of a whole buffer of three axes. -/
theorem off3 : (![0, 0, 0] : Fin 3 → Nat) = fun _ => 0 := by funext a; fin_cases a <;> rfl
/-- Offsets of a whole buffer of two axes. -/
theorem off2 : (![0, 0] : Fin 2 → Nat) = fun _ => 0 := by funext a; fin_cases a <;> rfl

/-! ## The body's triple -/

/-- The body's first branch is taken: the point is the first of its batch. -/
abbrev isFirst (i : grid0.Coords) : Prop := k0_cond1 i = 1#1
/-- The body's second branch is taken: the point is not the first of its batch. -/
abbrev isLater (i : grid0.Coords) : Prop := k0_cond2 i = 1#1

set_option maxHeartbeats 1000000 in
/-- At the first block of a batch the body leaves the inputs as they were and the outputs at the block's values, the
    running maxima begun. -/
theorem body_first (c : Dev nD) (E : Set ℕ) (i : grid0.Coords) (arg2 : Memref sig .tc .vmem S1x256x768 .f32) (harg2 : arg2.IsWhole) (arg3 : Memref sig .tc .vmem S1x1x256 .i32) (harg3 : arg3.IsWhole) (arg4 : Memref sig .tc .vmem S1x1x768 .i32) (harg4 : arg4.IsWhole) (arg5 : Memref sig .tc .vmem S1x256x256 .f32) (harg5 : arg5.IsWhole) (arg6 : Memref sig .tc .vmem S1x256x256 .i8) (harg6 : arg6.IsWhole) (arg7 : Memref sig .tc .vmem S1x256x768 .i32) (harg7 : arg7.IsWhole) (arg8 : Memref sig .tc .vmem S1x1x768 .f32) (harg8 : arg8.IsWhole) (arg9 : Memref sig .tc .vmem S1x1x256 .f32) (harg9 : arg9.IsWhole)
    (hc0 : isFirst i) (hc1 : ¬isLater i)
    (x0 : Vec F S1x256x768 .f32) (x1 : Vec F S1x1x256 .i32) (x2 : Vec F S1x1x768 .i32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare (zeroedBlk i x0 x1) ∗ owns (c : Thread nD τ) arg6 fullShare (flagBlk i x1) ∗ owns (c : Thread nD τ) arg7 fullShare (maskBlk x2) ∗ owns (c : Thread nD τ) arg8 fullShare (colStart x0) ∗ owns (c : Thread nD τ) arg9 fullShare (zcolStart i x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9) K := by
  simp only [cc0__pass_a_eq_skeleton]; unfold cc0__pass_a_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf0 hf1 hf2
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (stored_whole _ _ _ off3 _ _).trans ?_
    exact congrArg₂ (zeroedBlk i) (read_whole arg2.view f0 _ off3 inb_S1x256x768_S1x256x768_0_0_0) (read_whole arg3.view f1 _ off3 inb_S1x1x256_S1x1x256_0_0_0)
  isplitl [H4]
  · iexists _; isplitr
    swap; · iexact H4
    ipureintro
    refine (stored_whole _ _ _ off3 _ _).trans ?_
    exact congrArg (flagBlk i) (read_whole arg3.view f1 _ off3 inb_S1x1x256_S1x1x256_0_0_0)
  isplitl [H5]
  · iexists _; isplitr
    swap; · iexact H5
    ipureintro
    refine (stored_whole _ _ _ off3 _ _).trans ?_
    exact congrArg maskBlk (read_whole arg4.view f2 _ off3 inb_S1x1x768_S1x1x768_0_0_0)
  isplitl [H6]
  · iexists _; isplitr
    swap; · iexact H6
    ipureintro
    refine (stored_whole _ _ _ off3 _ _).trans ?_
    exact congrArg colStart (read_whole arg2.view f0 _ off3 inb_S1x256x768_S1x256x768_0_0_0)
  iexists _; isplitr
  swap; · iexact H7
  ipureintro
  refine (stored_whole _ _ _ off3 _ _).trans ?_
  exact congrArg₂ (zcolStart i) (read_whole arg2.view f0 _ off3 inb_S1x256x768_S1x256x768_0_0_0) (read_whole arg3.view f1 _ off3 inb_S1x1x256_S1x1x256_0_0_0)

set_option maxHeartbeats 1000000 in
/-- At a later block of a batch the same, the running maxima taken on from what the two buffers held. -/
theorem body_later (c : Dev nD) (E : Set ℕ) (i : grid0.Coords) (arg2 : Memref sig .tc .vmem S1x256x768 .f32) (harg2 : arg2.IsWhole) (arg3 : Memref sig .tc .vmem S1x1x256 .i32) (harg3 : arg3.IsWhole) (arg4 : Memref sig .tc .vmem S1x1x768 .i32) (harg4 : arg4.IsWhole) (arg5 : Memref sig .tc .vmem S1x256x256 .f32) (harg5 : arg5.IsWhole) (arg6 : Memref sig .tc .vmem S1x256x256 .i8) (harg6 : arg6.IsWhole) (arg7 : Memref sig .tc .vmem S1x256x768 .i32) (harg7 : arg7.IsWhole) (arg8 : Memref sig .tc .vmem S1x1x768 .f32) (harg8 : arg8.IsWhole) (arg9 : Memref sig .tc .vmem S1x1x256 .f32) (harg9 : arg9.IsWhole)
    (hc0 : ¬isFirst i) (hc1 : isLater i)
    (x0 : Vec F S1x256x768 .f32) (x1 : Vec F S1x1x256 .i32) (x2 : Vec F S1x1x768 .i32) (x6 : Vec F S1x1x768 .f32) (x7 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare x6 ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare (zeroedBlk i x0 x1) ∗ owns (c : Thread nD τ) arg6 fullShare (flagBlk i x1) ∗ owns (c : Thread nD τ) arg7 fullShare (maskBlk x2) ∗ owns (c : Thread nD τ) arg8 fullShare (colStep x0 x6) ∗ owns (c : Thread nD τ) arg9 fullShare (zcolStep i x0 x1 x7)) -∗ K ⟨⟩))
      ⊢ wp frame (wpE (defs₀ (F := F)) Variants.none c none) E (cc0__pass_a i arg2 harg2 arg3 harg3 arg4 harg4 arg5 harg5 arg6 harg6 arg7 harg7 arg8 harg8 arg9 harg9) K := by
  simp only [cc0__pass_a_eq_skeleton]; unfold cc0__pass_a_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  subst hf0 hf1 hf2 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (stored_whole _ _ _ off3 _ _).trans ?_
    exact congrArg₂ (zeroedBlk i) (read_whole arg2.view f0 _ off3 inb_S1x256x768_S1x256x768_0_0_0) (read_whole arg3.view f1 _ off3 inb_S1x1x256_S1x1x256_0_0_0)
  isplitl [H4]
  · iexists _; isplitr
    swap; · iexact H4
    ipureintro
    refine (stored_whole _ _ _ off3 _ _).trans ?_
    exact congrArg (flagBlk i) (read_whole arg3.view f1 _ off3 inb_S1x1x256_S1x1x256_0_0_0)
  isplitl [H5]
  · iexists _; isplitr
    swap; · iexact H5
    ipureintro
    refine (stored_whole _ _ _ off3 _ _).trans ?_
    exact congrArg maskBlk (read_whole arg4.view f2 _ off3 inb_S1x1x768_S1x1x768_0_0_0)
  isplitl [H6]
  · iexists _; isplitr
    swap; · iexact H6
    ipureintro
    refine (stored_whole _ _ _ off3 _ _).trans ?_
    exact congrArg₂ colStep (read_whole arg2.view f0 _ off3 inb_S1x256x768_S1x256x768_0_0_0) (read_whole arg8.view f6 _ off3 inb_S1x1x768_S1x1x768_0_0_0)
  iexists _; isplitr
  swap; · iexact H7
  ipureintro
  refine (stored_whole _ _ _ off3 _ _).trans ?_
  exact (congrArg₂ (fun x y => zcolStep i x y _) (read_whole arg2.view f0 _ off3 inb_S1x256x768_S1x256x768_0_0_0) (read_whole arg3.view f1 _ off3 inb_S1x1x256_S1x1x256_0_0_0)).trans (congrArg (zcolStep i _ _) (read_whole arg9.view f7 _ off3 inb_S1x1x256_S1x1x256_0_0_0))

end Cert.KernelIdeal.Spike

end
-- ==== Proof.RegionA.lean ====
/- The first pass over its whole grid: which case of the body each point is in, what the two running maxima hold after
   each point, the pipeline's proof data, and the body's obligation at every point. -/
module

public import proofs.«01_k».proof.Proof.BodyA

@[expose] public section

set_option maxRecDepth 16384

noncomputable section

namespace Cert.KernelIdeal.Spike

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- The first branch is taken at the points whose second coordinate is zero. -/
theorem isFirst_iff : ∀ t : Fin cfg0.N, isFirst (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [isFirst, k0_cond1, e0, e1]
    word_cmp
   : ∀ t : Fin grid0.N, isFirst (grid0.coords t) ↔ t.val % 8 = 0)

/-- The second branch is taken at the others. -/
theorem isLater_iff : ∀ t : Fin cfg0.N, isLater (grid0.coords t) ↔ 1 ≤ t.val % 8 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [isLater, k0_cond2, e0, e1]
    word_cmp
   : ∀ t : Fin grid0.N, isLater (grid0.coords t) ↔ 1 ≤ t.val % 8)

/-- Each point stores into the two running maxima, so neither window is ever idle. -/
theorem live6 : ∀ t : Fin cfg0.N, cfg0.idle 6 (grid0.coords t) = false := by decide +kernel
theorem live7 : ∀ t : Fin cfg0.N, cfg0.idle 7 (grid0.coords t) = false := by decide +kernel

/-- The running maxima's buffers are written back after the last point of each batch only: bit `n` says so of point `n`. -/
def flushed : ℕ → Bool
  | 0 => true
  | n + 1 => (0x80808080808080808080808080808080 : ℕ).testBit n
theorem flushed_step6 : ∀ t : Fin cfg0.N,
    flushed (t.val + 1) = ((cfg0.win 6).flush t || (cfg0.idle 6 (cfg0.grid.coords t) && flushed t.val)) := by decide +kernel
theorem flushed_step7 : ∀ t : Fin cfg0.N,
    flushed (t.val + 1) = ((cfg0.win 7).flush t || (cfg0.idle 7 (cfg0.grid.coords t) && flushed t.val)) := by decide +kernel
theorem flushed_later : ∀ t : Fin cfg0.N, ¬t.val % 8 = 0 → flushed t.val = false := by decide +kernel
/-- So at a later point of a batch each holds what the point before left. -/
theorem kept6 (t : Fin cfg0.N) (h : ¬t.val % 8 = 0) : cfg0.fresh 6 t.val = false :=
  (Pipeline.Cfg.fresh_tab cfg0 6 flushed rfl flushed_step6 t.val (Nat.le_of_lt t.isLt)).trans (flushed_later t h)
theorem kept7 (t : Fin cfg0.N) (h : ¬t.val % 8 = 0) : cfg0.fresh 7 t.val = false :=
  (Pipeline.Cfg.fresh_tab cfg0 7 flushed rfl flushed_step7 t.val (Nat.le_of_lt t.isLt)).trans (flushed_later t h)

section Region
variable (V : (c : Dev nD) → (b : Ref sig .tc) → Buf (Elt F) ((c : Thread nD τ).loc b))

/-- A window's block at a point, read off its array as the region finds it. -/
def inA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the running column maxima hold after point `n`. -/
def colAt (c : Dev nD) : (n : ℕ) → n < cfg0.N → Vec F S1x1x768 .f32
  | 0, h => colStart (inA V c 0 ⟨0, h⟩)
  | n + 1, h => if (n + 1) % 8 = 0 then colStart (inA V c 0 ⟨n + 1, h⟩)
      else colStep (inA V c 0 ⟨n + 1, h⟩) (colAt c n (Nat.lt_of_succ_lt h))

/-- What the running column maxima of the zeroed gather hold after point `n`. -/
def zcolAt (c : Dev nD) : (n : ℕ) → n < cfg0.N → Vec F S1x1x256 .f32
  | 0, h => zcolStart (grid0.coords ⟨0, h⟩) (inA V c 0 ⟨0, h⟩) (inA V c 1 ⟨0, h⟩)
  | n + 1, h => if (n + 1) % 8 = 0 then zcolStart (grid0.coords ⟨n + 1, h⟩) (inA V c 0 ⟨n + 1, h⟩) (inA V c 1 ⟨n + 1, h⟩)
      else zcolStep (grid0.coords ⟨n + 1, h⟩) (inA V c 0 ⟨n + 1, h⟩) (inA V c 1 ⟨n + 1, h⟩) (zcolAt c n (Nat.lt_of_succ_lt h))

/-- The point before. -/
theorem pred_lt (t : Fin cfg0.N) : t.val - 1 < cfg0.N := Nat.lt_of_le_of_lt (Nat.sub_le _ _) t.isLt

theorem colAt_first (c : Dev nD) (t : Fin cfg0.N) (h : t.val % 8 = 0) : colAt V c t.val t.isLt = colStart (inA V c 0 t) := by
  obtain ⟨n, hn⟩ := t
  cases n with
  | zero => rfl
  | succ n => exact if_pos h
theorem colAt_later (c : Dev nD) (t : Fin cfg0.N) (h : ¬t.val % 8 = 0) :
    colAt V c t.val t.isLt = colStep (inA V c 0 t) (colAt V c (t.val - 1) (pred_lt t)) := by
  obtain ⟨n, hn⟩ := t
  cases n with
  | zero => exact absurd (Nat.zero_mod _) h
  | succ n => exact if_neg h
theorem zcolAt_first (c : Dev nD) (t : Fin cfg0.N) (h : t.val % 8 = 0) :
    zcolAt V c t.val t.isLt = zcolStart (grid0.coords t) (inA V c 0 t) (inA V c 1 t) := by
  obtain ⟨n, hn⟩ := t
  cases n with
  | zero => rfl
  | succ n => exact if_pos h
theorem zcolAt_later (c : Dev nD) (t : Fin cfg0.N) (h : ¬t.val % 8 = 0) :
    zcolAt V c t.val t.isLt = zcolStep (grid0.coords t) (inA V c 0 t) (inA V c 1 t) (zcolAt V c (t.val - 1) (pred_lt t)) := by
  obtain ⟨n, hn⟩ := t
  cases n with
  | zero => exact absurd (Nat.zero_mod _) h
  | succ n => exact if_neg h

/-- The proof data: the arrays as the region finds them; after the body the inputs' buffers at their blocks and the
    outputs' at the values above; nothing owed. -/
def datA (c : Dev nD) : Dat τ (Elt F) Unit ℕ (UR sig nD τ) ℕ cfg0 c where
  A w := V c (Pipeline.arrRef spec0 w)
  after w t := match w with
    | ⟨0, _⟩ => inA V c 0 t
    | ⟨1, _⟩ => inA V c 1 t
    | ⟨2, _⟩ => inA V c 2 t
    | ⟨3, _⟩ => zeroedBlk (grid0.coords t) (inA V c 0 t) (inA V c 1 t)
    | ⟨4, _⟩ => flagBlk (grid0.coords t) (inA V c 1 t)
    | ⟨5, _⟩ => maskBlk (inA V c 2 t)
    | ⟨6, _⟩ => colAt V c t.val t.isLt
    | ⟨7, _⟩ => zcolAt V c t.val t.isLt
  Φ _ := Pipeline.ΦA spec0 c
  q _ := fullShare
  owed _ := 0

theorem datA_A (c : Dev nD) (w : Fin cfg0.W) : (datA V c).A w = V c (Pipeline.arrRef spec0 w) := by
  dsimp only [datA]

theorem afterA_0 (c : Dev nD) (t : Fin cfg0.N) : (datA V c).after 0 t = inA V c 0 t := by dsimp only [datA]
theorem afterA_1 (c : Dev nD) (t : Fin cfg0.N) : (datA V c).after 1 t = inA V c 1 t := by dsimp only [datA]
theorem afterA_2 (c : Dev nD) (t : Fin cfg0.N) : (datA V c).after 2 t = inA V c 2 t := by dsimp only [datA]
theorem afterA_3 (c : Dev nD) (t : Fin cfg0.N) : (datA V c).after 3 t = zeroedBlk (grid0.coords t) (inA V c 0 t) (inA V c 1 t) := by dsimp only [datA]
theorem afterA_4 (c : Dev nD) (t : Fin cfg0.N) : (datA V c).after 4 t = flagBlk (grid0.coords t) (inA V c 1 t) := by dsimp only [datA]
theorem afterA_5 (c : Dev nD) (t : Fin cfg0.N) : (datA V c).after 5 t = maskBlk (inA V c 2 t) := by dsimp only [datA]
theorem afterA_6 (c : Dev nD) (t : Fin cfg0.N) : (datA V c).after 6 t = colAt V c t.val t.isLt := by dsimp only [datA]
theorem afterA_7 (c : Dev nD) (t : Fin cfg0.N) : (datA V c).after 7 t = zcolAt V c t.val t.isLt := by dsimp only [datA]

/-- Each input's buffer holds its block whenever the body runs. -/
theorem beforeA_0 (c : Dev nD) (t : Fin cfg0.N) (d) : (datA V c).before 0 t d = inA V c 0 t :=
  ((datA V c).before_in_eq_fetched 0 rfl (fun _ => rfl) (fun _ _ _ => rfl)
    (fun t => by rw [afterA_0]; unfold Dat.blockOf inA; rw [datA_A]) t d).trans (by unfold Dat.fetched Dat.blockOf inA; rw [datA_A]; rfl)
theorem beforeA_1 (c : Dev nD) (t : Fin cfg0.N) (d) : (datA V c).before 1 t d = inA V c 1 t :=
  ((datA V c).before_in_eq_fetched 1 rfl (fun _ => rfl) (fun _ _ _ => rfl)
    (fun t => by rw [afterA_1]; unfold Dat.blockOf inA; rw [datA_A]) t d).trans (by unfold Dat.fetched Dat.blockOf inA; rw [datA_A]; rfl)
theorem beforeA_2 (c : Dev nD) (t : Fin cfg0.N) (d) : (datA V c).before 2 t d = inA V c 2 t :=
  ((datA V c).before_in_eq_fetched 2 rfl (fun _ => rfl) (fun _ _ _ => rfl)
    (fun t => by rw [afterA_2]; unfold Dat.blockOf inA; rw [datA_A]) t d).trans (by unfold Dat.fetched Dat.blockOf inA; rw [datA_A]; rfl)

/-- At a later point of a batch each running maximum's buffer holds what the point before left. -/
theorem beforeA_6 (c : Dev nD) (t : Fin cfg0.N) (h : ¬t.val % 8 = 0) (d) :
    (datA V c).before 6 t d = colAt V c (t.val - 1) (pred_lt t) := by
  rw [Dat.before_out_traj _ 6 rfl (fun _ _ => rfl) (fun t _ hi _ => absurd ((live6 t).symm.trans hi) Bool.false_ne_true) t.val t rfl d,
    if_neg (by rw [kept6 t h]; exact Bool.false_ne_true)]
  dsimp only [datA]
theorem beforeA_7 (c : Dev nD) (t : Fin cfg0.N) (h : ¬t.val % 8 = 0) (d) :
    (datA V c).before 7 t d = zcolAt V c (t.val - 1) (pred_lt t) := by
  rw [Dat.before_out_traj _ 7 rfl (fun _ _ => rfl) (fun t _ hi _ => absurd ((live7 t).symm.trans hi) Bool.false_ne_true) t.val t rfl d,
    if_neg (by rw [kept7 t h]; exact Bool.false_ne_true)]
  dsimp only [datA]

/-! ## The body's obligation -/

/-- What the body is called with at a point, window by window, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d))
    ∗ (∃ d, owns (c : Thread nD τ) (st0_5 t) fullShare ((datA V c).before 5 t d))
    ∗ (∃ d, owns (c : Thread nD τ) (st0_6 t) fullShare ((datA V c).before 6 t d))
    ∗ (∃ d, owns (c : Thread nD τ) (st0_7 t) fullShare ((datA V c).before 7 t d)))

/-- and what it gives back. -/
def postA (c : Dev nD) (t : Fin cfg0.N) : sProp 𝕄 :=
  iprop((datA V c).Φ t.succ ∗ (datA V c).owesAt () t.succ
    ∗ (datA V c).leavesExact 0 t ∗ (datA V c).leavesExact 1 t ∗ (datA V c).leavesExact 2 t ∗ (datA V c).leavesExact 3 t
    ∗ (datA V c).leavesExact 4 t ∗ (datA V c).leavesExact 5 t ∗ (datA V c).leavesExact 6 t ∗ (datA V c).leavesExact 7 t)

/-- A window that is not idle is left at what the proof data say. -/
theorem leavesA (c : Dev nD) (w : Fin cfg0.W) (t : Fin cfg0.N) (h : cfg0.idle w (grid0.coords t) = false) :
    (datA V c).leavesExact w t = owns (c : Thread nD τ) ((cfg0.win w).stage (cfg0.slots t w)) fullShare ((datA V c).after w t) := by
  unfold Dat.leavesExact; rw [h]

set_option maxHeartbeats 1600000 in
/-- The body at any point gives back the proof data's values: at the first point of a batch by the first case's triple, at a
    later one by the other's. -/
theorem bodyA (c : Dev nD) (t : Fin cfg0.N) :
    preA V c t ⊢ wp frame (wpE (defs₀ (F := F)) Variants.none c none) Set.univ (bodyAt0 t) (fun _ => postA V c t) := by
  unfold preA postA bodyAt0
  simp only [beforeA_0, beforeA_1, beforeA_2]
  rw [show (datA V c).Φ t.succ = (datA V c).Φ t.castSucc from rfl,
    show (datA V c).owesAt () t.succ = (datA V c).owesAt () t.castSucc from rfl,
    leavesA V c 0 t rfl, leavesA V c 1 t rfl, leavesA V c 2 t rfl, leavesA V c 3 t rfl, leavesA V c 4 t rfl, leavesA V c 5 t rfl,
    leavesA V c 6 t (live6 t), leavesA V c 7 t (live7 t),
    afterA_0, afterA_1, afterA_2, afterA_3, afterA_4, afterA_5, afterA_6, afterA_7]
  by_cases h : t.val % 8 = 0
  · have hl : ¬1 ≤ t.val % 8 := by omega
    rw [colAt_first V c t h, zcolAt_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c Set.univ (grid0.coords t) _ _ _ _ _ _ _ _ _ _ _ _ _ _ _ _ ((isFirst_iff t).mpr h) (fun e => hl ((isLater_iff t).mp e)) (inA V c 0 t) (inA V c 1 t) (inA V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hl : 1 ≤ t.val % 8 := by omega
    rw [colAt_later V c t h, zcolAt_later V c t h]
    simp only [beforeA_6 V c t h, beforeA_7 V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c Set.univ (grid0.coords t) _ _ _ _ _ _ _ _ _ _ _ _ _ _ _ _ (fun e => h ((isFirst_iff t).mp e)) ((isLater_iff t).mpr hl) (inA V c 0 t) (inA V c 1 t) (inA V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point's slots is the body. -/
theorem rowA (t : Fin cfg0.N) :
    defs₀ (F := F) .tc cfg0.body (cfg0.bodyArgs t (cfg0.slots t)) = bodyAt0 t := by
  unfold defs₀; rw [Defs.onTc_tc]

/-- The library's obligation on the body, at every point. -/
theorem obligationA (c : Dev nD) : BodyObligation (datA (F := F) V c) (defs₀ (F := F)) Variants.none () Set.univ := fun t => by
  rw [bigSep_W0, bigSep_W0, rowA]
  exact triple_restated (bodyA V c t) rfl .rfl fun _ => .rfl

end Region

end Cert.KernelIdeal.Spike

end
-- ==== Proof.RegionB.lean ====
/- The second pass at one grid point: what its body leaves in the output's buffer as a function of the input blocks; the
   body's triple; the pipeline's proof data and the body's obligation at every point. -/
module

public import proofs.«01_k».proof.Proof.BodyA

@[expose] public section

set_option maxRecDepth 16384

noncomputable section

namespace Cert.KernelIdeal.Spike

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words of the two hashes, at the points where the printed body cuts them -/

section Words
variable (i : grid1.Coords) (ci : Vec F S1x1x256 .i32)

/-- The first hash: its words after the first cut, -/
def draw1a : IVec S256x256 32 := k1_pay20 (k1_pay10 i ci) (k1_pay11 i ci)
def draw1b : IVec S256x256 32 := k1_pay21 (k1_pay10 i ci) (k1_pay11 i ci)
def draw1c : IVec S256x256 32 := k1_pay22 (k1_pay10 i ci) (k1_pay11 i ci)
/-- after the second, -/
def draw2a : IVec S256x256 32 := k1_pay33 (draw1a i ci) (draw1b i ci) (draw1c i ci) 19#32
def draw2b : IVec S256x256 32 := k1_pay34 (draw1a i ci) (draw1b i ci) (draw1c i ci) 19#32
/-- after the third, -/
def draw3a : IVec S256x256 32 := k1_pay44 (draw2a i ci) (draw2b i ci) 16#32
def draw3b : IVec S256x256 32 := k1_pay45 (draw2a i ci) (draw2b i ci) 16#32
/-- and the bit drawn from it. -/
def drawBit : IVec S256x256 1 := k1_pay46 (draw3a i ci) (draw3b i ci)

/-- The second hash: its words after the first cut, -/
def unif1a : IVec S256x256 32 := k1_pay66 (k1_pay54 (k1_pay2 i ci)) (k1_pay55 (k1_pay2 i ci)) k1_pay56
def unif1b : IVec S256x256 32 := k1_pay67 (k1_pay54 (k1_pay2 i ci)) (k1_pay55 (k1_pay2 i ci)) k1_pay56
/-- after the second, -/
def unif2a : IVec S256x256 32 := k1_pay78 (unif1a i ci) (unif1b i ci)
def unif2b : IVec S256x256 32 := k1_pay79 (unif1a i ci) (unif1b i ci)
def unif2c : IVec S256x256 32 := k1_pay80 (unif1a i ci) (unif1b i ci)
/-- after the third. -/
def unif3a : IVec S256x256 32 := k1_pay90 (unif2a i ci) (unif2b i ci) (unif2c i ci) 16#32
def unif3b : IVec S256x256 32 := k1_pay91 (unif2a i ci) (unif2b i ci) (unif2c i ci) 16#32

end Words

/-- The block the second pass writes: the unmasked columns of the input beside the scattered columns. -/
def outBlk (i : grid1.Coords) (x : Vec F S1x256x768 .f32) (zm : Vec F S1x256x256 .f32) (fl : Vec F S1x256x256 .i8)
    (ci : Vec F S1x1x256 .i32) (ct : Vec F S1x256x1 .i32) (mk : Vec F S1x1x768 .i32) (mx : Vec F S1x1 .f32) :
    Vec F S1x256x768 .f32 :=
  k1_pay1 (k1_pay93 (drawBit i ci) (unif3a i ci) (unif3b i ci) k1_pay92 fl mx zm ct) (k1_pay94 (F := F) mk) x

set_option maxHeartbeats 1000000 in
/-- The body leaves the inputs as they were and the output at that block. -/
theorem body_second (c : Dev nD) (E : Set ℕ) (i : grid1.Coords) (arg2 : Memref sig .tc .vmem S1x256x768 .f32) (harg2 : arg2.IsWhole) (arg3 : Memref sig .tc .vmem S1x256x256 .f32) (harg3 : arg3.IsWhole) (arg4 : Memref sig .tc .vmem S1x256x256 .i8) (harg4 : arg4.IsWhole) (arg5 : Memref sig .tc .vmem S1x1x256 .i32) (harg5 : arg5.IsWhole) (arg6 : Memref sig .tc .vmem S1x256x1 .i32) (harg6 : arg6.IsWhole) (arg7 : Memref sig .tc .vmem S1x1x768 .i32) (harg7 : arg7.IsWhole) (arg8 : Memref sig .tc .vmem S1x1 .f32) (harg8 : arg8.IsWhole) (arg9 : Memref sig .tc .vmem S1x256x768 .f32) (harg9 : arg9.IsWhole)
    (x0 : Vec F S1x256x768 .f32) (x1 : Vec F S1x256x256 .f32) (x2 : Vec F S1x256x256 .i8) (x3 : Vec F S1x1x256 .i32) (x4 : Vec F S1x256x1 .i32) (x5 : Vec F S1x1x768 .i32) (x6 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlk i x0 x1 x2 x3 x4 x5 x6)) -∗ K ⟨⟩))
      ⊢ wp frame (wpE (defs₀ (F := F)) Variants.none c none) E (cc1__pass_b i arg2 harg2 arg3 harg3 arg4 harg4 arg5 harg5 arg6 harg6 arg7 harg7 arg8 harg8 arg9 harg9) K := by
  simp only [cc1__pass_b_eq_skeleton]; unfold cc1__pass_b_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (stored_whole _ _ _ off3 _ _).trans ?_
  rw [← read_whole arg2.view f0 _ off3 inb_S1x256x768_S1x256x768_0_0_0, ← read_whole arg3.view f1 _ off3 inb_S1x256x256_S1x256x256_0_0_0,
    ← read_whole arg4.view f2 _ off3 inb_S1x256x256_S1x256x256_0_0_0, ← read_whole arg5.view f3 _ off3 inb_S1x1x256_S1x1x256_0_0_0,
    ← read_whole arg6.view f4 _ off3 inb_S1x256x1_S1x256x1_0_0_0, ← read_whole arg7.view f5 _ off3 inb_S1x1x768_S1x1x768_0_0_0,
    ← read_whole arg8.view f6 _ off2 inb_S1x1_S1x1_0_0]
  exact rfl

section Region
variable (V : (c : Dev nD) → (b : Ref sig .tc) → Buf (Elt F) ((c : Thread nD τ).loc b))

/-- A window's block at a point, read off its array as the region finds it. -/
def inB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as the region finds them; after the body the inputs' buffers at their blocks and the
    output's at the block written; nothing owed. -/
def datB (c : Dev nD) : Dat τ (Elt F) Unit ℕ (UR sig nD τ) ℕ cfg1 c where
  A w := V c (Pipeline.arrRef spec1 w)
  after w t := match w with
    | ⟨0, _⟩ => inB V c 0 t
    | ⟨1, _⟩ => inB V c 1 t
    | ⟨2, _⟩ => inB V c 2 t
    | ⟨3, _⟩ => inB V c 3 t
    | ⟨4, _⟩ => inB V c 4 t
    | ⟨5, _⟩ => inB V c 5 t
    | ⟨6, _⟩ => inB V c 6 t
    | ⟨7, _⟩ => outBlk (grid1.coords t) (inB V c 0 t) (inB V c 1 t) (inB V c 2 t) (inB V c 3 t) (inB V c 4 t) (inB V c 5 t) (inB V c 6 t)
  Φ _ := Pipeline.ΦA spec1 c
  q _ := fullShare
  owed _ := 0

theorem datB_A (c : Dev nD) (w : Fin cfg1.W) : (datB V c).A w = V c (Pipeline.arrRef spec1 w) := by
  dsimp only [datB]

theorem afterB_0 (c : Dev nD) (t : Fin cfg1.N) : (datB V c).after 0 t = inB V c 0 t := by dsimp only [datB]
theorem afterB_1 (c : Dev nD) (t : Fin cfg1.N) : (datB V c).after 1 t = inB V c 1 t := by dsimp only [datB]
theorem afterB_2 (c : Dev nD) (t : Fin cfg1.N) : (datB V c).after 2 t = inB V c 2 t := by dsimp only [datB]
theorem afterB_3 (c : Dev nD) (t : Fin cfg1.N) : (datB V c).after 3 t = inB V c 3 t := by dsimp only [datB]
theorem afterB_4 (c : Dev nD) (t : Fin cfg1.N) : (datB V c).after 4 t = inB V c 4 t := by dsimp only [datB]
theorem afterB_5 (c : Dev nD) (t : Fin cfg1.N) : (datB V c).after 5 t = inB V c 5 t := by dsimp only [datB]
theorem afterB_6 (c : Dev nD) (t : Fin cfg1.N) : (datB V c).after 6 t = inB V c 6 t := by dsimp only [datB]
theorem afterB_7 (c : Dev nD) (t : Fin cfg1.N) : (datB V c).after 7 t = outBlk (grid1.coords t) (inB V c 0 t) (inB V c 1 t) (inB V c 2 t) (inB V c 3 t) (inB V c 4 t) (inB V c 5 t) (inB V c 6 t) := by dsimp only [datB]

/-- Each input's buffer holds its block whenever the body runs. -/
theorem beforeB_0 (c : Dev nD) (t : Fin cfg1.N) (d) : (datB V c).before 0 t d = inB V c 0 t :=
  ((datB V c).before_in_eq_fetched 0 rfl (fun _ => rfl) (fun _ _ _ => rfl)
    (fun t => by rw [afterB_0]; unfold Dat.blockOf inB; rw [datB_A]) t d).trans (by unfold Dat.fetched Dat.blockOf inB; rw [datB_A]; rfl)
theorem beforeB_1 (c : Dev nD) (t : Fin cfg1.N) (d) : (datB V c).before 1 t d = inB V c 1 t :=
  ((datB V c).before_in_eq_fetched 1 rfl (fun _ => rfl) (fun _ _ _ => rfl)
    (fun t => by rw [afterB_1]; unfold Dat.blockOf inB; rw [datB_A]) t d).trans (by unfold Dat.fetched Dat.blockOf inB; rw [datB_A]; rfl)
theorem beforeB_2 (c : Dev nD) (t : Fin cfg1.N) (d) : (datB V c).before 2 t d = inB V c 2 t :=
  ((datB V c).before_in_eq_fetched 2 rfl (fun _ => rfl) (fun _ _ _ => rfl)
    (fun t => by rw [afterB_2]; unfold Dat.blockOf inB; rw [datB_A]) t d).trans (by unfold Dat.fetched Dat.blockOf inB; rw [datB_A]; rfl)
theorem beforeB_3 (c : Dev nD) (t : Fin cfg1.N) (d) : (datB V c).before 3 t d = inB V c 3 t :=
  ((datB V c).before_in_eq_fetched 3 rfl (fun _ => rfl) (fun _ _ _ => rfl)
    (fun t => by rw [afterB_3]; unfold Dat.blockOf inB; rw [datB_A]) t d).trans (by unfold Dat.fetched Dat.blockOf inB; rw [datB_A]; rfl)
theorem beforeB_4 (c : Dev nD) (t : Fin cfg1.N) (d) : (datB V c).before 4 t d = inB V c 4 t :=
  ((datB V c).before_in_eq_fetched 4 rfl (fun _ => rfl) (fun _ _ _ => rfl)
    (fun t => by rw [afterB_4]; unfold Dat.blockOf inB; rw [datB_A]) t d).trans (by unfold Dat.fetched Dat.blockOf inB; rw [datB_A]; rfl)
theorem beforeB_5 (c : Dev nD) (t : Fin cfg1.N) (d) : (datB V c).before 5 t d = inB V c 5 t :=
  ((datB V c).before_in_eq_fetched 5 rfl (fun _ => rfl) (fun _ _ _ => rfl)
    (fun t => by rw [afterB_5]; unfold Dat.blockOf inB; rw [datB_A]) t d).trans (by unfold Dat.fetched Dat.blockOf inB; rw [datB_A]; rfl)
theorem beforeB_6 (c : Dev nD) (t : Fin cfg1.N) (d) : (datB V c).before 6 t d = inB V c 6 t :=
  ((datB V c).before_in_eq_fetched 6 rfl (fun _ => rfl) (fun _ _ _ => rfl)
    (fun t => by rw [afterB_6]; unfold Dat.blockOf inB; rw [datB_A]) t d).trans (by unfold Dat.fetched Dat.blockOf inB; rw [datB_A]; rfl)

/-- What the body is called with at a point, window by window, -/
def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d))
    ∗ (∃ d, owns (c : Thread nD τ) (st1_5 t) fullShare ((datB V c).before 5 t d))
    ∗ (∃ d, owns (c : Thread nD τ) (st1_6 t) fullShare ((datB V c).before 6 t d))
    ∗ (∃ d, owns (c : Thread nD τ) (st1_7 t) fullShare ((datB V c).before 7 t d)))

/-- and what it gives back. -/
def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t)
    ∗ owns (c : Thread nD τ) (st1_5 t) fullShare ((datB V c).after 5 t)
    ∗ owns (c : Thread nD τ) (st1_6 t) fullShare ((datB V c).after 6 t)
    ∗ owns (c : Thread nD τ) (st1_7 t) fullShare ((datB V c).after 7 t))

/-- The body at any point gives back the proof data's values. -/
theorem bodyB (c : Dev nD) (t : Fin cfg1.N) :
    preB V c t ⊢ wp frame (wpE (defs₀ (F := F)) Variants.none c none) Set.univ (bodyAt1 t) (fun _ => postB V c t) := by
  unfold preB postB bodyAt1
  simp only [beforeB_0, beforeB_1, beforeB_2, beforeB_3, beforeB_4, beforeB_5, beforeB_6]
  rw [show (datB V c).Φ t.succ = (datB V c).Φ t.castSucc from rfl,
    show (datB V c).owesAt () t.succ = (datB V c).owesAt () t.castSucc from rfl,
    afterB_0, afterB_1, afterB_2, afterB_3, afterB_4, afterB_5, afterB_6, afterB_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_second c Set.univ (grid1.coords t) _ _ _ _ _ _ _ _ _ _ _ _ _ _ _ _ (inB V c 0 t) (inB V c 1 t) (inB V c 2 t) (inB V c 3 t) (inB V c 4 t) (inB V c 5 t) (inB V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots is the body. -/
theorem rowB (t : Fin cfg1.N) :
    defs₀ (F := F) .tc cfg1.body (cfg1.bodyArgs t (cfg1.slots t)) = bodyAt1 t := by
  unfold defs₀; rw [Defs.onTc_tc]

/-- The library's obligation on the body, at every point. -/
theorem obligationB (c : Dev nD) : BodyObligation (datB (F := F) V c) (defs₀ (F := F)) Variants.none () Set.univ := fun t => by
  rw [bigSep_W1, bigSep_W1, rowB]
  exact triple_restated (bodyB V c t) rfl .rfl fun _ => .rfl

end Region

end Cert.KernelIdeal.Spike

end
-- ==== Proof.Run.lean ====
/- The whole run: @main is a host stretch, the first pass, three host stretches and the second pass. What every buffer holds
   at each boundary, the two passes as segments, and what every execution ends with. -/
module

public import proofs.«01_k».proof.Proof.RegionA
public import proofs.«01_k».proof.Proof.RegionB
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Spike

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At the launch. -/
abbrev H0 : Dev nD → Valuation τ sig (Elt F) := fun c b => (s₀ m ρ).mem ((c : Dev nD), b)
/-- Where the first pass begins: the tables are written. -/
abbrev H1 : Dev nD → Valuation τ sig (Elt F) := fun c => StableHlo.after hostOps0 (H0 m ρ c)
/-- The same, at the TensorCore's references. -/
abbrev E1 : (c : Dev nD) → (b : Ref sig .tc) → Buf (Elt F) ((c : Thread nD τ).loc b) := fun c b => H1 m ρ c b
/-- Where the first pass ends: its arrays at what its write-backs leave. -/
def H2 (c : Dev nD) : Valuation τ sig (Elt F) :=
  Pipeline.withArrays spec0 c (H1 m ρ c) fun w => (datA (E1 m ρ) c).arrAt w cfg0.N
abbrev E2 : (c : Dev nD) → (b : Ref sig .tc) → Buf (Elt F) ((c : Thread nD τ).loc b) := fun c b => H2 m ρ c b
/-- After each of the host stretches between the passes. -/
abbrev H3 : Dev nD → Valuation τ sig (Elt F) := fun c => StableHlo.after hostOps1 (H2 m ρ c)
abbrev H4 : Dev nD → Valuation τ sig (Elt F) := fun c => StableHlo.after hostOps1_1 (H3 m ρ c)
/-- Where the second pass begins. -/
abbrev H5 : Dev nD → Valuation τ sig (Elt F) := fun c => StableHlo.after hostOps1_2 (H4 m ρ c)
abbrev E5 : (c : Dev nD) → (b : Ref sig .tc) → Buf (Elt F) ((c : Thread nD τ).loc b) := fun c b => H5 m ρ c b
/-- Where the second pass, and the program, ends. -/
def H6 (c : Dev nD) : Valuation τ sig (Elt F) :=
  Pipeline.withArrays spec1 c (H5 m ρ c) fun w => (datB (E5 m ρ) c).arrAt w cfg1.N
abbrev E6 : (c : Dev nD) → (b : Ref sig .tc) → Buf (Elt F) ((c : Thread nD τ).loc b) := fun c b => H6 m ρ c b

theorem H1_of (c : Dev nD) (r : Ref sig .tc) (h : r ∉ hostOps0_W) : H1 m ρ c (Proc.devRef .tc r) = H0 m ρ c (Proc.devRef .tc r) :=
  StableHlo.after_of_writes_sub hostOps0 _ hostOps0_writes h
theorem H2_arr (c : Dev nD) (w : Fin cfg0.W) :
    H2 m ρ c (Proc.devRef .tc (Pipeline.arrRef spec0 w)) = (datA (E1 m ρ) c).arrAt w cfg0.N := by
  unfold H2; exact Pipeline.withArrays_arr spec0 launch0.win.arr_inj c _ _ w
theorem H2_rest (c : Dev nD) (b : Ref sig .tc) (hb : ∀ w, Pipeline.arrRef spec0 w ≠ b) :
    H2 m ρ c (Proc.devRef .tc b) = H1 m ρ c (Proc.devRef .tc b) := by
  unfold H2; exact Pipeline.withArrays_of_ne spec0 c _ _ b hb
/-- An input array of the first pass is left as it was. -/
theorem H2_in (c : Dev nD) (w : Fin cfg0.W) (h : (cfg0.win w).isOut = false) :
    H2 m ρ c (Proc.devRef .tc (Pipeline.arrRef spec0 w)) = H1 m ρ c (Proc.devRef .tc (Pipeline.arrRef spec0 w)) :=
  (H2_arr m ρ c w).trans (((datA (E1 m ρ) c).arrAt_in w h _).trans (datA_A (E1 m ρ) c w))
theorem H3_of (c : Dev nD) (r : Ref sig .tc) (h : r ∉ hostOps1_W) : H3 m ρ c (Proc.devRef .tc r) = H2 m ρ c (Proc.devRef .tc r) :=
  StableHlo.after_of_writes_sub hostOps1 _ hostOps1_writes h
theorem H4_of (c : Dev nD) (r : Ref sig .tc) (h : r ∉ hostOps1_1_W) : H4 m ρ c (Proc.devRef .tc r) = H3 m ρ c (Proc.devRef .tc r) :=
  StableHlo.after_of_writes_sub hostOps1_1 _ hostOps1_1_writes h
theorem H5_of (c : Dev nD) (r : Ref sig .tc) (h : r ∉ hostOps1_2_W) : H5 m ρ c (Proc.devRef .tc r) = H4 m ρ c (Proc.devRef .tc r) :=
  StableHlo.after_of_writes_sub hostOps1_2 _ hostOps1_2_writes h
/-- A buffer that no host stretch between the passes writes. -/
theorem H5_eq_H2 (c : Dev nD) (r : Ref sig .tc) (h1 : r ∉ hostOps1_W) (h2 : r ∉ hostOps1_1_W) (h3 : r ∉ hostOps1_2_W) :
    H5 m ρ c (Proc.devRef .tc r) = H2 m ρ c (Proc.devRef .tc r) :=
  (H5_of m ρ c r h3).trans ((H4_of m ρ c r h2).trans (H3_of m ρ c r h1))
theorem H6_arr (c : Dev nD) (w : Fin cfg1.W) :
    H6 m ρ c (Proc.devRef .tc (Pipeline.arrRef spec1 w)) = (datB (E5 m ρ) c).arrAt w cfg1.N := by
  unfold H6; exact Pipeline.withArrays_arr spec1 launch1.win.arr_inj c _ _ w
theorem H6_rest (c : Dev nD) (b : Ref sig .tc) (hb : ∀ w, Pipeline.arrRef spec1 w ≠ b) :
    H6 m ρ c (Proc.devRef .tc b) = H5 m ρ c (Proc.devRef .tc b) := by
  unfold H6; exact Pipeline.withArrays_of_ne spec1 c _ _ b hb
/-- An input array of the second pass is left as it was. -/
theorem H6_in (c : Dev nD) (w : Fin cfg1.W) (h : (cfg1.win w).isOut = false) :
    H6 m ρ c (Proc.devRef .tc (Pipeline.arrRef spec1 w)) = H5 m ρ c (Proc.devRef .tc (Pipeline.arrRef spec1 w)) :=
  (H6_arr m ρ c w).trans (((datB (E5 m ρ) c).arrAt_in w h _).trans (datB_A (E5 m ρ) c w))

/-- The argument ends as launched: the host stretches do not write it, and each pass only reads it. -/
theorem H6_main_arg0 (c : Dev nD) : H6 m ρ c (Proc.devRef .tc main_arg0) = m ((c : Thread nD τ).loc main_arg0) :=
  (H6_in m ρ c 0 rfl).trans ((H5_eq_H2 m ρ c main_arg0 (by decide) (by decide) (by decide)).trans
    ((H2_in m ρ c 0 rfl).trans (H1_of m ρ c main_arg0 (by decide))))

/-- The integer mask ends at what the first pass writes back. -/
theorem H6_mask (c : Dev nD) : H6 m ρ c (Proc.devRef .tc main_v0_2) = (datA (E1 m ρ) c).arrAt 5 cfg0.N :=
  (H6_rest m ρ c main_v0_2 (by decide)).trans ((H5_eq_H2 m ρ c main_v0_2 (by decide) (by decide) (by decide)).trans (H2_arr m ρ c 5))

/-- The spikes end at what the second pass writes back. -/
theorem H6_out (c : Dev nD) : H6 m ρ c (Proc.devRef .tc main_v8) = (datB (E5 m ρ) c).arrAt 7 cfg1.N := H6_arr m ρ c 7

/-! ## The proof data of both passes, and what rides along -/

/-- Each pass's proof data at the contents it begins with. -/
def dats : (p : Fin 2) → (c : Dev nD) → Dat τ (Elt F) Unit ℕ (UR sig nD τ) ℕ (Pipeline.pin (pcfgs (F := F)) adm p) c
  | ⟨0, _⟩ => fun c => datA (E1 m ρ) c
  | ⟨1, _⟩ => fun c => datB (E5 m ρ) c
/-- No core owes another anything. -/
abbrev noLevel : GSem nD τ sig → Finset Unit := fun _ => ∅
abbrev lvl : GSem nD τ sig → Unit → ℕ := fun _ _ => 0
/-- Beside the buffers: the generator's register, and nothing owed. -/
abbrev Beside (c : Dev nD) : sProp 𝕄 := iprop((∃ r, prngReg c r) ∗ ∃ W, owes (c : Thread nD τ) (0 : CellTallies nD τ sig Unit) W)
/-- The thread's state at a boundary: every unscoped buffer at the given contents, and the rest beside. -/
abbrev At (W : Dev nD → Valuation τ sig (Elt F)) (c : Dev nD) : sProp 𝕄 :=
  iprop(StableHlo.held (c : Thread nD τ) (Pipeline.ucRefs τ sig) (W c) ∗ Beside c)
/-- A host stretch as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevel lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

/-- An unscoped reference is among those the thread's state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The passes as segments -/

set_option backward.isDefEq.respectTransparency.types false in
/-- The first pass as a segment: its arrays are taken out of the unscoped buffers on entry and put back on exit. -/
def pass0 : Pipeline.RegionSeg (pcfgs (F := F)) adm (dats m ρ) () defs₀ Variants.none noLevel lvl 0 where
  win := launch0.win.to₀
  block_pos := launch0.block_pos
  stage_whole := launch0.stage_whole
  K := PEmpty
  osem k := k.elim
  ho := Pipeline.OwnSemFacts.none _
  hbody c := (obligationA (E1 m ρ) c).loose
  hwaits := Pipeline.hwaits_of_owed_zero _ _ _ _ noLevel lvl 0 fun _ _ => rfl
  pre := At (H1 m ρ)
  post := At (H2 m ρ)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (dats m ρ) launch0.win launch0.arr_whole c
      ((dats m ρ 0 c).share_full fun _ => rfl) (E1 m ρ c) (datA_A (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (dats m ρ) ((dats m ρ 0 c).share_full fun _ => rfl)
      (E1 m ρ c) (E2 m ρ c) ((dats m ρ 0 c).arrAt · cfg0.N) (fun w => (H2_arr m ρ c w).symm)
      (fun b hb => H2_rest m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass as a segment, likewise. -/
def pass1 : Pipeline.RegionSeg (pcfgs (F := F)) adm (dats m ρ) () defs₀ Variants.none noLevel lvl 1 where
  win := launch1.win.to₀
  block_pos := launch1.block_pos
  stage_whole := launch1.stage_whole
  K := PEmpty
  osem k := k.elim
  ho := Pipeline.OwnSemFacts.none _
  hbody c := (obligationB (E5 m ρ) c).loose
  hwaits := Pipeline.hwaits_of_owed_zero _ _ _ _ noLevel lvl 1 fun _ _ => rfl
  pre := At (H5 m ρ)
  post := At (H6 m ρ)
  X c := iprop(∃ r, prngReg c r)
  Y c := iprop(∃ r, prngReg c r)
  Z c := Pipeline.unscopedRest (Ix := Unit) (Name := ℕ) (U := UR sig nD τ) (Lvl := ℕ) spec1 c (E5 m ρ c)
  hentry c := by
    rw [Pipeline.ownSems0_none]
    have hsplit := Pipeline.arrays_of_unscopedBufs (p := 1) (pcfgs (F := F)) adm (dats m ρ) launch1.win launch1.arr_whole c
      ((dats m ρ 1 c).share_full fun _ => rfl) (E5 m ρ c) (datB_A (E5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (dats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (dats m ρ) ((dats m ρ 1 c).share_full fun _ => rfl)
      (E5 m ρ c) (E6 m ρ c) ((dats m ρ 1 c).arrAt · cfg1.N) (fun w => (H6_arr m ρ c w).symm)
      (fun b hb => H6_rest m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- @main's six segments, in order. -/
abbrev pieces : List (Pipeline.Seg (pcfgs (F := F)) adm (dats m ρ) () defs₀ Variants.none noLevel lvl) :=
  [ .host (stretch hostOps0 hostOps0_sub hostOps0_fresh (H0 m ρ)),
    .region (pass0 m ρ),
    .host (stretch hostOps1 hostOps1_sub hostOps1_fresh (H2 m ρ)),
    .host (stretch hostOps1_1 hostOps1_1_sub hostOps1_1_fresh (H3 m ρ)),
    .host (stretch hostOps1_2 hostOps1_2_sub hostOps1_2_fresh (H4 m ρ)),
    .region (pass1 m ρ) ]
theorem main_pieces (c : Dev nD) : main (F := F) c = Pipeline.Seg.run (pieces m ρ) := (main_chain c).trans (by chain_rfl)

/-- The last thread state, the debts set beside it. -/
abbrev Fin₆ (c : Dev nD) : sProp 𝕄 := iprop(StableHlo.held (c : Thread nD τ) (Pipeline.ucRefs τ sig) (H6 m ρ c) ∗ ∃ r, prngReg c r)

theorem at_end (c : Dev nD) : (At (H6 m ρ) c : sProp 𝕄) ⊢ iprop(Fin₆ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Every execution terminates without a fault; at the end the argument is as launched, both results hold what the passes'
    write-backs leave, and every semaphore counter is zero. -/
theorem run_ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v8) = (datB (E5 m ρ) c).arrAt 7 cfg1.N
      ∧ r.2.mem ((c.tc : Thread nD τ).loc main_v0_2) = (datA (E1 m ρ) c).arrAt 5 cfg0.N)
      ∧ r.2.sem = fun _ => 0) :=
  Pipeline.θ_run_regions_kit_sems (pcfgs (F := F)) adm (dats m ρ) () cellOf_inj emb₁ defs₀ Variants.none noLevel lvl m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (H0 m ρ)) (Tₙ := Fin₆ m ρ)
    (hch := ⟨fun _ => .rfl, fun _ => .rfl, fun _ => .rfl, fun _ => .rfl, fun _ => .rfl, fun _ => .rfl, at_end m ρ⟩)
    (hinit := by
      refine Pipeline.initEach noLevel lvl fun c => ?_
      rw [show unscopedBufs c (fun b => m ((c : Thread nD τ).loc b)) = StableHlo.held (c : Thread nD τ) (Pipeline.ucRefs τ sig) (H0 m ρ c)
        from Pipeline.unscopedBufs_held c (H0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = H6 m ρ c b)
    (hfin := fun c s' => by
      iintro ⟨⟨Hh, -⟩, HSI⟩
      unfold StableHlo.held
      imodintro
      iapply (pointsTo_read_all (Pipeline.ucRefs τ sig) (fun b => (((c : Thread nD τ)).1, b)) (H6 m ρ c) s')
      isplitl [Hh] <;> iassumption)
    (hQ := fun s h hz => ⟨(fun c =>
      ⟨(h c _ (mem_held main_arg0 (by decide))).trans (H6_main_arg0 m ρ c),
       (h c _ (mem_held main_v8 (by decide))).trans (H6_out m ρ c),
       (h c _ (mem_held main_v0_2 (by decide))).trans (H6_mask m ρ c)⟩), funext fun g => hz g (.inr (regions_no_unscoped g.2))⟩)

/-- The argument ends as launched and every counter ends at zero. -/
theorem run_quiet : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).1, h.2⟩) (run_ends m ρ)

end Cert.KernelIdeal.Spike

end
-- ==== Proof.Steps.lean ====
/- Straight lines of host operations in single-assignment form: a line whose operations write buffers of increasing number and
   read only lower ones leaves contents at which every operation's equation holds. -/
module

public import Idealize.ShloMosaic.Lib.StableHlo.RunHlo

@[expose] public section

noncomputable section

namespace Cert.Spike

open Idealize.ShloMosaic Idealize.ShloMosaic.TcCoe
open Idealize.SL.Sem

variable {nD : Nat} {τ : Topo} {sig : RefSig} {Val : EltTy → Type} {Λ : Labels}

variable (τ sig Val) in
/-- One host operation, by its kind, its buffers and what it computes. -/
inductive Step where
  | konst (y : Ref sig .tc) (v : y.ty.Contents Val)
      (hy : y.space ≠ .host ∧ (y : DevRef τ sig).isScoped = false)
  | map (x y : Ref sig .tc) (f : x.ty.Contents Val → y.ty.Contents Val)
      (hx : x.space ≠ .host ∧ (x : DevRef τ sig).isScoped = false)
      (hy : y.space ≠ .host ∧ (y : DevRef τ sig).isScoped = false)
  | zip (a b y : Ref sig .tc) (f : a.ty.Contents Val → b.ty.Contents Val → y.ty.Contents Val)
      (ha : a.space ≠ .host ∧ (a : DevRef τ sig).isScoped = false)
      (hb : b.space ≠ .host ∧ (b : DevRef τ sig).isScoped = false)
      (hy : y.space ≠ .host ∧ (y : DevRef τ sig).isScoped = false)
  | zip3 (c a b y : Ref sig .tc)
      (f : c.ty.Contents Val → a.ty.Contents Val → b.ty.Contents Val → y.ty.Contents Val)
      (hc : c.space ≠ .host ∧ (c : DevRef τ sig).isScoped = false)
      (ha : a.space ≠ .host ∧ (a : DevRef τ sig).isScoped = false)
      (hb : b.space ≠ .host ∧ (b : DevRef τ sig).isScoped = false)
      (hy : y.space ≠ .host ∧ (y : DevRef τ sig).isScoped = false)
  | cast (x y : Ref sig .tc) (he : x.ty.elt = y.ty.elt) (hn : x.ty.shape.ShapeCasts y.ty.shape)
      (hx : x.space ≠ .host ∧ (x : DevRef τ sig).isScoped = false)
      (hy : y.space ≠ .host ∧ (y : DevRef τ sig).isScoped = false)

namespace Step

/-- The operation itself. -/
def op : Step τ sig Val → HloOp τ sig Val
  | konst y v hy => StableHlo.nullary y v hy
  | map x y f hx hy => StableHlo.unary x y f hx hy
  | zip a b y f ha hb hy => StableHlo.binary a b y f ha hb hy
  | zip3 c a b y f hc ha hb hy => StableHlo.ternary c a b y f hc ha hb hy
  | cast x y he hn hx hy => StableHlo.reshape x y he hn hx hy

/-- The buffer it writes. -/
def out : Step τ sig Val → Ref sig .tc
  | konst y _ _ => y
  | map _ y _ _ _ => y
  | zip _ _ y _ _ _ _ => y
  | zip3 _ _ _ y _ _ _ _ _ => y
  | cast _ y _ _ _ _ => y

/-- Its equation at contents `Z`: the buffer it writes holds what it computes from the buffers it reads. -/
def Eqn (Z : Valuation τ sig Val) : Step τ sig Val → Prop
  | konst y v _ => Z y = v
  | map x y f _ _ => Z y = f (Z x)
  | zip a b y f _ _ _ => Z y = f (Z a) (Z b)
  | zip3 c a b y f _ _ _ _ => Z y = f (Z c) (Z a) (Z b)
  | cast x y he hn _ _ => Z y = fun i => he ▸ shapeCast y.ty.shape (Z x) hn i

/-- Every buffer it reads has a number below `n`. -/
def Below (n : ℕ) : Step τ sig Val → Prop
  | konst _ _ _ => True
  | map x _ _ _ _ => x.idx.val < n
  | zip a b _ _ _ _ _ => a.idx.val < n ∧ b.idx.val < n
  | zip3 c a b _ _ _ _ _ _ => c.idx.val < n ∧ a.idx.val < n ∧ b.idx.val < n
  | cast x _ _ _ _ _ => x.idx.val < n

instance (n : ℕ) : (s : Step τ sig Val) → Decidable (s.Below n)
  | konst _ _ _ => isTrue trivial
  | map x _ _ _ _ => inferInstanceAs (Decidable (x.idx.val < n))
  | zip a b _ _ _ _ _ => inferInstanceAs (Decidable (a.idx.val < n ∧ b.idx.val < n))
  | zip3 c a b _ _ _ _ _ _ => inferInstanceAs (Decidable (c.idx.val < n ∧ a.idx.val < n ∧ b.idx.val < n))
  | cast x _ _ _ _ _ => inferInstanceAs (Decidable (x.idx.val < n))

theorem op_writes (s : Step τ sig Val) : s.op.writes = {Proc.devRef .tc s.out} := by
  cases s <;> rfl

theorem op_fresh (s : Step τ sig Val) : s.op.fresh = ∅ := by
  cases s <;> rfl

theorem op_bufs (s : Step τ sig Val) : s.op.bufs ⊆ StableHlo.tcRefs τ sig := by
  cases s <;> simp [op]

/-- If the contents `Z` agree with `V` on every buffer below the written one, and hold at the written one what the operation
    leaves from `V`, the operation's equation holds at `Z`. -/
theorem eqn_of_result {V Z : Valuation τ sig Val} (s : Step τ sig Val) (hb : s.Below s.out.idx.val)
    (hV : ∀ r : Ref sig .tc, r.idx.val < s.out.idx.val → Z r = V r)
    (hZ : Z s.out = s.op.result V s.out) : s.Eqn Z := by
  cases s with
  | konst y v hy => exact hZ.trans (StableHlo.nullary_result' v hy V)
  | map x y f hx hy =>
    refine hZ.trans ((StableHlo.unary_result' f hx hy V).trans ?_)
    rw [← hV x hb]
  | zip a b y f ha hb' hy =>
    refine hZ.trans ((StableHlo.binary_result' f ha hb' hy V).trans ?_)
    rw [← hV a hb.1, ← hV b hb.2]
  | zip3 c a b y f hc ha hb' hy =>
    refine hZ.trans ((StableHlo.ternary_result' f hc ha hb' hy V).trans ?_)
    rw [← hV c hb.1, ← hV a hb.2.1, ← hV b hb.2.2]
  | cast x y he hn hx hy =>
    refine hZ.trans ((StableHlo.reshape_result' he hn hx hy V).trans ?_)
    rw [← hV x hb]

end Step

/-- The line of the steps' operations. -/
def opsOf (l : List (Step τ sig Val)) : List (HloOp τ sig Val) := l.map Step.op

/-- Every step reads only buffers below the one it writes, the written numbers increase, and all are above `n`. -/
def Ordered : ℕ → List (Step τ sig Val) → Prop
  | _, [] => True
  | n, s :: l => n < s.out.idx.val ∧ s.Below s.out.idx.val ∧ Ordered s.out.idx.val l

instance instDecOrdered : (n : ℕ) → (l : List (Step τ sig Val)) → Decidable (Ordered n l)
  | _, [] => isTrue trivial
  | n, s :: l =>
    have := instDecOrdered s.out.idx.val l
    inferInstanceAs (Decidable (n < s.out.idx.val ∧ s.Below s.out.idx.val ∧ Ordered s.out.idx.val l))

/-- Every step's equation holds at `Z`. -/
def Holds (Z : Valuation τ sig Val) : List (Step τ sig Val) → Prop
  | [] => True
  | s :: l => s.Eqn Z ∧ Holds Z l

theorem holds_append (Z : Valuation τ sig Val) (l l' : List (Step τ sig Val)) :
    Holds Z (l ++ l') ↔ Holds Z l ∧ Holds Z l' := by
  induction l with
  | nil => simp [Holds]
  | cons s l ih => simp [Holds, ih, and_assoc]

/-- An ordered line writing above `n` leaves a buffer of number at most `n` alone. -/
theorem after_low : (n : ℕ) → (l : List (Step τ sig Val)) → Ordered n l → (V : Valuation τ sig Val) →
    (r : Ref sig .tc) → r.idx.val ≤ n → StableHlo.after (opsOf l) V r = V r
  | _, [], _, _, _, _ => rfl
  | n, s :: l, h, V, r, hr => by
    have h1 : StableHlo.after (opsOf (s :: l)) V r = StableHlo.after (opsOf l) (s.op.result V) r := rfl
    rw [h1, after_low _ l h.2.2 _ r (hr.trans h.1.le)]
    refine s.op.result_of_not_mem V ?_
    rw [Step.op_writes, Finset.mem_singleton]
    intro e
    have := Proc.devRef_injective _ e
    subst this
    exact absurd h.1 (not_lt.mpr hr)

/-- An ordered line leaves contents at which every one of its equations holds. -/
theorem after_holds : (n : ℕ) → (l : List (Step τ sig Val)) → Ordered n l → (V : Valuation τ sig Val) →
    Holds (StableHlo.after (opsOf l) V) l
  | _, [], _, _ => trivial
  | n, s :: l, h, V => by
    have h1 : StableHlo.after (opsOf (s :: l)) V = StableHlo.after (opsOf l) (s.op.result V) := rfl
    refine ⟨?_, ?_⟩
    · rw [h1]
      refine s.eqn_of_result (V := V) h.2.1 (fun r hr => ?_) ?_
      · rw [after_low _ l h.2.2 _ r hr.le]
        refine s.op.result_of_not_mem V ?_
        rw [Step.op_writes, Finset.mem_singleton]
        intro e
        have := Proc.devRef_injective _ e
        subst this
        exact absurd hr (lt_irrefl _)
      · exact after_low _ l h.2.2 _ _ le_rfl
    · rw [h1]; exact after_holds _ l h.2.2 _

/-! ## Reading a line off a program -/

/-- `p` is the straight line of the steps `l`. -/
def IsLine (p : Prog (TpuEff nD τ sig Val Λ .tc) PUnit) (l : List (Step τ sig Val)) : Prop :=
  StableHlo.IsSeq p (opsOf l)

namespace IsLine

theorem nil : IsLine (nD := nD) (Λ := Λ) (pure ⟨⟩ : Prog (TpuEff nD τ sig Val Λ .tc) PUnit) ([] : List (Step τ sig Val)) := rfl

/-- Two lines one after the other. -/
theorem append {p k : Prog (TpuEff nD τ sig Val Λ .tc) PUnit} {l l' : List (Step τ sig Val)}
    (h : IsLine p l) (h' : IsLine k l') : IsLine (p >>= fun _ => k) (l ++ l') := by
  unfold IsLine StableHlo.IsSeq opsOf at *
  rw [List.map_append, StableHlo.seq_append, h, h']

variable {k : Prog (TpuEff nD τ sig Val Λ .tc) PUnit} {l : List (Step τ sig Val)}

/-- A line of one constant. -/
theorem konst1 {y : Ref sig .tc} {v : y.ty.Contents Val} {hy} :
    IsLine (nD := nD) (Λ := Λ) (hlo rfl (StableHlo.nullary y v hy : HloOp τ sig Val) fun _ => .ret (⟨⟩ : PUnit))
      [.konst y v hy] := rfl

/-- A line of one operation of one operand. -/
theorem map1 {x y : Ref sig .tc} {f : x.ty.Contents Val → y.ty.Contents Val} {hx hy} :
    IsLine (nD := nD) (Λ := Λ) (hlo rfl (StableHlo.unary x y f hx hy : HloOp τ sig Val) fun _ => .ret (⟨⟩ : PUnit))
      [.map x y f hx hy] := rfl

/-- A line of one operation of two operands. -/
theorem zip1 {a b y : Ref sig .tc} {f : a.ty.Contents Val → b.ty.Contents Val → y.ty.Contents Val} {ha hb hy} :
    IsLine (nD := nD) (Λ := Λ) (hlo rfl (StableHlo.binary a b y f ha hb hy : HloOp τ sig Val) fun _ => .ret (⟨⟩ : PUnit))
      [.zip a b y f ha hb hy] := rfl

theorem konst {y : Ref sig .tc} {v : y.ty.Contents Val} {hy} (h : IsLine k l) :
    IsLine ((hlo rfl (StableHlo.nullary y v hy : HloOp τ sig Val) fun _ => .ret (⟨⟩ : PUnit)) >>= fun _ => k)
      (.konst y v hy :: l) := StableHlo.IsSeq.cons h

theorem map {x y : Ref sig .tc} {f : x.ty.Contents Val → y.ty.Contents Val} {hx hy} (h : IsLine k l) :
    IsLine ((hlo rfl (StableHlo.unary x y f hx hy : HloOp τ sig Val) fun _ => .ret (⟨⟩ : PUnit)) >>= fun _ => k)
      (.map x y f hx hy :: l) := StableHlo.IsSeq.cons h

theorem zip {a b y : Ref sig .tc} {f : a.ty.Contents Val → b.ty.Contents Val → y.ty.Contents Val} {ha hb hy}
    (h : IsLine k l) :
    IsLine ((hlo rfl (StableHlo.binary a b y f ha hb hy : HloOp τ sig Val) fun _ => .ret (⟨⟩ : PUnit)) >>= fun _ => k)
      (.zip a b y f ha hb hy :: l) := StableHlo.IsSeq.cons h

theorem zip3 {c a b y : Ref sig .tc} {f : c.ty.Contents Val → a.ty.Contents Val → b.ty.Contents Val → y.ty.Contents Val}
    {hc ha hb hy} (h : IsLine k l) :
    IsLine ((hlo rfl (StableHlo.ternary c a b y f hc ha hb hy : HloOp τ sig Val) fun _ => .ret (⟨⟩ : PUnit)) >>= fun _ => k)
      (.zip3 c a b y f hc ha hb hy :: l) := StableHlo.IsSeq.cons h

theorem cast {x y : Ref sig .tc} {he : x.ty.elt = y.ty.elt} {hn : x.ty.shape.ShapeCasts y.ty.shape} {hx hy}
    (h : IsLine k l) :
    IsLine ((hlo rfl (StableHlo.reshape x y he hn hx hy : HloOp τ sig Val) fun _ => .ret (⟨⟩ : PUnit)) >>= fun _ => k)
      (.cast x y he hn hx hy :: l) := StableHlo.IsSeq.cons h

end IsLine

/-- A program of one ordered line runs to contents at which every equation of the line holds, the buffers numbered at most
    `n` as they were. -/
theorem run_line (defs : Defs nD τ sig Val Λ) (main : Dev nD → Prog (TpuEff nD τ sig Val Λ .tc) PUnit)
    {l : List (Step τ sig Val)} (hmain : ∀ d, IsLine (main d) l) {n : ℕ} (ho : Ordered n l)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ d : Dev nD,
        (∀ b : Ref sig .tc, r.2.mem ((d.tc : Thread nD τ).loc b)
          = StableHlo.after (opsOf l) (StableHlo.launchContents m d) (Proc.devRef .tc b)) := by
  refine StableHlo.run_hlo defs main hmain hR hC ?_ ?_ m ρ
  · rw [List.forall_iff_forall_mem]
    intro op hop
    obtain ⟨s, _, rfl⟩ := List.mem_map.mp hop
    exact s.op_bufs
  · intro op hop
    obtain ⟨s, _, rfl⟩ := List.mem_map.mp hop
    exact s.op_fresh

end Cert.Spike
-- ==== Proof.RefLine.lean ====
/- The reference's @main as one straight line of host operations: each function's body as the list of its steps, over the
   buffers of one call, and the run. -/
module

public import proofs.«01_k».proof.Proof.Steps
public import proofs.«01_k».proof.Proof.Gen.ReferenceIdeal
public import Idealize.ShloMosaic.Lib.Pipeline.Quiescent
public import Idealize.ShloMosaic.PureOps.Ideal

@[expose] public section

set_option maxRecDepth 65536

noncomputable section

namespace Cert.ReferenceIdeal.Spike

open Cert.ReferenceIdeal.Gen Cert.Spike
open Idealize.ShloMosaic Idealize.ShloMosaic.TcCoe
open Idealize.SL.Sem

variable {F : FTy → Type} [FloatOps F]

/-- Steps of part 0 of the 4-wide threefry. -/
def threefry2x32_part0_line (k0 : StableHlo.TRef sig ⟨S_, .i32⟩) (k1 : StableHlo.TRef sig ⟨S_, .i32⟩) (a : StableHlo.TRef sig ⟨S4, .i32⟩) (b : StableHlo.TRef sig ⟨S4, .i32⟩) (φ : fn_threefry2x32.Bufs) :
    {l : List (Step τ sig (Elt F)) // IsLine (fn_threefry2x32.body_part0 (F := F) k0 k1 a b φ) l} := by
  constructor
  unfold fn_threefry2x32.body_part0
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 1 of the 4-wide threefry. -/
def threefry2x32_part1_line (k0 : StableHlo.TRef sig ⟨S_, .i32⟩) (k1 : StableHlo.TRef sig ⟨S_, .i32⟩) (a : StableHlo.TRef sig ⟨S4, .i32⟩) (b : StableHlo.TRef sig ⟨S4, .i32⟩) (φ : fn_threefry2x32.Bufs) :
    {l : List (Step τ sig (Elt F)) // IsLine (fn_threefry2x32.body_part1 (F := F) k0 k1 a b φ) l} := by
  constructor
  unfold fn_threefry2x32.body_part1
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 2 of the 4-wide threefry. -/
def threefry2x32_part2_line (k0 : StableHlo.TRef sig ⟨S_, .i32⟩) (k1 : StableHlo.TRef sig ⟨S_, .i32⟩) (a : StableHlo.TRef sig ⟨S4, .i32⟩) (b : StableHlo.TRef sig ⟨S4, .i32⟩) (φ : fn_threefry2x32.Bufs) :
    {l : List (Step τ sig (Elt F)) // IsLine (fn_threefry2x32.body_part2 (F := F) k0 k1 a b φ) l} := by
  constructor
  unfold fn_threefry2x32.body_part2
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 3 of the 4-wide threefry. -/
def threefry2x32_part3_line (k0 : StableHlo.TRef sig ⟨S_, .i32⟩) (k1 : StableHlo.TRef sig ⟨S_, .i32⟩) (a : StableHlo.TRef sig ⟨S4, .i32⟩) (b : StableHlo.TRef sig ⟨S4, .i32⟩) (φ : fn_threefry2x32.Bufs) :
    {l : List (Step τ sig (Elt F)) // IsLine (fn_threefry2x32.body_part3 (F := F) k0 k1 a b φ) l} := by
  constructor
  unfold fn_threefry2x32.body_part3
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of the 4-wide threefry. -/
def threefry2x32_line (k0 : StableHlo.TRef sig ⟨S_, .i32⟩) (k1 : StableHlo.TRef sig ⟨S_, .i32⟩) (a : StableHlo.TRef sig ⟨S4, .i32⟩) (b : StableHlo.TRef sig ⟨S4, .i32⟩) (φ : fn_threefry2x32.Bufs) :
    {l : List (Step τ sig (Elt F)) // IsLine (fn_threefry2x32.body (F := F) k0 k1 a b φ) l} := by
  constructor
  unfold fn_threefry2x32.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | with_reducible apply IsLine.append (threefry2x32_part0_line ..).2 | with_reducible apply IsLine.append (threefry2x32_part1_line ..).2 | with_reducible apply IsLine.append (threefry2x32_part2_line ..).2 | with_reducible exact (threefry2x32_part3_line ..).2)

/-- Steps of part 0 of the mask-shaped threefry. -/
def threefry2x32_0_part0_line (k0 : StableHlo.TRef sig ⟨S_, .i32⟩) (k1 : StableHlo.TRef sig ⟨S_, .i32⟩) (a : StableHlo.TRef sig ⟨S16x768, .i32⟩) (b : StableHlo.TRef sig ⟨S16x768, .i32⟩) (φ : fn_threefry2x32_0.Bufs) :
    {l : List (Step τ sig (Elt F)) // IsLine (fn_threefry2x32_0.body_part0 (F := F) k0 k1 a b φ) l} := by
  constructor
  unfold fn_threefry2x32_0.body_part0
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 1 of the mask-shaped threefry. -/
def threefry2x32_0_part1_line (k0 : StableHlo.TRef sig ⟨S_, .i32⟩) (k1 : StableHlo.TRef sig ⟨S_, .i32⟩) (a : StableHlo.TRef sig ⟨S16x768, .i32⟩) (b : StableHlo.TRef sig ⟨S16x768, .i32⟩) (φ : fn_threefry2x32_0.Bufs) :
    {l : List (Step τ sig (Elt F)) // IsLine (fn_threefry2x32_0.body_part1 (F := F) k0 k1 a b φ) l} := by
  constructor
  unfold fn_threefry2x32_0.body_part1
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 2 of the mask-shaped threefry. -/
def threefry2x32_0_part2_line (k0 : StableHlo.TRef sig ⟨S_, .i32⟩) (k1 : StableHlo.TRef sig ⟨S_, .i32⟩) (a : StableHlo.TRef sig ⟨S16x768, .i32⟩) (b : StableHlo.TRef sig ⟨S16x768, .i32⟩) (φ : fn_threefry2x32_0.Bufs) :
    {l : List (Step τ sig (Elt F)) // IsLine (fn_threefry2x32_0.body_part2 (F := F) k0 k1 a b φ) l} := by
  constructor
  unfold fn_threefry2x32_0.body_part2
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 3 of the mask-shaped threefry. -/
def threefry2x32_0_part3_line (k0 : StableHlo.TRef sig ⟨S_, .i32⟩) (k1 : StableHlo.TRef sig ⟨S_, .i32⟩) (a : StableHlo.TRef sig ⟨S16x768, .i32⟩) (b : StableHlo.TRef sig ⟨S16x768, .i32⟩) (φ : fn_threefry2x32_0.Bufs) :
    {l : List (Step τ sig (Elt F)) // IsLine (fn_threefry2x32_0.body_part3 (F := F) k0 k1 a b φ) l} := by
  constructor
  unfold fn_threefry2x32_0.body_part3
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of the mask-shaped threefry. -/
def threefry2x32_0_line (k0 : StableHlo.TRef sig ⟨S_, .i32⟩) (k1 : StableHlo.TRef sig ⟨S_, .i32⟩) (a : StableHlo.TRef sig ⟨S16x768, .i32⟩) (b : StableHlo.TRef sig ⟨S16x768, .i32⟩) (φ : fn_threefry2x32_0.Bufs) :
    {l : List (Step τ sig (Elt F)) // IsLine (fn_threefry2x32_0.body (F := F) k0 k1 a b φ) l} := by
  constructor
  unfold fn_threefry2x32_0.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | with_reducible apply IsLine.append (threefry2x32_0_part0_line ..).2 | with_reducible apply IsLine.append (threefry2x32_0_part1_line ..).2 | with_reducible apply IsLine.append (threefry2x32_0_part2_line ..).2 | with_reducible exact (threefry2x32_0_part3_line ..).2)

/-- Steps of part 0 of the full-shaped threefry. -/
def threefry2x32_3_part0_line (k0 : StableHlo.TRef sig ⟨S_, .i32⟩) (k1 : StableHlo.TRef sig ⟨S_, .i32⟩) (a : StableHlo.TRef sig ⟨S16x2048x768, .i32⟩) (b : StableHlo.TRef sig ⟨S16x2048x768, .i32⟩) (φ : fn_threefry2x32_3.Bufs) :
    {l : List (Step τ sig (Elt F)) // IsLine (fn_threefry2x32_3.body_part0 (F := F) k0 k1 a b φ) l} := by
  constructor
  unfold fn_threefry2x32_3.body_part0
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 1 of the full-shaped threefry. -/
def threefry2x32_3_part1_line (k0 : StableHlo.TRef sig ⟨S_, .i32⟩) (k1 : StableHlo.TRef sig ⟨S_, .i32⟩) (a : StableHlo.TRef sig ⟨S16x2048x768, .i32⟩) (b : StableHlo.TRef sig ⟨S16x2048x768, .i32⟩) (φ : fn_threefry2x32_3.Bufs) :
    {l : List (Step τ sig (Elt F)) // IsLine (fn_threefry2x32_3.body_part1 (F := F) k0 k1 a b φ) l} := by
  constructor
  unfold fn_threefry2x32_3.body_part1
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 2 of the full-shaped threefry. -/
def threefry2x32_3_part2_line (k0 : StableHlo.TRef sig ⟨S_, .i32⟩) (k1 : StableHlo.TRef sig ⟨S_, .i32⟩) (a : StableHlo.TRef sig ⟨S16x2048x768, .i32⟩) (b : StableHlo.TRef sig ⟨S16x2048x768, .i32⟩) (φ : fn_threefry2x32_3.Bufs) :
    {l : List (Step τ sig (Elt F)) // IsLine (fn_threefry2x32_3.body_part2 (F := F) k0 k1 a b φ) l} := by
  constructor
  unfold fn_threefry2x32_3.body_part2
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of part 3 of the full-shaped threefry. -/
def threefry2x32_3_part3_line (k0 : StableHlo.TRef sig ⟨S_, .i32⟩) (k1 : StableHlo.TRef sig ⟨S_, .i32⟩) (a : StableHlo.TRef sig ⟨S16x2048x768, .i32⟩) (b : StableHlo.TRef sig ⟨S16x2048x768, .i32⟩) (φ : fn_threefry2x32_3.Bufs) :
    {l : List (Step τ sig (Elt F)) // IsLine (fn_threefry2x32_3.body_part3 (F := F) k0 k1 a b φ) l} := by
  constructor
  unfold fn_threefry2x32_3.body_part3
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of the full-shaped threefry. -/
def threefry2x32_3_line (k0 : StableHlo.TRef sig ⟨S_, .i32⟩) (k1 : StableHlo.TRef sig ⟨S_, .i32⟩) (a : StableHlo.TRef sig ⟨S16x2048x768, .i32⟩) (b : StableHlo.TRef sig ⟨S16x2048x768, .i32⟩) (φ : fn_threefry2x32_3.Bufs) :
    {l : List (Step τ sig (Elt F)) // IsLine (fn_threefry2x32_3.body (F := F) k0 k1 a b φ) l} := by
  constructor
  unfold fn_threefry2x32_3.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | with_reducible apply IsLine.append (threefry2x32_3_part0_line ..).2 | with_reducible apply IsLine.append (threefry2x32_3_part1_line ..).2 | with_reducible apply IsLine.append (threefry2x32_3_part2_line ..).2 | with_reducible exact (threefry2x32_3_part3_line ..).2)

/-- Steps of the splitting of a key. -/
def threefry_split_line (k : StableHlo.TRef sig ⟨S2, .i32⟩) (φ : fn_threefry_split.Bufs) :
    {l : List (Step τ sig (Elt F)) // IsLine (fn_threefry_split.body (F := F) k φ) l} := by
  constructor
  unfold fn_threefry_split.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | with_reducible apply IsLine.append (threefry2x32_line ..).2)

/-- Steps of the mask-shaped uniform draw. -/
def uniform_line (k : StableHlo.TRef sig ⟨S2, .i32⟩) (lo : StableHlo.TRef sig ⟨S_, .f32⟩) (hi : StableHlo.TRef sig ⟨S_, .f32⟩) (φ : fn_uniform.Bufs) :
    {l : List (Step τ sig (Elt F)) // IsLine (fn_uniform.body (F := F) k lo hi φ) l} := by
  constructor
  unfold fn_uniform.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | with_reducible apply IsLine.append (threefry2x32_0_line ..).2)

/-- Steps of the mask-shaped Bernoulli draw. -/
def bernoulli_line (k : StableHlo.TRef sig ⟨S2, .i32⟩) (p : StableHlo.TRef sig ⟨S_, .f32⟩) (φ : fn_bernoulli.Bufs) :
    {l : List (Step τ sig (Elt F)) // IsLine (fn_bernoulli.body (F := F) k p φ) l} := by
  constructor
  unfold fn_bernoulli.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | with_reducible apply IsLine.append (uniform_line ..).2)

/-- Steps of the full-shaped uniform draw. -/
def uniform_2_line (k : StableHlo.TRef sig ⟨S2, .i32⟩) (lo : StableHlo.TRef sig ⟨S_, .f32⟩) (hi : StableHlo.TRef sig ⟨S_, .f32⟩) (φ : fn_uniform_2.Bufs) :
    {l : List (Step τ sig (Elt F)) // IsLine (fn_uniform_2.body (F := F) k lo hi φ) l} := by
  constructor
  unfold fn_uniform_2.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | with_reducible apply IsLine.append (threefry2x32_3_line ..).2)

/-- Steps of the full-shaped Bernoulli draw. -/
def bernoulli_1_line (k : StableHlo.TRef sig ⟨S2, .i32⟩) (p : StableHlo.TRef sig ⟨S_, .f32⟩) (φ : fn_bernoulli_1.Bufs) :
    {l : List (Step τ sig (Elt F)) // IsLine (fn_bernoulli_1.body (F := F) k p φ) l} := by
  constructor
  unfold fn_bernoulli_1.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | with_reducible apply IsLine.append (uniform_2_line ..).2)

/-- Steps of the choice between a constant and an array. -/
def where_line (c : StableHlo.TRef sig ⟨S16x2048x768, .i1⟩) (a : StableHlo.TRef sig ⟨S_, .f32⟩) (b : StableHlo.TRef sig ⟨S16x2048x768, .f32⟩) (φ : fn_where.Bufs) :
    {l : List (Step τ sig (Elt F)) // IsLine (fn_where.body (F := F) c a b φ) l} := by
  constructor
  unfold fn_where.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of the choice between two arrays. -/
def where_4_line (c : StableHlo.TRef sig ⟨S16x2048x768, .i1⟩) (a : StableHlo.TRef sig ⟨S16x2048x768, .f32⟩) (b : StableHlo.TRef sig ⟨S16x2048x768, .f32⟩) (φ : fn_where_4.Bufs) :
    {l : List (Step τ sig (Elt F)) // IsLine (fn_where_4.body (F := F) c a b φ) l} := by
  constructor
  unfold fn_where_4.body
  repeat (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1)

/-- Steps of @main. -/
def main_line : {l : List (Step τ sig (Elt F)) // IsLine (main (F := F) ⟨0, by decide⟩) l} := by
  constructor
  unfold main
  iterate 10 (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | apply IsLine.map | apply IsLine.zip)
  apply IsLine.append (threefry_split_line ..).2
  iterate 11 (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | apply IsLine.map | apply IsLine.zip)
  apply IsLine.append (bernoulli_line ..).2
  iterate 3 (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | apply IsLine.map | apply IsLine.zip)
  apply IsLine.append (bernoulli_1_line ..).2
  iterate 2 (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | apply IsLine.map | apply IsLine.zip)
  apply IsLine.append (where_line ..).2
  iterate 1 (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | apply IsLine.map | apply IsLine.zip)
  apply IsLine.append (bernoulli_1_line ..).2
  iterate 7 (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | apply IsLine.map | apply IsLine.zip)
  apply IsLine.append (uniform_2_line ..).2
  iterate 2 (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | apply IsLine.map | apply IsLine.zip)
  apply IsLine.append (where_4_line ..).2
  iterate 1 (first | with_reducible exact IsLine.nil | with_reducible apply IsLine.konst | with_reducible apply IsLine.map | with_reducible apply IsLine.zip | with_reducible apply IsLine.cast | with_reducible apply IsLine.zip3 | with_reducible exact IsLine.zip1 | with_reducible exact IsLine.konst1 | with_reducible exact IsLine.map1 | apply IsLine.map | apply IsLine.zip)
  exact IsLine.nil

/-- @main's steps read and write in order, and never write buffer 0. -/
theorem main_ordered : Ordered 0 (main_line (F := Ideal)).1 := by decide +kernel

variable (m : (ℓ : Loc nD τ sig) → Buf (Elt Ideal) ℓ) (ρ : Dev nD → PrngReg)

/-- What the buffers of device `c` hold at the end. -/
def Z (c : Dev nD) : Valuation τ sig (Elt Ideal) :=
  StableHlo.after (opsOf (main_line (F := Ideal)).1) (StableHlo.launchContents m c)

/-- @main runs to the contents `Z`. -/
theorem run_ends :
    θ_run (defs (F := Ideal)) (onTc (τ := τ) (main (F := Ideal))) ⟨m, fun _ => 0, ρ⟩ fun r =>
      ∀ (c : Dev nD) (b : Ref sig .tc), r.2.mem ((c.tc : Thread nD τ).loc b) = Z m c b :=
  run_line defs main (fun _ => main_line.2) main_ordered (by decide) (by decide) m ρ

/-- Every step's equation holds at the end. -/
theorem Z_holds (c : Dev nD) : Holds (Z m c) (main_line (F := Ideal)).1 := after_holds 0 _ main_ordered _

/-- The argument is never written. -/
theorem Z_arg (c : Dev nD) : Z m c main_arg0 = m ((c.tc : Thread nD τ).loc main_arg0) :=
  after_low 0 _ main_ordered _ main_arg0 (by decide)

/-- Every execution ends with the argument as it was and every counter at zero. -/
theorem run_quiet :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0))
      ∧ r.2.sem = fun _ => 0 :=
  θ_run_mono (run_ends m ρ) fun r h =>
    ⟨fun c => (h c main_arg0).trans (Z_arg m c), sem_eq_zero_of_no_sems (by decide) r.2⟩

end Cert.ReferenceIdeal.Spike
-- ==== Proof.OneHot.lean ====
/- Sums against a one-hot column: they read one entry, or nothing. -/
module

public import Idealize.ShloMosaic.Lib.MatmulPlain

@[expose] public section

noncomputable section

namespace Cert.Spike

open Idealize.ShloMosaic

/-- One where two words agree, zero elsewhere. -/
def hot (a b : BitVec 32) : EReal := if a = b then 1 else 0

/-- The comparison's bit, widened and read as a number. -/
theorem hot_bit (a b : BitVec 32) : ((((IntOp.cmpi .eq a b).setWidth 32).toInt : ℝ) : EReal) = hot a b := by
  unfold hot
  by_cases h : a = b
  · rw [if_pos h, h, show (IntOp.cmpi .eq b b) = 1#1 from by unfold IntOp.cmpi; simp]
    simp
  · rw [if_neg h, show (IntOp.cmpi .eq a b) = 0#1 from by unfold IntOp.cmpi; simp only [beq_eq_false_iff_ne.mpr h]; rfl]
    simp

/-- Two counters below `2^32` are different words where they differ. -/
theorem ofNat_inj {m n : ℕ} (hm : m < 4294967296) (hn : n < 4294967296) (h : BitVec.ofNat 32 m = BitVec.ofNat 32 n) : m = n := by
  have := congrArg BitVec.toNat h
  simp only [BitVec.toNat_ofNat] at this
  omega

/-- A row against the one-hot column of `g` is its entry `g`. -/
theorem sum_hot {n : ℕ} (hn : n ≤ 4294967296) (v : Fin n → EReal) (g : Fin n) :
    ∑ k : Fin n, v k * hot (BitVec.ofNat 32 k.val) (BitVec.ofNat 32 g.val) = v g := by
  rw [Finset.sum_eq_single g]
  · unfold hot; rw [if_pos rfl, mul_one]
  · intro k _ hk
    unfold hot
    rw [if_neg, mul_zero]
    intro h
    exact hk (Fin.ext (ofNat_inj (by omega) (by omega) h))
  · intro h; exact (h (Finset.mem_univ _)).elim

/-- A row against a column with no one in it is zero. -/
theorem sum_cold {n : ℕ} (v : Fin n → EReal) (a b : Fin n → BitVec 32) (h : ∀ k, a k ≠ b k) :
    ∑ k : Fin n, v k * hot (a k) (b k) = 0 :=
  Finset.sum_eq_zero fun k _ => by unfold hot; rw [if_neg (h k), mul_zero]

/-- A row against a column with a single one is the entry there. -/
theorem sum_single {n : ℕ} (v : Fin n → EReal) (a b : Fin n → BitVec 32) (g : Fin n) (hg : a g = b g) (h : ∀ k, a k = b k → k = g) :
    ∑ k : Fin n, v k * hot (a k) (b k) = v g := by
  rw [Finset.sum_eq_single g]
  · unfold hot; rw [if_pos hg, mul_one]
  · intro k _ hk
    unfold hot
    rw [if_neg fun e => hk (h k e), mul_zero]
  · intro h; exact (h (Finset.mem_univ _)).elim

end Cert.Spike
-- ==== Proof.Threefry.lean ====
/- The Threefry-2x32 hash on 32-bit words: twenty rounds, a key injection after every four. -/
module

public import Idealize.ShloMosaic.PureOps.Ideal

@[expose] public section

namespace Cert.Spike

/-- A word rotated left by `n`, where `n' = 32 - n`. -/
def rot (n n' x : BitVec 32) : BitVec 32 := x <<< n ||| x >>> n'

/-- One round: the sum, and the rotated second word crossed with it. -/
def rnd (n n' : BitVec 32) (p : BitVec 32 × BitVec 32) : BitVec 32 × BitVec 32 :=
  (p.1 + p.2, (p.1 + p.2) ^^^ rot n n' p.2)

/-- One injection of two key words and a count. -/
def inj (k k' j : BitVec 32) (p : BitVec 32 × BitVec 32) : BitVec 32 × BitVec 32 :=
  (p.1 + k, p.2 + k' + j)

/-- The first, third and fifth four rounds. -/
def roundsA (p : BitVec 32 × BitVec 32) : BitVec 32 × BitVec 32 :=
  rnd 6#32 26#32 (rnd 26#32 6#32 (rnd 15#32 17#32 (rnd 13#32 19#32 p)))

/-- The second and fourth four rounds. -/
def roundsB (p : BitVec 32 × BitVec 32) : BitVec 32 × BitVec 32 :=
  rnd 24#32 8#32 (rnd 16#32 16#32 (rnd 29#32 3#32 (rnd 17#32 15#32 p)))

/-- The third key word. -/
def thirdKey (k0 k1 : BitVec 32) : BitVec 32 := k0 ^^^ k1 ^^^ 466688986#32

/-- The first eight rounds, from the key words and the third one. -/
def firstHalf (k0 k1 k2 : BitVec 32) (p : BitVec 32 × BitVec 32) : BitVec 32 × BitVec 32 :=
  roundsB (inj k1 k2 1#32 (roundsA p))

/-- The last twelve rounds. -/
def secondHalf (k0 k1 k2 : BitVec 32) (p : BitVec 32 × BitVec 32) : BitVec 32 × BitVec 32 :=
  inj k2 k0 5#32 (roundsA (inj k1 k2 4#32 (roundsB (inj k0 k1 3#32 (roundsA (inj k2 k0 2#32 p))))))

/-- The hash of the counter `(c0, c1)` under the key `(k0, k1)`. -/
def tf (k0 k1 c0 c1 : BitVec 32) : BitVec 32 × BitVec 32 :=
  secondHalf k0 k1 (thirdKey k0 k1) (firstHalf k0 k1 (thirdKey k0 k1) (c0 + k0, c1 + k1))

/-- The 32 random bits of a position: the two words crossed. -/
def bits32 (k0 k1 c0 c1 : BitVec 32) : BitVec 32 := (tf k0 k1 c0 c1).1 ^^^ (tf k0 k1 c0 c1).2

end Cert.Spike
-- ==== Proof.KerHash.lean ====
/- The kernel's hash words are the Threefry hash of the entry's position. -/
module

public import proofs.«01_k».proof.Proof.Threefry
public import proofs.«01_k».proof.Proof.BodyA
public import proofs.«01_k».proof.Proof.RegionB

@[expose] public section

set_option maxRecDepth 65536

noncomputable section

namespace Cert.KernelIdeal.Spike

open Cert.KernelIdeal.Gen Cert.Spike
open Idealize.ShloMosaic Idealize.ShloMosaic.TcCoe

variable {F : FTy → Type} [FloatOps F]

/-- The position of the gathered entry `j` of the block at `(i0, i1)`, as the passes compute it. -/
def posOf (i0 i1 : ℕ) (ci : Vec F S1x1x256 .i32) (j : S256x256.Idx) : BitVec 32 :=
  BitVec.ofNat 32 i0 * 1572864#32 + BitVec.ofNat 32 i1 * 196608#32 + BitVec.ofNat 32 (j 0).val * 768#32
    + broadcastTo S256x256 (k0_pay8 ci) broadcasts_S1x256_S256x256 j

/-- The first pass's hash up to the first cut: the first eight rounds. -/
theorem word1_eq (i : grid0.Coords) (ci : Vec F S1x1x256 .i32) (j : S256x256.Idx) :
    (word1a i ci j, word1b i ci j)
      = firstHalf 64467757#32 2916123636#32 3050711811#32 (64467757#32, k0_pay10 i ci j) := rfl

/-- The drawn bit of the first pass, from the words after the first cut. -/
theorem zero_bits (a b : IVec S256x256 32) (p : BitVec 32 × BitVec 32) (j : S256x256.Idx) (h : (a j, b j) = p) :
    k0_pay53 (k0_pay50 (k0_pay38 a b k0_pay28) (k0_pay39 a b k0_pay28)) (k0_pay51 (k0_pay38 a b k0_pay28) (k0_pay39 a b k0_pay28))
      (k0_pay52 (k0_pay38 a b k0_pay28) (k0_pay39 a b k0_pay28)) 6#32 j
      = IntOp.cmpi .slt (((secondHalf 64467757#32 2916123636#32 3050711811#32 p).1
          ^^^ (secondHalf 64467757#32 2916123636#32 3050711811#32 p).2) >>> 9#32) 6710887#32 := by
  subst h; rfl

/-- The position with the second key word added. -/
theorem pos0_eq (i : grid0.Coords) (ci : Vec F S1x1x256 .i32) (j : S256x256.Idx) :
    k0_pay10 i ci j = posOf (i 0).val (i 1).val ci j + 2916123636#32 := by
  unfold k0_pay10 posOf; dsimp only; simp only [addi, muli, broadcast, iota, IntOp.addi, IntOp.muli, Scalar.addi, Scalar.muli,
    List.foldl_cons, List.foldl_nil, Nat.zero_mul, Nat.zero_add]

/-- The first pass's bit at an entry: its hash's top 23 bits below the threshold. -/
theorem zeroBit_eq (i : grid0.Coords) (ci : Vec F S1x1x256 .i32) (j : S256x256.Idx) :
    k0_pay53 (word3a i ci) (word3b i ci) (word3c i ci) 6#32 j
      = IntOp.cmpi .slt (bits32 64467757#32 2916123636#32 0#32 (posOf (i 0).val (i 1).val ci j) >>> 9#32) 6710887#32 := by
  refine (zero_bits (word1a i ci) (word1b i ci) _ j (word1_eq i ci j)).trans ?_
  rw [pos0_eq]
  simp only [bits32, tf, show thirdKey 64467757#32 2916123636#32 = 3050711811#32 by decide, BitVec.zero_add]

/-- The second pass's position of an entry. -/
theorem pos1_eq (i : grid1.Coords) (ci : Vec F S1x1x256 .i32) (j : S256x256.Idx) :
    k1_pay2 i ci j = posOf (i 0).val (i 1).val ci j := by
  unfold k1_pay2 posOf; dsimp only; simp only [addi, muli, broadcast, iota, IntOp.addi, IntOp.muli, Scalar.addi, Scalar.muli,
    List.foldl_cons, List.foldl_nil, Nat.zero_mul, Nat.zero_add]
  rfl

/-- The second pass's first hash up to the words it starts from: the first four rounds. -/
theorem draw_start (i : grid1.Coords) (ci : Vec F S1x1x256 .i32) (j : S256x256.Idx) :
    (k1_pay10 i ci j, k1_pay10 i ci j ^^^ k1_pay11 i ci j) =
      roundsA (2465931498#32, k1_pay2 i ci j + 255383827#32) := rfl

/-- The first hash of the second pass from there to its first cut. -/
theorem draw_first (a b : IVec S256x256 32) (j : S256x256.Idx) (p : BitVec 32 × BitVec 32) (h : (a j, a j ^^^ b j) = p) :
    (k1_pay20 a b j, k1_pay21 a b j, k1_pay22 a b j) =
      (let q := inj 2249384483#32 2465931498#32 2#32 (roundsB (inj 255383827#32 2249384483#32 1#32 p))
       (q.2, q.1 + q.2, q.2 <<< 13#32)) := by
  subst h; rfl

/-- From the first cut to the second: at the words' values. -/
theorem draw_rest (a b c : IVec S256x256 32) (j : S256x256.Idx) (q : BitVec 32 × BitVec 32)
    (h : (a j, b j, c j) = (q.2, q.1 + q.2, q.2 <<< 13#32)) :
    k1_pay46 (k1_pay44 (k1_pay33 a b c 19#32) (k1_pay34 a b c 19#32) 16#32) (k1_pay45 (k1_pay33 a b c 19#32) (k1_pay34 a b c 19#32) 16#32) j =
      (let p := inj 2249384483#32 2465931498#32 5#32 (roundsA (inj 255383827#32 2249384483#32 4#32
          (roundsB (inj 2465931498#32 255383827#32 3#32 (roundsA q)))))
       IntOp.cmpi .slt ((p.1 ^^^ p.2) >>> 9#32) 4194304#32) := by
  obtain ⟨h1, h2, h3⟩ : a j = q.2 ∧ b j = q.1 + q.2 ∧ c j = q.2 <<< 13#32 := by simpa using h
  have e : k1_pay46 (k1_pay44 (k1_pay33 a b c 19#32) (k1_pay34 a b c 19#32) 16#32) (k1_pay45 (k1_pay33 a b c 19#32) (k1_pay34 a b c 19#32) 16#32) j =
      (let p := inj 2249384483#32 2465931498#32 5#32 (roundsA (inj 255383827#32 2249384483#32 4#32
          (roundsB (inj 2465931498#32 255383827#32 3#32 (rnd 6#32 26#32 (rnd 26#32 6#32 (rnd 15#32 17#32
            (b j, b j ^^^ (c j ||| a j >>> 19#32)))))))))
       IntOp.cmpi .slt ((p.1 ^^^ p.2) >>> 9#32) 4194304#32) := rfl
  rw [e, h1, h2, h3]; rfl

/-- The second pass's first bit at an entry. -/
theorem drawBit_eq (i : grid1.Coords) (ci : Vec F S1x1x256 .i32) (j : S256x256.Idx) :
    drawBit i ci j
      = IntOp.cmpi .slt (bits32 2465931498#32 255383827#32 0#32 (posOf (i 0).val (i 1).val ci j) >>> 9#32) 4194304#32 := by
  refine (draw_rest (draw1a i ci) (draw1b i ci) (draw1c i ci) j _
    (draw_first (k1_pay10 i ci) (k1_pay11 i ci) j _ (draw_start i ci j))).trans ?_
  rw [pos1_eq]
  simp only [bits32, tf, firstHalf, secondHalf, show thirdKey 2465931498#32 255383827#32 = 2249384483#32 by decide, BitVec.zero_add]

/-- The second hash of the second pass up to the words it starts from: the first four rounds. -/
theorem unif_start (v : IVec S256x256 32) (j : S256x256.Idx) :
    (k1_pay54 v j, k1_pay55 v j) = roundsA (3134548294#32, v j + 894150801#32) := rfl

/-- From there to its first cut. -/
theorem unif_first (a b : IVec S256x256 32) (j : S256x256.Idx) (p : BitVec 32 × BitVec 32) (h : (a j, b j) = p) :
    (k1_pay66 a b k1_pay56 j, k1_pay66 a b k1_pay56 j ^^^ k1_pay67 a b k1_pay56 j) =
      rnd 13#32 19#32 (inj 2488261133#32 3134548294#32 2#32 (roundsB (inj 894150801#32 2488261133#32 1#32 p))) := by
  subst h; rfl

/-- From the first cut to the last words. -/
theorem unif_rest (a b : IVec S256x256 32) (j : S256x256.Idx) (p : BitVec 32 × BitVec 32) (h : (a j, a j ^^^ b j) = p) :
    (k1_pay90 (k1_pay78 a b) (k1_pay79 a b) (k1_pay80 a b) 16#32 j, k1_pay91 (k1_pay78 a b) (k1_pay79 a b) (k1_pay80 a b) 16#32 j) =
      roundsA (inj 894150801#32 2488261133#32 4#32 (roundsB (inj 3134548294#32 894150801#32 3#32
        (rnd 6#32 26#32 (rnd 26#32 6#32 (rnd 15#32 17#32 p)))))) := by
  subst h; rfl

/-- The two last words of the second hash, injected, are the hash of the position. -/
theorem unif_eq (i : grid1.Coords) (ci : Vec F S1x1x256 .i32) (j : S256x256.Idx) :
    inj 2488261133#32 3134548294#32 5#32 (unif3a i ci j, unif3b i ci j)
      = tf 3134548294#32 894150801#32 0#32 (posOf (i 0).val (i 1).val ci j) := by
  have h := unif_rest (unif1a i ci) (unif1b i ci) j _ (unif_first (k1_pay54 (k1_pay2 i ci)) (k1_pay55 (k1_pay2 i ci)) j _
    (unif_start (k1_pay2 i ci) j))
  refine (congrArg (inj 2488261133#32 3134548294#32 5#32) h).trans ?_
  rw [pos1_eq]
  simp only [tf, firstHalf, secondHalf, show thirdKey 3134548294#32 894150801#32 = 2488261133#32 by decide, BitVec.zero_add]
  rfl

end Cert.KernelIdeal.Spike
-- ==== Proof.Draw.lean ====
/- What 32 random bits draw: a uniform value in [0, 1), and a Bernoulli bit, at the extended reals. -/
module

public import proofs.«01_k».proof.Proof.Threefry

@[expose] public section

noncomputable section

namespace Cert.Spike

open Idealize.ShloMosaic

/-- The uniform value of the bits: the top 23 as a significand in [1, 2), less one. -/
def unif (w : BitVec 32) : EReal :=
  Ideal.ofBits .f32 (w >>> 9#32 ||| 1065353216#32) - Ideal.ofBits .f32 0x3F800000#32

/-- The Bernoulli bit at a threshold of the top 23 bits. -/
def bern (th w : BitVec 32) : BitVec 1 := IntOp.cmpi .slt (w >>> 9#32) th

/-- The top 23 bits are below `2^23`. -/
theorem top_lt (w : BitVec 32) : (w >>> 9#32).toNat < 2 ^ 23 := by
  have := w.isLt
  rw [show w >>> 9#32 = w >>> (9 : ℕ) from rfl, BitVec.toNat_ushiftRight, Nat.shiftRight_eq_div_pow]
  omega

/-- A significand under the exponent of one. -/
theorem ofBits_significand (k : BitVec 32) (hk : k.toNat < 2 ^ 23) :
    Ideal.ofBits .f32 (k ||| 1065353216#32) = ((1 + k.toNat / 2 ^ 23 : ℝ) : EReal) := by
  have hor : (k ||| 1065353216#32).toNat = 2 ^ 23 * 127 + k.toNat := by
    rw [BitVec.toNat_or, Nat.or_comm, show (1065353216#32).toNat = 2 ^ 23 * 127 from rfl, Nat.two_pow_add_eq_or_of_lt hk]
  have h1 : ((k ||| 1065353216#32).extractLsb' 31 1 == 1#1) = false := by
    have e : (k ||| 1065353216#32).extractLsb' 31 1 = 0#1 := by
      apply BitVec.eq_of_toNat_eq
      rw [BitVec.extractLsb'_toNat, hor, Nat.shiftRight_eq_div_pow]
      simp only [BitVec.toNat_ofNat]; omega
    rw [e]; rfl
  have h2 : ((k ||| 1065353216#32).extractLsb' 23 8).toNat = 127 := by
    rw [BitVec.extractLsb'_toNat, hor, Nat.shiftRight_eq_div_pow]; omega
  have h3 : ((k ||| 1065353216#32).extractLsb' 0 23).toNat = k.toNat := by
    rw [BitVec.extractLsb'_toNat, hor, Nat.shiftRight_eq_div_pow]; omega
  show Ideal.ieee 8 23 (k ||| 1065353216#32) = _
  unfold Ideal.ieee
  simp only [h1, h2, h3, Nat.reduceAdd, Nat.reducePow, Nat.reduceSub]
  rw [if_neg (by decide), if_neg (by decide)]
  congr 1
  push_cast
  norm_num
  ring

theorem ofBits_one : Ideal.ofBits .f32 0x3F800000#32 = ((1 : ℝ) : EReal) := by
  have := ofBits_significand 0#32 (by decide)
  simpa using this

theorem unif_eq_real (w : BitVec 32) : unif w = (((w >>> 9#32).toNat / 2 ^ 23 : ℝ) : EReal) := by
  unfold unif
  rw [ofBits_significand _ (top_lt w), ofBits_one, ← EReal.coe_sub]
  congr 1; ring

theorem unif_nonneg (w : BitVec 32) : 0 ≤ unif w := by
  rw [unif_eq_real]; exact_mod_cast by positivity

/-- A uniform value below a number of 25 binary places: the Bernoulli bit at the number's threshold. -/
theorem cmp_unif (w th : BitVec 32) (a : ℕ) (h : ∀ k : ℕ, (4 * k < a ↔ k < th.toNat)) (hth : th.toNat < 2 ^ 31) :
    Ideal.cmp .olt (unif w) ((a / 2 ^ 25 : ℝ) : EReal) = bern th w := by
  unfold Ideal.cmp bern IntOp.cmpi
  have h2 := top_lt w
  have e : (((w >>> 9#32).toNat : ℝ) / 2 ^ 23 < (a : ℝ) / 2 ^ 25) ↔ 4 * (w >>> 9#32).toNat < a := by
    rw [← Nat.cast_lt (α := ℝ), div_lt_div_iff₀ (by positivity) (by positivity)]
    push_cast
    constructor <;> intro h <;> nlinarith
  dsimp only
  congr 1
  rw [unif_eq_real, BitVec.slt_eq_decide, decide_eq_decide, EReal.coe_lt_coe_iff, e, h,
    BitVec.toInt_eq_toNat_of_lt (by omega), BitVec.toInt_eq_toNat_of_lt (by omega)]
  omega

theorem ofBits_zero : Ideal.ofBits .f32 0x00000000#32 = 0 := by simp [Ideal.ofBits, Ideal.ieee]

/-- The threshold of the probability 0.3, -/
theorem cmp_mask (w : BitVec 32) : Ideal.cmp .olt (unif w) (Ideal.ofBits .f32 0x3E99999A#32) = bern 2516583#32 w := by
  rw [show Ideal.ofBits .f32 0x3E99999A#32 = (((10066330 : ℕ) / 2 ^ 25 : ℝ) : EReal) by
    simp [Ideal.ofBits, Ideal.ieee, -EReal.coe_mul]; norm_num]
  exact cmp_unif w _ _ (fun k => by rw [show (2516583#32).toNat = 2516583 from rfl]; omega) (by decide)

/-- of 0.8, -/
theorem cmp_zero (w : BitVec 32) : Ideal.cmp .olt (unif w) (Ideal.ofBits .f32 0x3F4CCCCD#32) = bern 6710887#32 w := by
  rw [show Ideal.ofBits .f32 0x3F4CCCCD#32 = (((26843546 : ℕ) / 2 ^ 25 : ℝ) : EReal) by
    simp [Ideal.ofBits, Ideal.ieee, -EReal.coe_mul]; norm_num]
  exact cmp_unif w _ _ (fun k => by rw [show (6710887#32).toNat = 6710887 from rfl]; omega) (by decide)

/-- and of 0.5. -/
theorem cmp_half (w : BitVec 32) : Ideal.cmp .olt (unif w) (Ideal.ofBits .f32 0x3F000000#32) = bern 4194304#32 w := by
  rw [show Ideal.ofBits .f32 0x3F000000#32 = (((16777216 : ℕ) / 2 ^ 25 : ℝ) : EReal) by
    simp [Ideal.ofBits, Ideal.ieee, -EReal.coe_mul]; norm_num]
  exact cmp_unif w _ _ (fun k => by rw [show (4194304#32).toNat = 4194304 from rfl]; omega) (by decide)

/-- Scaling to [0, 1) and clamping at 0 leave a uniform value alone. -/
theorem unif_scaled (w : BitVec 32) :
    max (Ideal.ofBits .f32 0x00000000#32)
      (unif w * (Ideal.ofBits .f32 0x3F800000#32 - Ideal.ofBits .f32 0x00000000#32) + Ideal.ofBits .f32 0x00000000#32) = unif w := by
  rw [ofBits_zero, ofBits_one, sub_zero, add_zero, show ((1 : ℝ) : EReal) = 1 from rfl, mul_one]
  exact max_eq_right (unif_nonneg w)

end Cert.Spike
-- ==== Proof.Spec.lean ====
/- The draws as functions of a flat position, and what the masker returns in terms of them. -/
module

public import proofs.«01_k».proof.Proof.Draw

@[expose] public section

noncomputable section

namespace Cert.Spike

open Idealize.ShloMosaic

/-- Whether column `f` of batch `b` is masked. -/
def maskBit (b f : ℕ) : BitVec 1 :=
  bern 2516583#32 (bits32 (tf 0#32 42#32 0#32 0#32).1 (tf 0#32 42#32 0#32 0#32).2 0#32 (BitVec.ofNat 32 (768 * b + f)))

/-- The draw by which a masked position is zeroed. -/
def zeroDraw (n : ℕ) : BitVec 1 := bern 6710887#32 (bits32 64467757#32 2916123636#32 0#32 (BitVec.ofNat 32 n))

/-- The draw by which a masked position that is not zeroed takes a random value. -/
def randDraw (n : ℕ) : BitVec 1 := bern 4194304#32 (bits32 2465931498#32 255383827#32 0#32 (BitVec.ofNat 32 n))

/-- The random value of a position, before the scaling. -/
def randVal (n : ℕ) : EReal := unif (bits32 3134548294#32 894150801#32 0#32 (BitVec.ofNat 32 n))

/-- The flat position of entry `(b, t, f)`. -/
def flat (b t f : ℕ) : ℕ := 1572864 * b + 768 * t + f

/-- The spikes after the zeroing. -/
def zeroed (x : EReal) (b t f : ℕ) : EReal := if maskBit b f = 1#1 ∧ zeroDraw (flat b t f) = 1#1 then 0 else x

/-- What the masker returns where the largest zeroed spike is `M`. -/
def masked (M x : EReal) (b t f : ℕ) : EReal :=
  if maskBit b f = 1#1 then
    if zeroDraw (flat b t f) = 1#1 then 0 else if randDraw (flat b t f) = 1#1 then M * randVal (flat b t f) else x
  else x

/-- One bit is zero or one. -/
theorem bit_cases (b : BitVec 1) : b = 0#1 ∨ b = 1#1 := by
  revert b; decide

end Cert.Spike
-- ==== Proof.Gather.lean ====
/- What the two passes' products hold at an entry: the gathered columns and the scattered ones. -/
module

public import Idealize.ShloMosaic.Lib.ValueLayout
public import proofs.«01_k».proof.Proof.OneHot
public import proofs.«01_k».proof.Proof.KerHash
public import proofs.«01_k».proof.Proof.Spec

@[expose] public section

set_option maxRecDepth 65536

noncomputable section

namespace Cert.KernelIdeal.Spike

open Cert.Spike Cert.KernelIdeal.Gen
open Idealize.ShloMosaic Idealize.ShloMosaic.TcCoe Idealize.ShloMosaic.ValueIdx

/-- A block's leading unit coordinate. -/
abbrev o1 : Fin 1 := ⟨0, Nat.one_pos⟩

theorem pay7_at (x : Vec Ideal S1x256x768 .f32) (r : Fin 256) (k : Fin 768) : k0_pay7 x (ix2 r k) = x (ix3 o1 r k) := by
  unfold k0_pay7
  refine (shapeCast_dropUnit_apply ![256, 768] x shapeCasts_S1x256x768_S256x768 (ix2 r k)).trans (congrArg x ?_)
  funext a; match a with
  | ⟨0, _⟩ => rfl
  | ⟨1, _⟩ => rfl
  | ⟨2, _⟩ => rfl

theorem pay8_at (ci : Vec Ideal S1x1x256 .i32) (p : Fin 256) : k0_pay8 (F := Ideal) ci (ix2 o1 p) = ci (ix3 o1 o1 p) := by
  unfold k0_pay8
  refine (shapeCast_dropUnit_apply ![1, 256] ci shapeCasts_S1x1x256_S1x256 (ix2 o1 p)).trans (congrArg ci ?_)
  funext a; match a with
  | ⟨0, _⟩ => rfl
  | ⟨1, _⟩ => rfl
  | ⟨2, _⟩ => rfl

/-- The two products are plain ones. -/
theorem dot_gather : dot_S256x768_S768x256_S256x256_1_0_0_1_n_n = DotDims.plain 256 768 256 := rfl
theorem dot_scatter : dot_S256x256_S256x768_S256x768_1_0_0_1_n_n = DotDims.plain 256 256 768 := rfl

/-- The gathered block: row `r`, slot `p`. -/
theorem gather_at (x : Vec Ideal S1x256x768 .f32) (ci : Vec Ideal S1x1x256 .i32) (r p : Fin 256) :
    (k0_pay9 x ci (ix2 r p) : EReal) = ∑ k : Fin 768, (x (ix3 o1 r k) : EReal) * hot (BitVec.ofNat 32 k.val) (ci (ix3 o1 o1 p)) := by
  have e := Ideal.matmul_plain_apply (φ₁ := .f32) (φ₂ := .f32) (M := 256) (K := 768) (N := 256) (some .fp32) (k0_pay7 x)
    (sitofp .f32 (extui 32 (cmpi .eq (iota .tc S768x256 32 [0] iota_S768x256_d0_w32) (broadcastTo S768x256 (k0_pay8 (F := Ideal) ci) broadcasts_S1x256_S768x256)) natLt_1_32))
    (constant S256x256 .f32 0x00000000#32) r p
  unfold k0_pay9
  dsimp only
  rw [dot_gather]
  refine e.trans ?_
  rw [show (constant (F := Ideal) S256x256 .f32 0x00000000#32 (ix2 r p) : EReal) = 0 from ofBits_zero, zero_add]
  refine Finset.sum_congr rfl fun k _ => ?_
  rw [pay7_at]
  refine congrArg ((x (ix3 o1 r k) : EReal) * ·) ?_
  refine Eq.trans ?_ (hot_bit (BitVec.ofNat 32 k.val) (ci (ix3 o1 o1 p)))
  have e1 : iota .tc S768x256 32 [0] iota_S768x256_d0_w32 (ix2 k p) = BitVec.ofNat 32 k.val := iota_single_apply _ _ _ _ _ _
  have e2 : broadcastTo S768x256 (k0_pay8 (F := Ideal) ci) broadcasts_S1x256_S768x256 (ix2 k p) = ci (ix3 o1 o1 p) :=
    (broadcastTo_1b_ab_apply _ broadcasts_S1x256_S768x256 k p).trans (pay8_at ci p)
  rw [← e1, ← e2]
  rfl

/-- The vector shift by nine bits. -/
theorem shr9 (w : BitVec 32) : IntOp.shrui .vector w 9#32 = w >>> 9#32 := rfl

/-- An entry less one. -/
theorem sub_entry (A : FVec Ideal S256x256 .f32) (j : S256x256.Idx) :
    subf A (broadcast S256x256 (FloatOps.ofBits (F := Ideal) .f32 1065353216#32)) j = (A j : EReal) - Ideal.ofBits .f32 0x3F800000#32 := rfl

/-- The scattered block: row `r`, column `f`. -/
theorem scatter_at (bit : IVec S256x256 1) (u3a u3b : IVec S256x256 32) (fl : Vec Ideal S1x256x256 .i8) (mx : Vec Ideal S1x1 .f32)
    (zm : Vec Ideal S1x256x256 .f32) (ct : Vec Ideal S1x256x1 .i32) (r : Fin 256) (f : Fin 768) :
    (k1_pay93 bit u3a u3b k1_pay92 fl mx zm ct (ix2 r f) : EReal)
      = ∑ p : Fin 256, (Scalar.select (bit (ix2 r p) &&& IntOp.cmpi .eq (fl (ix3 o1 r p)) 0#8)
          (mx (ix2 o1 o1) * unif ((u3a (ix2 r p) + 2488261133#32) ^^^ (u3b (ix2 r p) + 3134548294#32 + 5#32)))
          (zm (ix3 o1 r p)) : EReal) * hot (BitVec.ofNat 32 f.val) (ct (ix3 o1 p o1)) := by
  unfold k1_pay93 k1_pay92
  dsimp only
  rw [dot_scatter]
  refine (Ideal.matmul_plain_apply (φ₁ := .f32) (φ₂ := .f32) (M := 256) (K := 256) (N := 768) (some .fp32) _ _ _ r f).trans ?_
  rw [show (constant (F := Ideal) S256x768 .f32 0x00000000#32 (ix2 r f) : EReal) = 0 from ofBits_zero, zero_add]
  refine Finset.sum_congr rfl fun p _ => ?_
  have e1 : iota .tc S256x768 32 [1] iota_S256x768_d1_w32 (ix2 p f) = BitVec.ofNat 32 f.val := iota_single_apply _ _ _ _ _ _
  have e2 : broadcastTo S256x768 (shapeCast S256x1 ct shapeCasts_S1x256x1_S256x1) broadcasts_S256x1_S256x768 (ix2 p f) = ct (ix3 o1 p o1) := by
    refine (broadcastTo_apply _ broadcasts_S256x1_S256x768 (ix2 p f) (ix2 p o1) fun a => ?_).trans ?_
    · match a with
      | ⟨0, _⟩ => rfl
      | ⟨1, _⟩ => rfl
    · refine (shapeCast_dropUnit_apply ![256, 1] ct shapeCasts_S1x256x1_S256x1 (ix2 p o1)).trans (congrArg ct ?_)
      funext a; match a with
      | ⟨0, _⟩ => rfl
      | ⟨1, _⟩ => rfl
      | ⟨2, _⟩ => rfl
  have e3 : ix3 o1 r p = Fin.cons ⟨0, Nat.one_pos⟩ (ix2 r p) := by
    funext a; match a with
    | ⟨0, _⟩ => rfl
    | ⟨1, _⟩ => rfl
    | ⟨2, _⟩ => rfl
  have e4 : shapeCast S256x256 fl shapeCasts_S1x256x256_S256x256 (ix2 r p) = fl (ix3 o1 r p) :=
    (shapeCast_dropUnit_apply ![256, 256] fl shapeCasts_S1x256x256_S256x256 (ix2 r p)).trans (congrArg fl e3.symm)
  have e5 : shapeCast S256x256 zm shapeCasts_S1x256x256_S256x256 (ix2 r p) = zm (ix3 o1 r p) :=
    (shapeCast_dropUnit_apply ![256, 256] zm shapeCasts_S1x256x256_S256x256 (ix2 r p)).trans (congrArg zm e3.symm)
  have e6 : extractAt ![0, 0] mx inpos_S1x1_p0_0 = mx (ix2 o1 o1) := by
    refine congrArg mx (funext fun a => ?_)
    match a with
    | ⟨0, _⟩ => rfl
    | ⟨1, _⟩ => rfl
  have e7 : bitcastToFloat (F := Ideal) .f32 (ori (shrui (xori (addi u3a (broadcast S256x256 2488261133#32)) (addi (addi u3b (broadcast S256x256 3134548294#32))
      (broadcast S256x256 5#32))) (broadcast S256x256 9#32)) (broadcast S256x256 1065353216#32)) (ix2 r p)
      - Ideal.ofBits .f32 0x3F800000#32 = unif ((u3a (ix2 r p) + 2488261133#32) ^^^ (u3b (ix2 r p) + 3134548294#32 + 5#32)) := by
    unfold unif
    rw [← shr9]; rfl
  rw [← hot_bit, ← e1, ← e2, ← e4, ← e5, ← e6, ← e7]
  refine congrArg₂ (fun a b : EReal => a * b) ?_ ?_
  · refine congrArg (fun w : EReal => Scalar.select (bit (ix2 r p) &&& IntOp.cmpi .eq (shapeCast S256x256 fl shapeCasts_S1x256x256_S256x256 (ix2 r p)) 0#8) w
      (shapeCast S256x256 zm shapeCasts_S1x256x256_S256x256 (ix2 r p))) ?_
    refine (show mulf _ _ (ix2 r p) = _ from Ideal.mulf_def _ _).trans ?_
    refine congrArg (fun w : EReal => extractAt ![0, 0] mx inpos_S1x1_p0_0 * w) ?_

    generalize bitcastToFloat (F := Ideal) .f32 _ = A
    exact sub_entry A (ix2 r p)
  · rfl

end Cert.KernelIdeal.Spike
-- ==== Proof.Cells.lean ====
/- Where each block of the two passes lies in its array: the block of batch `b` and row block `h` holds rows `256 h …` of
   batch `b`. -/
module

public import proofs.«01_k».proof.Proof.RegionA
public import proofs.«01_k».proof.Proof.RegionB
public import proofs.«01_k».proof.Proof.Gather
public import Idealize.ShloMosaic.Lib.Pipeline.ValueKit

@[expose] public section

set_option maxRecDepth 16384

noncomputable section

namespace Cert.KernelIdeal.Spike

open Cert.KernelIdeal.Gen
open Idealize.ShloMosaic hiding ix2 ix3
open Idealize.ShloMosaic.TcCoe Idealize.ShloMosaic.Tactic Idealize.ShloMosaic.ValueIdx
open Idealize.ShloMosaic.Pipeline (Dat Cfg Window)

variable {F : FTy → Type} [FloatOps F]

/-- Row `r` of row block `h`. -/
def row (h : Fin 8) (r : Fin 256) : Fin 2048 := ⟨256 * h.val + r.val, by omega⟩

/-- Every row is a row of some block. -/
theorem row_onto (t : Fin 2048) : ∃ h r, row h r = t :=
  ⟨⟨t.val / 256, by omega⟩, ⟨t.val % 256, by omega⟩, Fin.ext (Nat.div_add_mod t.val 256)⟩

/-- The batch and the row block of a point of each pass. -/
def bA (t : Fin cfg0.N) : Fin 16 := grid0.coords t 0
def hA (t : Fin cfg0.N) : Fin 8 := grid0.coords t 1
def bB (t : Fin cfg1.N) : Fin 16 := grid1.coords t 0
def hB (t : Fin cfg1.N) : Fin 8 := grid1.coords t 1

/-- Points go through the row blocks of a batch, then on to the next batch. -/
theorem bA_val : ∀ t : Fin cfg0.N, (bA t).val = t.val / 8 := by decide +kernel
theorem hA_val : ∀ t : Fin cfg0.N, (hA t).val = t.val % 8 := by decide +kernel

/-- The block index of each window at a point: of an array with rows, the batch and the row block; of a table, the batch. -/
theorem iA0 : ∀ t : Fin cfg0.N, win0_0.index t = ![(bA t).val, (hA t).val, 0] := by decide +kernel
theorem iA1 : ∀ t : Fin cfg0.N, win0_1.index t = ![(bA t).val, 0, 0] := by decide +kernel
theorem iA2 : ∀ t : Fin cfg0.N, win0_2.index t = ![(bA t).val, 0, 0] := by decide +kernel
theorem iA3 : ∀ t : Fin cfg0.N, win0_3.index t = ![(bA t).val, (hA t).val, 0] := by decide +kernel
theorem iA4 : ∀ t : Fin cfg0.N, win0_4.index t = ![(bA t).val, (hA t).val, 0] := by decide +kernel
theorem iA5 : ∀ t : Fin cfg0.N, win0_5.index t = ![(bA t).val, (hA t).val, 0] := by decide +kernel
theorem iA6 : ∀ t : Fin cfg0.N, win0_6.index t = ![(bA t).val, 0, 0] := by decide +kernel
theorem iA7 : ∀ t : Fin cfg0.N, win0_7.index t = ![(bA t).val, 0, 0] := by decide +kernel
theorem iB0 : ∀ t : Fin cfg1.N, win1_0.index t = ![(bB t).val, (hB t).val, 0] := by decide +kernel
theorem iB1 : ∀ t : Fin cfg1.N, win1_1.index t = ![(bB t).val, (hB t).val, 0] := by decide +kernel
theorem iB2 : ∀ t : Fin cfg1.N, win1_2.index t = ![(bB t).val, (hB t).val, 0] := by decide +kernel
theorem iB3 : ∀ t : Fin cfg1.N, win1_3.index t = ![(bB t).val, 0, 0] := by decide +kernel
theorem iB4 : ∀ t : Fin cfg1.N, win1_4.index t = ![(bB t).val, 0, 0] := by decide +kernel
theorem iB5 : ∀ t : Fin cfg1.N, win1_5.index t = ![(bB t).val, 0, 0] := by decide +kernel
theorem iB6 : ∀ t : Fin cfg1.N, win1_6.index t = ![0, 0] := by decide +kernel
theorem iB7 : ∀ t : Fin cfg1.N, win1_7.index t = ![(bB t).val, (hB t).val, 0] := by decide +kernel

/-- An index is what its coordinates make it. -/
theorem idx3 {n0 n1 n2 : ℕ} (j : (⟨3, ![n0, n1, n2]⟩ : Shape).Idx) (b : Fin n0) (t : Fin n1) (f : Fin n2)
    (h0 : (j 0).val = b.val) (h1 : (j 1).val = t.val) (h2 : (j 2).val = f.val) : j = ix3 b t f := by
  funext a; match a with
  | ⟨0, _⟩ => exact Fin.ext h0
  | ⟨1, _⟩ => exact Fin.ext h1
  | ⟨2, _⟩ => exact Fin.ext h2

/-- The one index of an axis of extent one. -/
theorem first_axis {n1 n2 : ℕ} (y : (⟨3, ![1, n1, n2]⟩ : Shape).Idx) : y = ValueIdx.ix3 o1 (y 1) (y 2) :=
  idx3 y _ _ _ (Nat.lt_one_iff.mp (y 0).isLt) rfl rfl

/-- The running maxima are written back after the last row block of each batch. -/
theorem flush_6 : ∀ t : Fin cfg0.N, (cfg0.win 6).flush t = true → t.val % 8 = 7 := by decide +kernel
theorem flush_7 : ∀ t : Fin cfg0.N, (cfg0.win 7).flush t = true → t.val % 8 = 7 := by decide +kernel

section In
variable (V : (c : Dev nD) → (b : Ref sig .tc) → Buf (Elt F) ((c : Thread nD τ).loc b)) (c : Dev nD)

/-! What each input's block holds, at an index. -/

theorem inA_0 (t : Fin cfg0.N) (r : Fin 256) (f : Fin 768) :
    inA V c 0 t (ValueIdx.ix3 o1 r f) = V c main_arg0 (ValueIdx.ix3 (bA t) (row (hA t) r) f) := by
  refine congrArg (V c main_arg0) (idx3 (n0 := 16) (n1 := 2048) (n2 := 768) _ _ _ _ ?_ ?_ ?_) <;> blk_simp [iA0]
  exact congrArg (· + r.val) (Nat.mul_comm _ _)
theorem inA_1 (t : Fin cfg0.N) (f : Fin 256) :
    inA V c 1 t (ValueIdx.ix3 o1 o1 f) = V c main_c_0 (ValueIdx.ix3 (bA t) o1 f) := by
  refine congrArg (V c main_c_0) (idx3 (n0 := 16) (n1 := 1) (n2 := 256) _ _ _ _ ?_ ?_ ?_) <;> blk_simp [iA1]
theorem inA_2 (t : Fin cfg0.N) (f : Fin 768) :
    inA V c 2 t (ValueIdx.ix3 o1 o1 f) = V c main_c (ValueIdx.ix3 (bA t) o1 f) := by
  refine congrArg (V c main_c) (idx3 (n0 := 16) (n1 := 1) (n2 := 768) _ _ _ _ ?_ ?_ ?_) <;> blk_simp [iA2]
theorem inB_0 (t : Fin cfg1.N) (r : Fin 256) (f : Fin 768) :
    inB V c 0 t (ValueIdx.ix3 o1 r f) = V c main_arg0 (ValueIdx.ix3 (bB t) (row (hB t) r) f) := by
  refine congrArg (V c main_arg0) (idx3 (n0 := 16) (n1 := 2048) (n2 := 768) _ _ _ _ ?_ ?_ ?_) <;> blk_simp [iB0]
  exact congrArg (· + r.val) (Nat.mul_comm _ _)
theorem inB_1 (t : Fin cfg1.N) (r : Fin 256) (f : Fin 256) :
    inB V c 1 t (ValueIdx.ix3 o1 r f) = V c main_v0_0 (ValueIdx.ix3 (bB t) (row (hB t) r) f) := by
  refine congrArg (V c main_v0_0) (idx3 (n0 := 16) (n1 := 2048) (n2 := 256) _ _ _ _ ?_ ?_ ?_) <;> blk_simp [iB1]
  exact congrArg (· + r.val) (Nat.mul_comm _ _)
theorem inB_2 (t : Fin cfg1.N) (r : Fin 256) (f : Fin 256) :
    inB V c 2 t (ValueIdx.ix3 o1 r f) = V c main_v0_1 (ValueIdx.ix3 (bB t) (row (hB t) r) f) := by
  refine congrArg (V c main_v0_1) (idx3 (n0 := 16) (n1 := 2048) (n2 := 256) _ _ _ _ ?_ ?_ ?_) <;> blk_simp [iB2]
  exact congrArg (· + r.val) (Nat.mul_comm _ _)
theorem inB_3 (t : Fin cfg1.N) (f : Fin 256) :
    inB V c 3 t (ValueIdx.ix3 o1 o1 f) = V c main_c_0 (ValueIdx.ix3 (bB t) o1 f) := by
  refine congrArg (V c main_c_0) (idx3 (n0 := 16) (n1 := 1) (n2 := 256) _ _ _ _ ?_ ?_ ?_) <;> blk_simp [iB3]
theorem inB_4 (t : Fin cfg1.N) (p : Fin 256) :
    inB V c 4 t (ValueIdx.ix3 o1 p o1) = V c main_c_1 (ValueIdx.ix3 (bB t) p o1) := by
  refine congrArg (V c main_c_1) (idx3 (n0 := 16) (n1 := 256) (n2 := 1) _ _ _ _ ?_ ?_ ?_) <;> blk_simp [iB4]
theorem inB_5 (t : Fin cfg1.N) (f : Fin 768) :
    inB V c 5 t (ValueIdx.ix3 o1 o1 f) = V c main_c (ValueIdx.ix3 (bB t) o1 f) := by
  refine congrArg (V c main_c) (idx3 (n0 := 16) (n1 := 1) (n2 := 768) _ _ _ _ ?_ ?_ ?_) <;> blk_simp [iB5]
theorem inB_6 (t : Fin cfg1.N) : inB V c 6 t (ValueIdx.ix2 o1 o1) = V c main_v7 (ValueIdx.ix2 o1 o1) := by
  refine congrArg (V c main_v7) ?_
  funext a; match a with
  | ⟨0, _⟩ => exact Fin.ext (Nat.lt_one_iff.mp (Fin.isLt _))
  | ⟨1, _⟩ => exact Fin.ext (Nat.lt_one_iff.mp (Fin.isLt _))

/-! An output's array is the one whose blocks are what the points leave. -/

theorem outA_3 (D : Dat τ (Elt F) Unit ℕ (UR sig nD τ) ℕ cfg0 c) (G : Buf (Elt F) ((c : Thread nD τ).loc main_v0_0))
    (h : ∀ t r f, D.after 3 t (ValueIdx.ix3 o1 r f) = G (ValueIdx.ix3 (bA t) (row (hA t) r) f)) : D.arrAt 3 cfg0.N = G := by
  refine D.arrAt_eq_of_covers 3 _ (by decide +kernel) (fun t hf y => ?_) (Memref.isWhole_whole _)
  have e : y = ValueIdx.ix3 o1 (y 1) (y 2) := first_axis (n1 := 256) (n2 := 256) y
  have e2 : ((cfg0.win 3).blk t).view.emb y = ValueIdx.ix3 (bA t) (row (hA t) (y 1)) (y 2) := by
    refine idx3 (n0 := 16) (n1 := 2048) (n2 := 256) _ _ _ _ ?_ ?_ ?_ <;> blk_simp [iA3]
    exact congrArg (· + (y 1).val) (Nat.mul_comm _ _)
  rw [e2]
  exact (congrArg (D.after 3 t) e).trans (h t (y 1) (y 2))
theorem outA_4 (D : Dat τ (Elt F) Unit ℕ (UR sig nD τ) ℕ cfg0 c) (G : Buf (Elt F) ((c : Thread nD τ).loc main_v0_1))
    (h : ∀ t r f, D.after 4 t (ValueIdx.ix3 o1 r f) = G (ValueIdx.ix3 (bA t) (row (hA t) r) f)) : D.arrAt 4 cfg0.N = G := by
  refine D.arrAt_eq_of_covers 4 _ (by decide +kernel) (fun t hf y => ?_) (Memref.isWhole_whole _)
  have e : y = ValueIdx.ix3 o1 (y 1) (y 2) := first_axis (n1 := 256) (n2 := 256) y
  have e2 : ((cfg0.win 4).blk t).view.emb y = ValueIdx.ix3 (bA t) (row (hA t) (y 1)) (y 2) := by
    refine idx3 (n0 := 16) (n1 := 2048) (n2 := 256) _ _ _ _ ?_ ?_ ?_ <;> blk_simp [iA4]
    exact congrArg (· + (y 1).val) (Nat.mul_comm _ _)
  rw [e2]
  exact (congrArg (D.after 4 t) e).trans (h t (y 1) (y 2))
theorem outA_5 (D : Dat τ (Elt F) Unit ℕ (UR sig nD τ) ℕ cfg0 c) (G : Buf (Elt F) ((c : Thread nD τ).loc main_v0_2))
    (h : ∀ t r f, D.after 5 t (ValueIdx.ix3 o1 r f) = G (ValueIdx.ix3 (bA t) (row (hA t) r) f)) : D.arrAt 5 cfg0.N = G := by
  refine D.arrAt_eq_of_covers 5 _ (by decide +kernel) (fun t hf y => ?_) (Memref.isWhole_whole _)
  have e : y = ValueIdx.ix3 o1 (y 1) (y 2) := first_axis (n1 := 256) (n2 := 768) y
  have e2 : ((cfg0.win 5).blk t).view.emb y = ValueIdx.ix3 (bA t) (row (hA t) (y 1)) (y 2) := by
    refine idx3 (n0 := 16) (n1 := 2048) (n2 := 768) _ _ _ _ ?_ ?_ ?_ <;> blk_simp [iA5]
    exact congrArg (· + (y 1).val) (Nat.mul_comm _ _)
  rw [e2]
  exact (congrArg (D.after 5 t) e).trans (h t (y 1) (y 2))
theorem outA_6 (D : Dat τ (Elt F) Unit ℕ (UR sig nD τ) ℕ cfg0 c) (G : Buf (Elt F) ((c : Thread nD τ).loc main_v0_3))
    (h : ∀ t, t.val % 8 = 7 → ∀ f, D.after 6 t (ValueIdx.ix3 o1 o1 f) = G (ValueIdx.ix3 (bA t) o1 f)) : D.arrAt 6 cfg0.N = G := by
  refine D.arrAt_eq_of_covers 6 _ (by decide +kernel) (fun t hf y => ?_) (Memref.isWhole_whole _)
  have e1 : y 1 = o1 := Fin.ext (Nat.lt_one_iff.mp (y 1).isLt)
  have e : y = ValueIdx.ix3 o1 o1 (y 2) := (first_axis (n1 := 1) (n2 := 768) y).trans (congrArg (fun k : Fin 1 => ValueIdx.ix3 o1 k (y 2)) e1)
  have e2 : ((cfg0.win 6).blk t).view.emb y = ValueIdx.ix3 (bA t) o1 (y 2) := by
    refine idx3 (n0 := 16) (n1 := 1) (n2 := 768) _ _ _ _ ?_ ?_ ?_ <;> blk_simp [iA6]
  rw [e2]
  exact (congrArg (D.after 6 t) e).trans (h t (flush_6 t hf) (y 2))
theorem outA_7 (D : Dat τ (Elt F) Unit ℕ (UR sig nD τ) ℕ cfg0 c) (G : Buf (Elt F) ((c : Thread nD τ).loc main_v0_4))
    (h : ∀ t, t.val % 8 = 7 → ∀ f, D.after 7 t (ValueIdx.ix3 o1 o1 f) = G (ValueIdx.ix3 (bA t) o1 f)) : D.arrAt 7 cfg0.N = G := by
  refine D.arrAt_eq_of_covers 7 _ (by decide +kernel) (fun t hf y => ?_) (Memref.isWhole_whole _)
  have e1 : y 1 = o1 := Fin.ext (Nat.lt_one_iff.mp (y 1).isLt)
  have e : y = ValueIdx.ix3 o1 o1 (y 2) := (first_axis (n1 := 1) (n2 := 256) y).trans (congrArg (fun k : Fin 1 => ValueIdx.ix3 o1 k (y 2)) e1)
  have e2 : ((cfg0.win 7).blk t).view.emb y = ValueIdx.ix3 (bA t) o1 (y 2) := by
    refine idx3 (n0 := 16) (n1 := 1) (n2 := 256) _ _ _ _ ?_ ?_ ?_ <;> blk_simp [iA7]
  rw [e2]
  exact (congrArg (D.after 7 t) e).trans (h t (flush_7 t hf) (y 2))
theorem outB_7 (D : Dat τ (Elt F) Unit ℕ (UR sig nD τ) ℕ cfg1 c) (G : Buf (Elt F) ((c : Thread nD τ).loc main_v8))
    (h : ∀ t r f, D.after 7 t (ValueIdx.ix3 o1 r f) = G (ValueIdx.ix3 (bB t) (row (hB t) r) f)) : D.arrAt 7 cfg1.N = G := by
  refine D.arrAt_eq_of_covers 7 _ (by decide +kernel) (fun t hf y => ?_) (Memref.isWhole_whole _)
  have e : y = ValueIdx.ix3 o1 (y 1) (y 2) := first_axis (n1 := 256) (n2 := 768) y
  have e2 : ((cfg1.win 7).blk t).view.emb y = ValueIdx.ix3 (bB t) (row (hB t) (y 1)) (y 2) := by
    refine idx3 (n0 := 16) (n1 := 2048) (n2 := 768) _ _ _ _ ?_ ?_ ?_ <;> blk_simp [iB7]
    exact congrArg (· + (y 1).val) (Nat.mul_comm _ _)
  rw [e2]
  exact (congrArg (D.after 7 t) e).trans (h t (y 1) (y 2))

end In

end Cert.KernelIdeal.Spike
-- ==== Proof.Blocks.lean ====
/- What the two passes' blocks hold at an entry, where the block's list of columns goes with the mask's row. -/
module

public import proofs.«01_k».proof.Proof.Gather

@[expose] public section

set_option maxRecDepth 65536

noncomputable section

namespace Cert.KernelIdeal.Spike

open Cert.Spike Cert.KernelIdeal.Gen
open Idealize.ShloMosaic Idealize.ShloMosaic.TcCoe Idealize.ShloMosaic.ValueIdx

/-- The position's word, at a slot that holds column `g`. -/
theorem posOf_at (b h : ℕ) (ci : Vec Ideal S1x1x256 .i32) (r p : Fin 256) (g : ℕ) (hc : ci (ix3 o1 o1 p) = BitVec.ofNat 32 g) :
    posOf (F := Ideal) b h ci (ix2 r p) = BitVec.ofNat 32 (flat b (256 * h + r.val) g) := by
  unfold posOf flat
  have e : broadcastTo S256x256 (k0_pay8 (F := Ideal) ci) broadcasts_S1x256_S256x256 (ix2 r p) = BitVec.ofNat 32 g :=
    (broadcastTo_1b_ab_apply _ broadcasts_S1x256_S256x256 r p).trans ((pay8_at ci p).trans hc)
  rw [e]
  show BitVec.ofNat 32 b * BitVec.ofNat 32 1572864 + BitVec.ofNat 32 h * BitVec.ofNat 32 196608 + BitVec.ofNat 32 r.val * BitVec.ofNat 32 768 + BitVec.ofNat 32 g = _
  rw [← BitVec.ofNat_mul, ← BitVec.ofNat_mul, ← BitVec.ofNat_mul, ← BitVec.ofNat_add, ← BitVec.ofNat_add, ← BitVec.ofNat_add]
  congr 1
  omega

/-- The bit by which slot `p` of row `r` is zeroed. -/
def zbit (b h : ℕ) (ci : Vec Ideal S1x1x256 .i32) (r p : Fin 256) : BitVec 1 :=
  bern 6710887#32 (bits32 64467757#32 2916123636#32 0#32 (posOf (F := Ideal) b h ci (ix2 r p)))

theorem zbit_at (b h : ℕ) (ci : Vec Ideal S1x1x256 .i32) (r p : Fin 256) (g : ℕ) (hc : ci (ix3 o1 o1 p) = BitVec.ofNat 32 g) :
    zbit b h ci r p = zeroDraw (flat b (256 * h + r.val) g) := by
  unfold zbit zeroDraw
  rw [posOf_at b h ci r p g hc]

/-- The gathered row's entry at a slot. -/
def gath (x : Vec Ideal S1x256x768 .f32) (ci : Vec Ideal S1x1x256 .i32) (r p : Fin 256) : EReal :=
  ∑ k : Fin 768, (x (ix3 o1 r k) : EReal) * hot (BitVec.ofNat 32 k.val) (ci (ix3 o1 o1 p))

theorem gath_hit (x : Vec Ideal S1x256x768 .f32) (ci : Vec Ideal S1x1x256 .i32) (r p : Fin 256) (g : Fin 768)
    (hc : ci (ix3 o1 o1 p) = BitVec.ofNat 32 g.val) : gath x ci r p = x (ix3 o1 r g) := by
  unfold gath
  rw [hc]
  exact sum_hot (by norm_num) (fun k => (x (ix3 o1 r k) : EReal)) g

theorem gath_pad (x : Vec Ideal S1x256x768 .f32) (ci : Vec Ideal S1x1x256 .i32) (r p : Fin 256)
    (hc : ci (ix3 o1 o1 p) = 4294967295#32) : gath x ci r p = 0 := by
  unfold gath
  refine sum_cold _ _ _ fun k h => ?_
  rw [hc] at h
  have := congrArg BitVec.toNat h
  have hk := k.isLt
  simp only [BitVec.toNat_ofNat] at this
  omega

/-- The zeroed gather's entry. -/
def zent (b h : ℕ) (x : Vec Ideal S1x256x768 .f32) (ci : Vec Ideal S1x1x256 .i32) (r p : Fin 256) : EReal :=
  if zbit b h ci r p = 1#1 then 0 else gath x ci r p

theorem zeroedMat_at (i : grid0.Coords) (x : Vec Ideal S1x256x768 .f32) (ci : Vec Ideal S1x1x256 .i32) (r p : Fin 256) :
    (zeroedMat i x ci (ix2 r p) : EReal) = zent (i 0).val (i 1).val x ci r p := by
  unfold zeroedMat k0_pay54 zent gath
  dsimp only
  rw [← gather_at, ← ofBits_zero]
  unfold zbit bern
  rw [← zeroBit_eq]
  generalize k0_pay53 _ _ _ _ = B
  generalize k0_pay9 x ci = G
  rfl

theorem zeroedBlk_at (i : grid0.Coords) (x : Vec Ideal S1x256x768 .f32) (ci : Vec Ideal S1x1x256 .i32) (r p : Fin 256) :
    (zeroedBlk i x ci (ix3 o1 r p) : EReal) = zent (i 0).val (i 1).val x ci r p := by
  rw [← zeroedMat_at]
  unfold zeroedBlk k0_pay55 zeroedMat
  generalize k0_pay54 (F := Ideal) _ _ _ _ _ = G
  refine (shapeCast_addUnit_apply ![256, 256] G shapeCasts_S256x256_S1x256x256 (ix3 o1 r p)).trans (congrArg G ?_)
  funext a; match a with
  | ⟨0, _⟩ => rfl
  | ⟨1, _⟩ => rfl

theorem flagBlk_at (i : grid0.Coords) (ci : Vec Ideal S1x1x256 .i32) (r p : Fin 256) :
    flagBlk (F := Ideal) i ci (ix3 o1 r p) = (zbit (i 0).val (i 1).val ci r p).setWidth 8 := by
  unfold zbit bern
  rw [← zeroBit_eq]
  unfold flagBlk k0_pay56
  generalize k0_pay53 _ _ _ _ = G
  refine (shapeCast_addUnit_apply ![256, 256] (extui 8 G natLt_1_8) shapeCasts_S256x256_S1x256x256 (ix3 o1 r p)).trans ?_
  exact congrArg (fun j => (G j).setWidth 8) (funext fun a => match a with
    | ⟨0, _⟩ => rfl
    | ⟨1, _⟩ => rfl)

theorem maskBlk_at (mk : Vec Ideal S1x1x768 .i32) (r : Fin 256) (f : Fin 768) :
    maskBlk (F := Ideal) mk (ix3 o1 r f) = mk (ix3 o1 o1 f) := by
  unfold maskBlk k0_pay57
  refine (shapeCast_addUnit_apply ![256, 768] _ shapeCasts_S256x768_S1x256x768 (ix3 o1 r f)).trans ?_
  have e : (fun a : Fin 2 => ix3 o1 r f a.succ) = ix2 r f := by
    funext a; match a with
    | ⟨0, _⟩ => rfl
    | ⟨1, _⟩ => rfl
  rw [e, shapeCast_self]
  refine (broadcastTo_1b_ab_apply _ broadcasts_S1x768_S256x768 r f).trans ?_
  refine (shapeCast_dropUnit_apply ![1, 768] mk shapeCasts_S1x1x768_S1x768 (ix2 o1 f)).trans (congrArg mk ?_)
  funext a; match a with
  | ⟨0, _⟩ => rfl
  | ⟨1, _⟩ => rfl
  | ⟨2, _⟩ => rfl

end Cert.KernelIdeal.Spike
-- ==== Proof.Bound.lean ====
/- Maxima over every axis, and what bounds them. -/
module

public import proofs.«01_k».proof.Proof.Spec
public import Idealize.ShloMosaic.PureOps.Ideal.Laws

@[expose] public section

noncomputable section

namespace Cert.Spike

open Idealize.ShloMosaic

/-- The bits of minus infinity. -/
theorem ofBits_bot : Ideal.ofBits .f32 0xFF800000#32 = ⊥ := by simp [Ideal.ofBits, Ideal.ieee]

/-- A running maximum is bounded by what bounds its start and every value joined. -/
theorem foldl_max_le {ι : Type} (l : List ι) (x : ι → EReal) (a M : EReal) :
    l.foldl (fun r i => max r (x i)) a ≤ M ↔ a ≤ M ∧ ∀ i ∈ l, x i ≤ M := by
  induction l generalizing a with
  | nil => simp
  | cons i l ih =>
    rw [List.foldl_cons, ih, max_le_iff, and_assoc]
    simp

/-- A maximum over every axis from minus infinity is bounded by what bounds every entry. -/
theorem reduce_le {s t u : Shape} {axes : List (Fin s.rank)} (x : FVec Ideal s .f32) (h : s.ReducesTo axes t) (hu : 0 < u.numel)
    (ht : ∀ j j' : t.Idx, j = j') (j : t.Idx) (M : EReal) :
    (Host.reduce (FloatOps.maximumf (F := Ideal) (φ := .f32)) x (constant (F := Ideal) u .f32 0xFF800000#32) h hu j : EReal) ≤ M ↔ ∀ i, (x i : EReal) ≤ M := by
  rw [Host.reduce_eq_foldl]
  refine (foldl_max_le _ (fun i => (x i : EReal)) _ M).trans ⟨fun q i => q.2 i ?_, fun q => ⟨?_, fun i _ => q i⟩⟩
  · rw [List.mem_filter]
    exact ⟨List.mem_map.2 ⟨s.rowMajor i, List.mem_finRange _, Equiv.symm_apply_apply _ _⟩, decide_eq_true (ht _ _)⟩
  · refine le_trans (le_of_eq ?_) bot_le
    exact ofBits_bot

/-- A scalar has one index. -/
theorem none_but (j j' : (⟨0, ![]⟩ : Shape).Idx) : j = j' := by
  funext a; exact a.elim0

end Cert.Spike
-- ==== Proof.Maxima.lean ====
/- The running maxima, by what bounds them: a maximum is at most `M` exactly where everything it is taken over is. -/
module

public import proofs.«01_k».proof.Proof.Blocks
public import proofs.«01_k».proof.Proof.Bound
public import Idealize.ShloMosaic.Lib.KernelVsHost

@[expose] public section

set_option maxRecDepth 65536

noncomputable section

namespace Cert.KernelIdeal.Spike

open Cert.Spike Cert.KernelIdeal.Gen
open Idealize.ShloMosaic Idealize.ShloMosaic.TcCoe Idealize.ShloMosaic.ValueIdx

/-- A block's column maxima. -/
theorem colmax_le (v : FVec Ideal S256x768 .f32) (f : Fin 768) (M : EReal) :
    (k0_pay1 v (ix2 o1 f) : EReal) ≤ M ↔ ∀ r : Fin 256, (v (ix2 r f) : EReal) ≤ M := by
  unfold k0_pay1
  dsimp only
  rw [show shapeCast S1x768 _ shapeCasts_S768_S1x768 (ix2 o1 f) = _ from shapeCast_addUnit_apply ![768] _ shapeCasts_S768_S1x768 (ix2 o1 f)]
  refine (iff_of_eq (congrArg (fun w : EReal => w ≤ M) (Ideal.multiReduction_maximumf_single v _ reduces_S256x768_S768 _ _ _))).trans ?_
  rw [Finset.fold_max_le]
  have e : ∀ r : Fin 256, reduces_S256x768_S768.lift (fun a => ix2 o1 f a.succ) r = ix2 r f := fun r => by
    funext a; match a with
    | ⟨0, _⟩ => rfl
    | ⟨1, _⟩ => rfl
  refine ⟨fun h r => ?_, fun h => ⟨?_, fun r _ => ?_⟩⟩
  · rw [← e r]; exact h.2 r (Finset.mem_univ _)
  · rw [Ideal.ofBits_def, ofBits_bot]; exact bot_le
  · show (v _ : EReal) ≤ M
    rw [e r]; exact h r

/-- The zeroed slots' maxima. -/
theorem zcolmax_le (v : FVec Ideal S256x256 .f32) (f : Fin 256) (M : EReal) :
    (k0_pay2 v (ix2 o1 f) : EReal) ≤ M ↔ ∀ r : Fin 256, (v (ix2 r f) : EReal) ≤ M := by
  unfold k0_pay2
  dsimp only
  rw [show shapeCast S1x256 _ shapeCasts_S256_S1x256 (ix2 o1 f) = _ from shapeCast_addUnit_apply ![256] _ shapeCasts_S256_S1x256 (ix2 o1 f)]
  refine (iff_of_eq (congrArg (fun w : EReal => w ≤ M) (Ideal.multiReduction_maximumf_single v _ reduces_S256x256_S256 _ _ _))).trans ?_
  rw [Finset.fold_max_le]
  have e : ∀ r : Fin 256, reduces_S256x256_S256.lift (fun a => ix2 o1 f a.succ) r = ix2 r f := fun r => by
    funext a; match a with
    | ⟨0, _⟩ => rfl
    | ⟨1, _⟩ => rfl
  refine ⟨fun h r => ?_, fun h => ⟨?_, fun r _ => ?_⟩⟩
  · rw [← e r]; exact h.2 r (Finset.mem_univ _)
  · rw [Ideal.ofBits_def, ofBits_bot]; exact bot_le
  · show (v _ : EReal) ≤ M
    rw [e r]; exact h r

/-- A row seen with one more unit coordinate, or one less. -/
theorem addUnit_at {n : ℕ} {α : Type} (v : (⟨2, ![1, n]⟩ : Shape).Idx → α) (h : (⟨2, ![1, n]⟩ : Shape).ShapeCasts ⟨3, ![1, 1, n]⟩) (f : Fin n) :
    shapeCast ⟨3, ![1, 1, n]⟩ v h (ix3 o1 o1 f) = v (ix2 o1 f) := by
  refine (shapeCast_addUnit_apply ![1, n] v h (ix3 o1 o1 f)).trans (congrArg v ?_)
  funext a; match a with
  | ⟨0, _⟩ => rfl
  | ⟨1, _⟩ => rfl
/-- The same the other way. -/
theorem dropUnit_at {n : ℕ} {α : Type} (v : (⟨3, ![1, 1, n]⟩ : Shape).Idx → α) (h : (⟨3, ![1, 1, n]⟩ : Shape).ShapeCasts ⟨2, ![1, n]⟩) (f : Fin n) :
    shapeCast ⟨2, ![1, n]⟩ v h (ix2 o1 f) = v (ix3 o1 o1 f) := by
  refine (shapeCast_dropUnit_apply ![1, n] v h (ix2 o1 f)).trans (congrArg v ?_)
  funext a; match a with
  | ⟨0, _⟩ => rfl
  | ⟨1, _⟩ => rfl
  | ⟨2, _⟩ => rfl

/-- At a batch's first row block the column maxima are the block's; -/
theorem colStart_le (x : Vec Ideal S1x256x768 .f32) (f : Fin 768) (M : EReal) :
    (colStart x (ix3 o1 o1 f) : EReal) ≤ M ↔ ∀ r : Fin 256, (x (ix3 o1 r f) : EReal) ≤ M := by
  unfold colStart k0_pay3
  rw [show shapeCast S1x1x768 _ shapeCasts_S1x768_S1x1x768 (ix3 o1 o1 f) = _ from addUnit_at _ shapeCasts_S1x768_S1x1x768 f, colmax_le]
  simp only [pay7_at]

/-- at a later one they are joined with what was there. -/
theorem colStep_le (x : Vec Ideal S1x256x768 .f32) (old : Vec Ideal S1x1x768 .f32) (f : Fin 768) (M : EReal) :
    (colStep x old (ix3 o1 o1 f) : EReal) ≤ M ↔ (old (ix3 o1 o1 f) : EReal) ≤ M ∧ ∀ r : Fin 256, (x (ix3 o1 r f) : EReal) ≤ M := by
  have e : (colStep x old (ix3 o1 o1 f) : EReal) = max (old (ix3 o1 o1 f) : EReal) (k0_pay1 (k0_pay7 x) (ix2 o1 f)) := by
    unfold colStep k0_pay5
    generalize k0_pay1 (F := Ideal) _ = Y
    refine (show _ = _ from addUnit_at _ shapeCasts_S1x768_S1x1x768 f).trans ?_
    exact congrArg (fun w : EReal => max w (Y (ix2 o1 f))) (dropUnit_at old shapeCasts_S1x1x768_S1x768 f)
  rw [e, max_le_iff, colmax_le]
  simp only [pay7_at]

/-- The zeroed slots' maxima start the same way, -/
theorem zcolStart_le (i : grid0.Coords) (x : Vec Ideal S1x256x768 .f32) (ci : Vec Ideal S1x1x256 .i32) (p : Fin 256) (M : EReal) :
    (zcolStart i x ci (ix3 o1 o1 p) : EReal) ≤ M ↔ ∀ r : Fin 256, zent (i 0).val (i 1).val x ci r p ≤ M := by
  unfold zcolStart k0_pay4
  rw [show shapeCast S1x1x256 _ shapeCasts_S1x256_S1x1x256 (ix3 o1 o1 p) = _ from addUnit_at _ shapeCasts_S1x256_S1x1x256 p, zcolmax_le]
  simp only [zeroedMat_at]

/-- and are joined the same way. -/
theorem zcolStep_le (i : grid0.Coords) (x : Vec Ideal S1x256x768 .f32) (ci : Vec Ideal S1x1x256 .i32) (old : Vec Ideal S1x1x256 .f32) (p : Fin 256) (M : EReal) :
    (zcolStep i x ci old (ix3 o1 o1 p) : EReal) ≤ M ↔ (old (ix3 o1 o1 p) : EReal) ≤ M ∧ ∀ r : Fin 256, zent (i 0).val (i 1).val x ci r p ≤ M := by
  have e : (zcolStep i x ci old (ix3 o1 o1 p) : EReal) = max (old (ix3 o1 o1 p) : EReal) (k0_pay2 (zeroedMat i x ci) (ix2 o1 p)) := by
    unfold zcolStep k0_pay6
    generalize k0_pay2 (F := Ideal) _ = Y
    refine (show _ = _ from addUnit_at _ shapeCasts_S1x256_S1x1x256 p).trans ?_
    exact congrArg (fun w : EReal => max w (Y (ix2 o1 p))) (dropUnit_at old shapeCasts_S1x1x256_S1x256 p)
  rw [e, max_le_iff, zcolmax_le]
  simp only [zeroedMat_at]

end Cert.KernelIdeal.Spike
-- ==== Proof.Whole.lean ====
/- The blocks of the two passes as cuts of the whole arrays, and what the first pass leaves in each of its arrays. -/
module

public import proofs.«01_k».proof.Proof.Cells
public import proofs.«01_k».proof.Proof.Blocks
public import proofs.«01_k».proof.Proof.Maxima

@[expose] public section

set_option maxRecDepth 16384

noncomputable section

namespace Cert.KernelIdeal.Spike

open Cert.KernelIdeal.Gen Cert.Spike
open Idealize.ShloMosaic hiding ix2 ix3
open Idealize.ShloMosaic.TcCoe Idealize.ShloMosaic.Tactic Idealize.ShloMosaic.ValueIdx
open Idealize.ShloMosaic.Pipeline (Dat Cfg Window)

/-- The row block of a row, and its place there. -/
def blkOf (t : Fin 2048) : Fin 8 := ⟨t.val / 256, by omega⟩
def posIn (t : Fin 2048) : Fin 256 := ⟨t.val % 256, by omega⟩
theorem blkOf_row (h : Fin 8) (r : Fin 256) : blkOf (row h r) = h := Fin.ext (by simp only [blkOf, row]; omega)
theorem posIn_row (h : Fin 8) (r : Fin 256) : posIn (row h r) = r := Fin.ext (by simp only [posIn, row]; omega)

/-- Batch `b`, row block `h` of the argument; -/
def xcut (X : Vec Ideal S16x2048x768 .f32) (b : Fin 16) (h : Fin 8) : Vec Ideal S1x256x768 .f32 := fun j => X (ix3 b (row h (j 1)) (j 2))
/-- batch `b` of the slot table. -/
def ccut (T : Vec Ideal S16x1x256 .i32) (b : Fin 16) : Vec Ideal S1x1x256 .i32 := fun j => T (ix3 b o1 (j 2))

/-- The slots' values after zeroing, over the whole array. -/
def slotVal (X : Vec Ideal S16x2048x768 .f32) (T : Vec Ideal S16x1x256 .i32) (b : Fin 16) (t : Fin 2048) (p : Fin 256) : EReal :=
  zent b.val (blkOf t).val (xcut X b (blkOf t)) (ccut T b) (posIn t) p
/-- The slots' zeroing bits, over the whole array. -/
def slotBit (T : Vec Ideal S16x1x256 .i32) (b : Fin 16) (t : Fin 2048) (p : Fin 256) : BitVec 1 :=
  zbit b.val (blkOf t).val (ccut T b) (posIn t) p

/-- At a row given by its block, they are what the block holds. -/
theorem slotVal_row (X : Vec Ideal S16x2048x768 .f32) (T : Vec Ideal S16x1x256 .i32) (b : Fin 16) (h : Fin 8) (r p : Fin 256) :
    slotVal X T b (row h r) p = zent b.val h.val (xcut X b h) (ccut T b) r p := by
  unfold slotVal; rw [blkOf_row, posIn_row]
/-- The same of the bits. -/
theorem slotBit_row (T : Vec Ideal S16x1x256 .i32) (b : Fin 16) (h : Fin 8) (r p : Fin 256) :
    slotBit T b (row h r) p = zbit b.val h.val (ccut T b) r p := by
  unfold slotBit; rw [blkOf_row, posIn_row]

section Passes
variable (V : (c : Dev nD) → (b : Ref sig .tc) → Buf (Elt Ideal) ((c : Thread nD τ).loc b)) (c : Dev nD)

/-- Each input block of the first pass is a cut of its array; -/
theorem cutA_0 (t : Fin cfg0.N) : inA V c 0 t = xcut (V c main_arg0) (bA t) (hA t) := by
  funext j
  rw [first_axis (n1 := 256) (n2 := 768) j]
  exact inA_0 V c t _ _
theorem cutA_1 (t : Fin cfg0.N) : inA V c 1 t = ccut (V c main_c_0) (bA t) := by
  funext j
  have e : j = ix3 o1 o1 (j 2) := idx3 (n0 := 1) (n1 := 1) (n2 := 256) j _ _ _ (Nat.lt_one_iff.mp (j 0).isLt) (Nat.lt_one_iff.mp (j 1).isLt) rfl
  rw [e]
  exact inA_1 V c t _
/-- and of the second pass likewise. -/
theorem cutB_0 (t : Fin cfg1.N) : inB V c 0 t = xcut (V c main_arg0) (bB t) (hB t) := by
  funext j
  rw [first_axis (n1 := 256) (n2 := 768) j]
  exact inB_0 V c t _ _
theorem cutB_3 (t : Fin cfg1.N) : inB V c 3 t = ccut (V c main_c_0) (bB t) := by
  funext j
  have e : j = ix3 o1 o1 (j 2) := idx3 (n0 := 1) (n1 := 1) (n2 := 256) j _ _ _ (Nat.lt_one_iff.mp (j 0).isLt) (Nat.lt_one_iff.mp (j 1).isLt) rfl
  rw [e]
  exact inB_3 V c t _

/-- The zeroed slots, -/
theorem arr_zeroed : (datA V c).arrAt 3 cfg0.N = fun i : S16x2048x256.Idx => slotVal (V c main_arg0) (V c main_c_0) (i 0) (i 1) (i 2) := by
  refine outA_3 c (datA V c) _ fun t r p => ?_
  rw [afterA_3, cutA_0, cutA_1]
  exact (zeroedBlk_at _ _ _ r p).trans (slotVal_row _ _ (bA t) (hA t) r p).symm

/-- the zeroing bits, -/
theorem arr_flags : (datA V c).arrAt 4 cfg0.N = fun i : S16x2048x256.Idx => (slotBit (V c main_c_0) (i 0) (i 1) (i 2)).setWidth 8 := by
  refine outA_4 c (datA V c) _ fun t r p => ?_
  rw [afterA_4, cutA_1]
  exact (flagBlk_at _ _ r p).trans (congrArg (BitVec.setWidth 8) (slotBit_row _ (bA t) (hA t) r p).symm)

/-- the integer mask, -/
theorem arr_mask : (datA V c).arrAt 5 cfg0.N = fun i : S16x2048x768.Idx => V c main_c (ix3 (i 0) o1 (i 2)) := by
  refine outA_5 c (datA V c) _ fun t r f => ?_
  rw [afterA_5]
  exact (maskBlk_at _ r f).trans (inA_2 V c t f)

end Passes

end Cert.KernelIdeal.Spike
-- ==== Proof.Peaks.lean ====
/- The running maxima over a batch's row blocks, and what the first pass leaves of them. -/
module

public import proofs.«01_k».proof.Proof.Whole

@[expose] public section

set_option maxRecDepth 16384

noncomputable section

namespace Cert.KernelIdeal.Spike

open Cert.KernelIdeal.Gen Cert.Spike
open Idealize.ShloMosaic hiding ix2 ix3
open Idealize.ShloMosaic.TcCoe Idealize.ShloMosaic.Tactic Idealize.ShloMosaic.ValueIdx
open Idealize.ShloMosaic.Pipeline (Dat Cfg Window)

/-- A quantity that starts at the first row block of each batch and joins every later one bounds what every row block so far
    of the batch bounds. -/
theorem running {P : (n : ℕ) → n < cfg0.N → Prop} {Q : Fin 16 → Fin 8 → Prop}
    (first : ∀ t : Fin cfg0.N, t.val % 8 = 0 → (P t.val t.isLt ↔ Q (bA t) (hA t)))
    (later : ∀ t : Fin cfg0.N, ¬t.val % 8 = 0 → (P t.val t.isLt ↔ P (t.val - 1) (pred_lt t) ∧ Q (bA t) (hA t))) :
    ∀ (n : ℕ) (hn : n < cfg0.N), P n hn ↔ ∀ h : Fin 8, h.val ≤ n % 8 → Q (bA ⟨n, hn⟩) h := by
  intro n
  induction n with
  | zero =>
    intro hn
    refine (first ⟨0, hn⟩ rfl).trans ⟨fun q h hh => ?_, fun q => q _ (Nat.le_of_eq (hA_val _))⟩
    have e : hA ⟨0, hn⟩ = h := Fin.ext ((hA_val _).trans (by simp only at hh ⊢; omega))
    rw [← e]; exact q
  | succ n ih =>
    intro hn
    by_cases hz : (n + 1) % 8 = 0
    · refine (first ⟨n + 1, hn⟩ hz).trans ⟨fun q h hh => ?_, fun q => q _ (Nat.le_of_eq (hA_val _))⟩
      have e : hA ⟨n + 1, hn⟩ = h := Fin.ext ((hA_val _).trans (by simp only at hh ⊢; omega))
      rw [← e]; exact q
    · have hb : bA ⟨n, Nat.lt_of_succ_lt hn⟩ = bA ⟨n + 1, hn⟩ := Fin.ext ((bA_val _).trans (Eq.trans (by simp only; omega) (bA_val _).symm))
      refine (later ⟨n + 1, hn⟩ hz).trans ?_
      show P n _ ∧ _ ↔ _
      rw [ih (Nat.lt_of_succ_lt hn), hb]
      refine ⟨fun q h hh => ?_, fun q => ⟨fun h hh => q h (by omega), q _ (Nat.le_of_eq (hA_val _))⟩⟩
      by_cases hl : h.val ≤ n % 8
      · exact q.1 h hl
      · have e : hA ⟨n + 1, hn⟩ = h := Fin.ext ((hA_val _).trans (by simp only at hh ⊢; omega))
        rw [← e]; exact q.2

section Passes
variable (V : (c : Dev nD) → (b : Ref sig .tc) → Buf (Elt Ideal) ((c : Thread nD τ).loc b)) (c : Dev nD)

/-- An entry of the argument. -/
abbrev xAt (b : Fin 16) (t : Fin 2048) (f : Fin 768) : EReal := V c main_arg0 (ix3 b t f)

/-- After a point the column maxima are over the batch's row blocks so far, -/
theorem colAt_le (f : Fin 768) (M : EReal) (n : ℕ) (hn : n < cfg0.N) :
    (colAt V c n hn (ix3 o1 o1 f) : EReal) ≤ M
      ↔ ∀ h : Fin 8, h.val ≤ n % 8 → ∀ r : Fin 256, xAt V c (bA ⟨n, hn⟩) (row h r) f ≤ M := by
  refine running (P := fun n hn => (colAt V c n hn (ix3 o1 o1 f) : EReal) ≤ M)
    (Q := fun b h => ∀ r : Fin 256, xAt V c b (row h r) f ≤ M) (fun t ht => ?_) (fun t ht => ?_) n hn
  · rw [colAt_first V c t ht, colStart_le, cutA_0]; rfl
  · rw [colAt_later V c t ht, colStep_le, cutA_0]; rfl

/-- and so are the zeroed slots' maxima. -/
theorem zcolAt_le (p : Fin 256) (M : EReal) (n : ℕ) (hn : n < cfg0.N) :
    (zcolAt V c n hn (ix3 o1 o1 p) : EReal) ≤ M
      ↔ ∀ h : Fin 8, h.val ≤ n % 8 → ∀ r : Fin 256, slotVal (V c main_arg0) (V c main_c_0) (bA ⟨n, hn⟩) (row h r) p ≤ M := by
  refine running (P := fun n hn => (zcolAt V c n hn (ix3 o1 o1 p) : EReal) ≤ M)
    (Q := fun b h => ∀ r : Fin 256, slotVal (V c main_arg0) (V c main_c_0) b (row h r) p ≤ M) (fun t ht => ?_) (fun t ht => ?_) n hn
  · rw [zcolAt_first V c t ht, zcolStart_le, cutA_0, cutA_1]; simp only [slotVal_row]; rfl
  · rw [zcolAt_later V c t ht, zcolStep_le, cutA_0, cutA_1]; simp only [slotVal_row]; rfl

/-- All row blocks of a batch are all its rows. -/
theorem all_rows {Q : Fin 2048 → Prop} (n : ℕ) (hn : n % 8 = 7) : (∀ h : Fin 8, h.val ≤ n % 8 → ∀ r, Q (row h r)) ↔ ∀ t, Q t :=
  ⟨fun q t => by obtain ⟨h, r, rfl⟩ := row_onto t; exact q h (by omega) r, fun q h _ r => q _⟩

/-- The column maxima, -/
theorem arr_cols : (datA V c).arrAt 6 cfg0.N
    = fun i : S16x1x768.Idx => ⨆ t : Fin 2048, xAt V c (i 0) t (i 2) := by
  refine outA_6 c (datA V c) _ fun t ht f => ?_
  rw [afterA_6]
  refine eq_of_forall_ge_iff (α := EReal) fun M => ?_
  rw [colAt_le, all_rows (Q := fun T => xAt V c (bA t) T f ≤ M) t.val ht]
  exact iSup_le_iff.symm

/-- and the zeroed slots' maxima. -/
theorem arr_zcols : (datA V c).arrAt 7 cfg0.N
    = fun i : S16x1x256.Idx => ⨆ t : Fin 2048, slotVal (V c main_arg0) (V c main_c_0) (i 0) t (i 2) := by
  refine outA_7 c (datA V c) _ fun t ht p => ?_
  rw [afterA_7]
  refine eq_of_forall_ge_iff (α := EReal) fun M => ?_
  rw [zcolAt_le, all_rows (Q := fun T => slotVal (V c main_arg0) (V c main_c_0) (bA t) T p ≤ M) t.val ht]
  exact iSup_le_iff.symm

end Passes

end Cert.KernelIdeal.Spike
-- ==== Proof.Walk.lean ====
/- Walking a row of the mask beside the list of its masked columns: one pass says that the list holds exactly the masked
   columns, each once, and minus one after them. -/
module

public import proofs.«01_k».proof.Proof.Spec

@[expose] public section

namespace Cert.Spike

/-- The list holds minus one in the `n` slots from `p` on. -/
def pads (sl : ℕ → BitVec 32) : (n p : ℕ) → Bool
  | 0, _ => true
  | n + 1, p => decide (sl p = 4294967295#32) && pads sl n (p + 1)

/-- From column `f` and slot `p` on, `n` columns: each masked column is the next slot's entry; the slots left hold minus one. -/
def walk (mk sl : ℕ → BitVec 32) : (n f p : ℕ) → Bool
  | 0, _, p => pads sl (256 - p) p
  | n + 1, f, p => if mk f = 1#32 then decide (p < 256) && (decide (sl p = BitVec.ofNat 32 f) && walk mk sl n (f + 1) (p + 1))
      else walk mk sl n (f + 1) p

theorem pads_spec (sl : ℕ → BitVec 32) : (n p : ℕ) → pads sl n p = true → ∀ q, p ≤ q → q < p + n → sl q = 4294967295#32
  | 0, p, _, q, h1, h2 => by omega
  | n + 1, p, h, q, h1, h2 => by
    simp only [pads, Bool.and_eq_true, decide_eq_true_eq] at h
    by_cases e : q = p
    · rw [e]; exact h.1
    · exact pads_spec sl n (p + 1) h.2 q (by omega) (by omega)

/-- What one walk says: the slots below `r` hold the masked columns from `f` to `f + n` in increasing order, the others minus one. -/
theorem walk_spec (mk sl : ℕ → BitVec 32) : (n f p : ℕ) → p ≤ 256 → walk mk sl n f p = true → ∃ r, p ≤ r ∧ r ≤ 256
    ∧ (∀ g, f ≤ g → g < f + n → mk g = 1#32 → ∃ q, p ≤ q ∧ q < r ∧ sl q = BitVec.ofNat 32 g)
    ∧ (∀ q, p ≤ q → q < r → ∃ g, f ≤ g ∧ g < f + n ∧ mk g = 1#32 ∧ sl q = BitVec.ofNat 32 g ∧
        ∀ q', q < q' → q' < r → ∃ g', g < g' ∧ g' < f + n ∧ sl q' = BitVec.ofNat 32 g')
    ∧ ∀ q, r ≤ q → q < 256 → sl q = 4294967295#32
  | 0, f, p, hp, h => ⟨p, le_refl _, hp, fun g h1 h2 => by omega, fun q h1 h2 => by omega,
      fun q h1 h2 => pads_spec sl _ p h q h1 (by omega)⟩
  | n + 1, f, p, hp, h => by
    unfold walk at h
    by_cases hm : mk f = 1#32
    · rw [if_pos hm] at h
      simp only [Bool.and_eq_true, decide_eq_true_eq] at h
      obtain ⟨h1, h2, h3⟩ := h
      obtain ⟨r, r1, r2, a, b, d⟩ := walk_spec mk sl n (f + 1) (p + 1) (by omega) h3
      refine ⟨r, by omega, r2, fun g g1 g2 gm => ?_, fun q q1 q2 => ?_, d⟩
      · by_cases e : g = f
        · exact ⟨p, le_refl _, by omega, e ▸ h2⟩
        · obtain ⟨q, q1, q2, q3⟩ := a g (by omega) (by omega) gm
          exact ⟨q, by omega, q2, q3⟩
      · by_cases e : q = p
        · refine ⟨f, le_refl _, by omega, hm, e ▸ h2, fun q' h4 h5 => ?_⟩
          obtain ⟨g, g1, g2, -, g3, -⟩ := b q' (by omega) h5
          exact ⟨g, by omega, by omega, g3⟩
        · obtain ⟨g, g1, g2, g3, g4, g5⟩ := b q (by omega) q2
          refine ⟨g, by omega, by omega, g3, g4, fun q' h4 h5 => ?_⟩
          obtain ⟨g', k1, k2, k3⟩ := g5 q' h4 h5
          exact ⟨g', k1, by omega, k3⟩
    · rw [if_neg hm] at h
      obtain ⟨r, r1, r2, a, b, d⟩ := walk_spec mk sl n (f + 1) p hp h
      refine ⟨r, r1, r2, fun g g1 g2 gm => ?_, fun q q1 q2 => ?_, d⟩
      · have e : g ≠ f := fun e => hm (e ▸ gm)
        obtain ⟨q, q1, q2, q3⟩ := a g (by omega) (by omega) gm
        exact ⟨q, q1, q2, q3⟩
      · obtain ⟨g, g1, g2, g3, g4, g5⟩ := b q q1 q2
        refine ⟨g, by omega, by omega, g3, g4, fun q' h4 h5 => ?_⟩
        obtain ⟨g', k1, k2, k3⟩ := g5 q' h4 h5
        exact ⟨g', k1, by omega, k3⟩

/-- A row's list: no two slots hold the same masked column. -/
theorem walk_row {mk sl : ℕ → BitVec 32} (h : walk mk sl 768 0 0 = true) :
    (∀ g, g < 768 → mk g = 1#32 → ∃ q, q < 256 ∧ sl q = BitVec.ofNat 32 g)
    ∧ (∀ q, q < 256 → sl q = 4294967295#32 ∨ ∃ g, g < 768 ∧ mk g = 1#32 ∧ sl q = BitVec.ofNat 32 g)
    ∧ ∀ q q' g, q < 256 → q' < 256 → g < 768 → sl q = BitVec.ofNat 32 g → sl q' = BitVec.ofNat 32 g → q = q' := by
  obtain ⟨r, -, r2, a, b, d⟩ := walk_spec mk sl 768 0 0 (by omega) h
  have inj : ∀ g g' : ℕ, g < 768 → g' < 768 → BitVec.ofNat 32 g = BitVec.ofNat 32 g' → g = g' := fun g g' h1 h2 e => by
    have := congrArg BitVec.toNat e
    simp only [BitVec.toNat_ofNat] at this
    omega
  have neg : ∀ g : ℕ, g < 768 → BitVec.ofNat 32 g ≠ 4294967295#32 := fun g h1 e => by
    have := congrArg BitVec.toNat e
    simp only [BitVec.toNat_ofNat] at this
    omega
  have lt : ∀ q q' g, q < q' → q' < 256 → g < 768 → sl q = BitVec.ofNat 32 g → sl q' = BitVec.ofNat 32 g → False := by
    intro q q' g h1 h2 hg e1 e2
    have hr : q' < r := by
      by_contra hr
      exact neg g hg (e2.symm.trans (d q' (by omega) h2))
    obtain ⟨k, -, k2, -, k3, k4⟩ := b q (by omega) (by omega)
    obtain ⟨k', k5, k6, k7⟩ := k4 q' h1 hr
    have x1 := inj k g (by omega) hg (k3.symm.trans e1)
    have x2 := inj k' g (by omega) hg (k7.symm.trans e2)
    omega
  refine ⟨fun g h1 h2 => ?_, fun q h1 => ?_, fun q q' g h1 h2 hg e1 e2 => ?_⟩
  · obtain ⟨q, -, q2, q3⟩ := a g (by omega) (by omega) h2
    exact ⟨q, by omega, q3⟩
  · by_cases hr : q < r
    · obtain ⟨k, -, k2, k1, k3, -⟩ := b q (by omega) hr
      exact .inr ⟨k, by omega, k1, k3⟩
    · exact .inl (d q (by omega) h1)
  · rcases Nat.lt_trichotomy q q' with hl | hl | hl
    · exact (lt q q' g hl h2 hg e1 e2).elim
    · exact hl
    · exact (lt q' q g hl h1 hg e2 e1).elim

end Cert.Spike
-- ==== Proof.Tables.lean ====
/- The kernel's three tables: the mask's row of every batch is the drawn mask, and the list of columns goes with it. -/
module

public import proofs.«01_k».proof.Proof.Walk
public import proofs.«01_k».proof.Proof.Gen.KernelIdeal.Skeleton

@[expose] public section

set_option maxRecDepth 65536

namespace Cert.KernelIdeal.Spike

open Cert.Spike Cert.KernelIdeal.Gen
open Idealize.ShloMosaic

/-- The table of the mask holds the drawn bits. -/
theorem mask_table : ∀ b : Fin 16, ∀ f : Fin 768, lit0t (768 * b.val + f.val) = (maskBit b.val f.val).setWidth 32 := by decide +kernel

/-- The two tables of columns are one. -/
theorem columns_twice : ∀ i : Fin 4096, lit2t i.val = lit1t i.val := by decide +kernel

/-- Each batch's list of columns goes with its mask. -/
theorem columns_walk : ∀ b : Fin 16, walk (fun f => lit0t (768 * b.val + f)) (fun p => lit1t (256 * b.val + p)) 768 0 0 = true := by
  decide +kernel

end Cert.KernelIdeal.Spike
-- ==== Proof.OutBlock.lean ====
/- The second pass's block, entry by entry: what the masker returns there. -/
module

public import proofs.«01_k».proof.Proof.Blocks

@[expose] public section

set_option maxRecDepth 65536

noncomputable section

namespace Cert.KernelIdeal.Spike

open Cert.Spike Cert.KernelIdeal.Gen
open Idealize.ShloMosaic Idealize.ShloMosaic.TcCoe Idealize.ShloMosaic.ValueIdx

/-- The slots list the masked columns of batch `b`, each once, and minus one beside them. -/
def Lists (b : ℕ) (sl : Fin 256 → BitVec 32) : Prop :=
  (∀ g : Fin 768, maskBit b g.val = 1#1 → ∃ q, sl q = BitVec.ofNat 32 g.val)
  ∧ (∀ q, sl q = 4294967295#32 ∨ ∃ g : Fin 768, maskBit b g.val = 1#1 ∧ sl q = BitVec.ofNat 32 g.val)
  ∧ ∀ q q' (g : Fin 768), sl q = BitVec.ofNat 32 g.val → sl q' = BitVec.ofNat 32 g.val → q = q'

/-- No slot lists an unmasked column. -/
theorem Lists.free {b : ℕ} {sl : Fin 256 → BitVec 32} (h : Lists b sl) (f : Fin 768) (hf : maskBit b f.val = 0#1) (q : Fin 256) :
    BitVec.ofNat 32 f.val ≠ sl q := by
  intro e
  rcases h.2.1 q with hq | ⟨g, hm, hq⟩
  · rw [hq] at e
    have := congrArg BitVec.toNat e
    simp only [BitVec.toNat_ofNat] at this
    omega
  · have := ofNat_inj (by omega) (by omega) (e.trans hq)
    rw [← this, hf] at hm
    exact absurd hm (by decide)

/-- The value scattered at a slot that holds column `g`. -/
theorem scattered_at (i : grid1.Coords) (x : Vec Ideal S1x256x768 .f32) (ci : Vec Ideal S1x1x256 .i32) (M : EReal) (r p : Fin 256)
    (g : Fin 768) (hc : ci (ix3 o1 o1 p) = BitVec.ofNat 32 g.val) (hm : maskBit (i 0).val g.val = 1#1) :
    (Scalar.select (drawBit i ci (ix2 r p) &&& IntOp.cmpi .eq ((zbit (i 0).val (i 1).val ci r p).setWidth 8) 0#8)
      (M * unif ((unif3a i ci (ix2 r p) + 2488261133#32) ^^^ (unif3b i ci (ix2 r p) + 3134548294#32 + 5#32)))
      (zent (i 0).val (i 1).val x ci r p) : EReal)
      = masked M (x (ix3 o1 r g)) (i 0).val (256 * (i 1).val + r.val) g.val := by
  have eu : unif ((unif3a i ci (ix2 r p) + 2488261133#32) ^^^ (unif3b i ci (ix2 r p) + 3134548294#32 + 5#32))
      = randVal (flat (i 0).val (256 * (i 1).val + r.val) g.val) := by
    unfold randVal
    rw [← posOf_at (i 0).val (i 1).val ci r p g.val hc]
    unfold bits32
    rw [← unif_eq]
    rfl
  have ed : drawBit i ci (ix2 r p) = randDraw (flat (i 0).val (256 * (i 1).val + r.val) g.val) := by
    rw [drawBit_eq, posOf_at (i 0).val (i 1).val ci r p g.val hc]; rfl
  rw [eu, ed]
  unfold zent masked Scalar.select
  rw [zbit_at _ _ ci r p g.val hc, gath_hit x ci r p g hc, if_pos hm]
  generalize zeroDraw _ = z
  generalize randDraw _ = d
  generalize M * randVal _ = y
  rcases bit_cases z with hz | hz <;> rcases bit_cases d with hd | hd <;> rw [hz, hd] <;> simp [IntOp.cmpi]

/-- The stored block: the unmasked input beside the scattered columns. -/
theorem stored_at (R : FVec Ideal S256x768 .f32) (mk : Vec Ideal S1x1x768 .i32) (x : Vec Ideal S1x256x768 .f32) (r : Fin 256) (f : Fin 768) :
    (k1_pay1 R (k1_pay94 (F := Ideal) mk) x (ix3 o1 r f) : EReal)
      = (if IntOp.cmpi .sgt (mk (ix3 o1 o1 f)) 0#32 = 1#1 then 0 else (x (ix3 o1 r f) : EReal)) + R (ix2 r f) := by
  have e : (fun a : Fin 2 => ix3 o1 r f a.succ) = ix2 r f := by
    funext a; match a with
    | ⟨0, _⟩ => rfl
    | ⟨1, _⟩ => rfl
  have e1 : shapeCast S256x768 x shapeCasts_S1x256x768_S256x768 (ix2 r f) = x (ix3 o1 r f) := pay7_at x r f
  have e2 : shapeCast S1x768 mk shapeCasts_S1x1x768_S1x768 (ix2 o1 f) = mk (ix3 o1 o1 f) := by
    refine (shapeCast_dropUnit_apply ![1, 768] mk shapeCasts_S1x1x768_S1x768 (ix2 o1 f)).trans (congrArg mk ?_)
    funext a; match a with
    | ⟨0, _⟩ => rfl
    | ⟨1, _⟩ => rfl
    | ⟨2, _⟩ => rfl
  unfold k1_pay1 k1_pay94
  refine (shapeCast_addUnit_apply ![256, 768] _ shapeCasts_S256x768_S1x256x768 (ix3 o1 r f)).trans ?_
  rw [e, shapeCast_self]
  have e3 : broadcastTo S256x768 (cmpi .sgt (shapeCast S1x768 mk shapeCasts_S1x1x768_S1x768) (broadcast S1x768 0#32)) broadcasts_S1x768_S256x768 (ix2 r f)
      = IntOp.cmpi .sgt (mk (ix3 o1 o1 f)) 0#32 :=
    (broadcastTo_1b_ab_apply _ broadcasts_S1x768_S256x768 r f).trans (congrArg (fun w => IntOp.cmpi .sgt w 0#32) e2)
  rw [← e3, ← e1, ← ofBits_zero]
  generalize broadcastTo S256x768 _ _ = B
  generalize shapeCast S256x768 x _ = X
  rfl

/-- Where the blocks it reads are the first pass's, the second pass's block holds what the masker returns. -/
theorem outBlk_at (i : grid1.Coords) (x : Vec Ideal S1x256x768 .f32) (zm : Vec Ideal S1x256x256 .f32) (fl : Vec Ideal S1x256x256 .i8)
    (ci : Vec Ideal S1x1x256 .i32) (ct : Vec Ideal S1x256x1 .i32) (mk : Vec Ideal S1x1x768 .i32) (mx : Vec Ideal S1x1 .f32)
    (hz : ∀ r p : Fin 256, (zm (ix3 o1 r p) : EReal) = zent (i 0).val (i 1).val x ci r p)
    (hf : ∀ r p : Fin 256, fl (ix3 o1 r p) = (zbit (i 0).val (i 1).val ci r p).setWidth 8)
    (ht : ∀ p : Fin 256, ct (ix3 o1 p o1) = ci (ix3 o1 o1 p))
    (hk : ∀ f : Fin 768, mk (ix3 o1 o1 f) = (maskBit (i 0).val f.val).setWidth 32)
    (hl : Lists (i 0).val fun p => ci (ix3 o1 o1 p)) (r : Fin 256) (f : Fin 768) :
    (outBlk i x zm fl ci ct mk mx (ix3 o1 r f) : EReal)
      = masked (mx (ix2 o1 o1)) (x (ix3 o1 r f)) (i 0).val (256 * (i 1).val + r.val) f.val := by
  unfold outBlk
  rw [stored_at, scatter_at, hk]
  rcases bit_cases (maskBit (i 0).val f.val) with hm | hm
  · rw [sum_cold _ (fun _ => BitVec.ofNat 32 f.val) (fun p => ct (ix3 o1 p o1)) fun p => by rw [ht]; exact hl.free f hm p, add_zero]
    unfold masked
    rw [hm, if_neg (by decide), if_neg (by decide)]
  · obtain ⟨p, hp⟩ := hl.1 f hm
    rw [sum_single _ (fun _ => BitVec.ofNat 32 f.val) (fun p => ct (ix3 o1 p o1)) p (by rw [ht]; exact hp.symm)
      fun q hq => hl.2.2 q p f ((ht q).symm.trans hq.symm) hp]
    rw [hz, hf, scattered_at i x ci _ r p f hp hm, hm, if_pos (by decide), zero_add]

end Cert.KernelIdeal.Spike
-- ==== Proof.Rows.lean ====
/- Each batch's list of columns, and one position the reference zeroes. -/
module

public import proofs.«01_k».proof.Proof.Tables
public import proofs.«01_k».proof.Proof.OutBlock

@[expose] public section

namespace Cert.KernelIdeal.Spike

open Cert.Spike Cert.KernelIdeal.Gen
open Idealize.ShloMosaic

/-- A mask entry is one where the bit is. -/
theorem wide_one (b : BitVec 1) : b.setWidth 32 = 1#32 ↔ b = 1#1 := by
  revert b; decide

/-- The table lists each batch's masked columns. -/
theorem lists (b : Fin 16) : Lists b.val fun p => lit1t (256 * b.val + p.val) := by
  obtain ⟨h1, h2, h3⟩ := walk_row (columns_walk b)
  have hm : ∀ g : Fin 768, lit0t (768 * b.val + g.val) = 1#32 ↔ maskBit b.val g.val = 1#1 := fun g => by
    rw [mask_table]; exact wide_one _
  refine ⟨fun g hg => ?_, fun q => ?_, fun q q' g e e' => Fin.ext (h3 q.val q'.val g.val q.isLt q'.isLt g.isLt e e')⟩
  · obtain ⟨q, hq, e⟩ := h1 g.val g.isLt ((hm g).mpr hg)
    exact ⟨⟨q, hq⟩, e⟩
  · rcases h2 q.val q.isLt with e | ⟨g, hg, hk, e⟩
    · exact Or.inl e
    · exact Or.inr ⟨⟨g, hg⟩, (hm ⟨g, hg⟩).mp hk, e⟩

/-- Some masked position is zeroed. -/
theorem some_zero : ∃ f : Fin 768, maskBit 0 f.val = 1#1 ∧ zeroDraw (flat 0 0 f.val) = 1#1 := by decide +kernel

end Cert.KernelIdeal.Spike
-- ==== Proof.Between.lean ====
/- What the host computes before and between the two passes: the tables, and the largest zeroed spike from the two sets of
   maxima. -/
module

public import proofs.«01_k».proof.Proof.Peaks
public import proofs.«01_k».proof.Proof.Rows
public import proofs.«01_k».proof.Proof.Bound
public import proofs.«01_k».proof.Proof.Run

@[expose] public section

set_option maxRecDepth 16384

noncomputable section

namespace Cert.KernelIdeal.Spike

open Cert.KernelIdeal.Gen Cert.Spike
open Idealize.ShloMosaic hiding ix2 ix3
open Idealize.ShloMosaic.TcCoe Idealize.ShloMosaic.Tactic Idealize.ShloMosaic.ValueIdx
open Idealize.ShloMosaic.StableHlo

/-- Before the first pass the host writes the three tables. -/
theorem tables_at (V : Valuation τ sig (Elt Ideal)) :
    after hostOps0 V (Proc.devRef .tc main_c) = (fun i => lit0 (S16x1x768.rowMajor i))
    ∧ after hostOps0 V (Proc.devRef .tc main_c_0) = (fun i => lit1 (S16x1x256.rowMajor i))
    ∧ after hostOps0 V (Proc.devRef .tc main_c_1) = (fun i => lit2 (S16x256x1.rowMajor i)) := by
  refine ⟨?_, ?_, ?_⟩ <;> after_results <;> rfl

/-- The column maxima with the masked columns left out. -/
abbrev openCols (C : IVec S16x1x768 32) (Y : FVec Ideal S16x1x768 .f32) : FVec Ideal S16x1x768 .f32 :=
  select (cmpi .sgt C (broadcastInDim S16x1x768 ![] bcast_S_S16x1x768 (constantI S_ 32 0#32)))
    (broadcastInDim S16x1x768 ![] bcast_S_S16x1x768 (constant (F := Ideal) S_ .f32 0xFF800000#32)) Y

/-- The larger of the open columns' and the zeroed slots' maxima. -/
abbrev peak (C : IVec S16x1x768 32) (Y : FVec Ideal S16x1x768 .f32) (Z : FVec Ideal S16x1x256 .f32) : FVec Ideal S_ .f32 :=
  maximumf (Host.reduce FloatOps.maximumf (openCols C Y) (constant (F := Ideal) S_ .f32 0xFF800000#32) reducesTo_S16x1x768_S_d0_1_2 h_S_)
    (Host.reduce FloatOps.maximumf Z (constant (F := Ideal) S_ .f32 0xFF800000#32) reducesTo_S16x1x256_S_d0_1_2 h_S_)

/-- Between the passes the host computes it from the first pass's maxima. -/
theorem peak_at (V : Valuation τ sig (Elt Ideal)) :
    after hostOps1_2 (after hostOps1_1 (after hostOps1 V)) (Proc.devRef .tc main_v7)
      = shapeCast S1x1 (peak (V (Proc.devRef .tc main_c)) (V (Proc.devRef .tc main_v0_3)) (V (Proc.devRef .tc main_v0_4))) shapeCasts_S_S1x1 := by
  after_results_simp
  rfl

/-- The tables' entries. -/
theorem mask_entry (b : Fin 16) (f : Fin 768) : lit0 (S16x1x768.rowMajor (ix3 b o1 f)) = (maskBit b.val f.val).setWidth 32 := by
  rw [← mask_table]
  refine (show lit0 _ = lit0t (S16x1x768.rowMajor (ix3 b o1 f)).val from rfl).trans (congrArg lit0t ?_)
  rw [Shape.rowMajor_val_three]
  show (b.val * 1 + 0) * 768 + f.val = _
  omega
/-- The slot table, entry by entry; -/
theorem slot_entry (b : Fin 16) (p : Fin 256) : lit1 (S16x1x256.rowMajor (ix3 b o1 p)) = lit1t (256 * b.val + p.val) := by
  refine (show lit1 _ = lit1t (S16x1x256.rowMajor (ix3 b o1 p)).val from rfl).trans (congrArg lit1t ?_)
  rw [Shape.rowMajor_val_three]
  show (b.val * 1 + 0) * 256 + p.val = _
  omega
/-- turned, it holds the same. -/
theorem turned_entry (b : Fin 16) (p : Fin 256) : lit2 (S16x256x1.rowMajor (ix3 b p o1)) = lit1t (256 * b.val + p.val) := by
  rw [← columns_twice ⟨256 * b.val + p.val, by omega⟩]
  refine (show lit2 _ = lit2t (S16x256x1.rowMajor (ix3 b p o1)).val from rfl).trans (congrArg lit2t ?_)
  rw [Shape.rowMajor_val_three]
  show (b.val * 256 + p.val) * 1 + 0 = 256 * b.val + p.val
  omega

/-- The host's maxima are bounded by what bounds the open columns' and the zeroed slots' maxima. -/
theorem peak_le (C : IVec S16x1x768 32) (Y : FVec Ideal S16x1x768 .f32) (Z : FVec Ideal S16x1x256 .f32) (M : EReal)
    (hC : ∀ b f, C (ix3 b o1 f) = (maskBit b.val f.val).setWidth 32) :
    (shapeCast S1x1 (peak C Y Z) shapeCasts_S_S1x1 (ix2 o1 o1) : EReal) ≤ M
      ↔ (∀ b f, maskBit b.val f.val = 0#1 → (Y (ix3 b o1 f) : EReal) ≤ M) ∧ ∀ b p, (Z (ix3 b o1 p) : EReal) ≤ M := by
  refine (max_le_iff (α := EReal)).trans (and_congr ((reduce_le _ _ _ none_but _ M).trans ?_) ((reduce_le _ _ _ none_but _ M).trans ?_))
  · have e : ∀ b f, (openCols C Y (ix3 b o1 f) : EReal) = if maskBit b.val f.val = 1#1 then ⊥ else Y (ix3 b o1 f) := fun b f => by
      show (Scalar.select (IntOp.cmpi .sgt (C (ix3 b o1 f)) 0#32) (FloatOps.ofBits (F := Ideal) .f32 0xFF800000#32) (Y (ix3 b o1 f)) : EReal) = _
      rw [hC, Ideal.ofBits_def, ofBits_bot]
      rcases bit_cases (maskBit b.val f.val) with h | h <;> rw [h] <;> rfl
    refine ⟨fun q b f h => ?_, fun q i => ?_⟩
    · have := q (ix3 b o1 f)
      rw [e, if_neg (by rw [h]; decide)] at this
      exact this
    · obtain ⟨b, f, rfl⟩ : ∃ (b : Fin 16) (f : Fin 768), i = ix3 b o1 f :=
        ⟨i 0, i 2, idx3 (n0 := 16) (n1 := 1) (n2 := 768) i _ _ _ rfl (Nat.lt_one_iff.mp (i 1).isLt) rfl⟩
      rw [e]
      rcases bit_cases (maskBit b.val f.val) with h | h
      · rw [if_neg (by rw [h]; decide)]; exact q _ _ h
      · rw [if_pos h]; exact bot_le
  · refine ⟨fun q b p => q _, fun q i => ?_⟩
    obtain ⟨b, p, rfl⟩ : ∃ (b : Fin 16) (p : Fin 256), i = ix3 b o1 p :=
      ⟨i 0, i 2, idx3 (n0 := 16) (n1 := 1) (n2 := 256) i _ _ _ rfl (Nat.lt_one_iff.mp (i 1).isLt) rfl⟩
    exact q b p

end Cert.KernelIdeal.Spike
-- ==== Proof.RefHash.lean ====
/- The reference's three Threefry functions, read off their equations: each returns the hash at every position. -/
module

public import proofs.«01_k».proof.Proof.Threefry
public import proofs.«01_k».proof.Proof.RefLine

@[expose] public section

set_option maxRecDepth 65536

noncomputable section

namespace Cert.Spike

open Idealize.ShloMosaic Idealize.ShloMosaic.TcCoe

variable {τ : Topo} {sig : RefSig} {F : FTy → Type} [FloatOps F] {T Ta Tb Tc Ty : BufTy}

/-- What a typed value holds at contents `Z`. -/
def rd (x : StableHlo.TRef sig T) (Z : Valuation τ sig (Elt F)) : T.Contents (Elt F) := x.ofBuf (Z x.ref)

/-- A constant's step. -/
abbrev tkonst (y : StableHlo.TRef sig Ty) (v : Ty.Contents (Elt F)) : Step τ sig (Elt F) :=
  .konst y.ref (y.toBuf v) y.dev
/-- The step of an operation of one operand. -/
abbrev tmap (x : StableHlo.TRef sig T) (y : StableHlo.TRef sig Ty) (f : T.Contents (Elt F) → Ty.Contents (Elt F)) :
    Step τ sig (Elt F) :=
  .map x.ref y.ref (fun v => y.toBuf (f (x.ofBuf v))) x.dev y.dev
/-- The step of an operation of two operands. -/
abbrev tzip (a : StableHlo.TRef sig Ta) (b : StableHlo.TRef sig Tb) (y : StableHlo.TRef sig Ty)
    (f : Ta.Contents (Elt F) → Tb.Contents (Elt F) → Ty.Contents (Elt F)) : Step τ sig (Elt F) :=
  .zip a.ref b.ref y.ref (fun v w => y.toBuf (f (a.ofBuf v) (b.ofBuf w))) a.dev b.dev y.dev

theorem of_to (y : StableHlo.TRef sig Ty) (v : Ty.Contents (Elt F)) : y.ofBuf (y.toBuf v) = v := by
  obtain ⟨r, rfl, h1, h2⟩ := y; rfl

variable {Z : Valuation τ sig (Elt F)} {rest : List (Step τ sig (Elt F))}

/-- A constant's value. -/
theorem take_konst {y : StableHlo.TRef sig Ty} {v : Ty.Contents (Elt F)} (h : Holds Z (tkonst y v :: rest)) :
    rd y Z = v ∧ Holds Z rest := by
  refine ⟨?_, h.2⟩
  have e : Z y.ref = y.toBuf v := h.1
  unfold rd; rw [e, of_to]

/-- The value of an operation of one operand. -/
theorem take_map {x : StableHlo.TRef sig T} {y : StableHlo.TRef sig Ty} {f : T.Contents (Elt F) → Ty.Contents (Elt F)}
    (h : Holds Z (tmap x y f :: rest)) : rd y Z = f (rd x Z) ∧ Holds Z rest := by
  refine ⟨?_, h.2⟩
  have e : Z y.ref = y.toBuf (f (x.ofBuf (Z x.ref))) := h.1
  unfold rd; rw [e, of_to]

/-- The value of an operation of two operands. -/
theorem take_zip {a : StableHlo.TRef sig Ta} {b : StableHlo.TRef sig Tb} {y : StableHlo.TRef sig Ty}
    {f : Ta.Contents (Elt F) → Tb.Contents (Elt F) → Ty.Contents (Elt F)}
    (h : Holds Z (tzip a b y f :: rest)) : rd y Z = f (rd a Z) (rd b Z) ∧ Holds Z rest := by
  refine ⟨?_, h.2⟩
  have e : Z y.ref = y.toBuf (f (a.ofBuf (Z a.ref)) (b.ofBuf (Z b.ref))) := h.1
  unfold rd; rw [e, of_to]

/-- The host's shifts by less than the width are the plain ones. -/
theorem host_shl (x n : BitVec 32) (hn : n.toNat < 32) : IntOp.shli .host x n = x <<< n := by
  unfold IntOp.shli; rw [if_pos hn]
theorem host_shr (x n : BitVec 32) (hn : n.toNat < 32) : IntOp.shrui .host x n = x >>> n := by
  unfold IntOp.shrui; rw [if_pos hn]

variable {S_ s : Shape}

/-- Nine steps are one round. -/
theorem round_fix {x0 x1 sm b l b' r o y : StableHlo.TRef sig ⟨s, .i32⟩} {c c' : StableHlo.TRef sig ⟨S_, .i32⟩}
    {n n' : BitVec 32} {d : Fin S_.rank → Fin s.rank} {bc bc' : S_.BroadcastsInDim s d} {i : s.Idx} {p : BitVec 32 × BitVec 32}
    (h : Holds Z (tzip x0 x1 sm addi :: tkonst c (constantI S_ 32 n) :: tmap c b (broadcastInDim s d bc) :: tzip x1 b l Host.shli
      :: tkonst c' (constantI S_ 32 n') :: tmap c' b' (broadcastInDim s d bc') :: tzip x1 b' r Host.shrui :: tzip l r o ori
      :: tzip sm o y xori :: rest))
    (hp : ((rd x0 Z i : BitVec 32), (rd x1 Z i : BitVec 32)) = p) (hn : n.toNat < 32) (hn' : n'.toNat < 32) :
    ((rd sm Z i : BitVec 32), (rd y Z i : BitVec 32)) = rnd n n' p ∧ Holds Z rest := by
  obtain ⟨e1, h⟩ := take_zip h
  obtain ⟨e2, h⟩ := take_konst h
  obtain ⟨e3, h⟩ := take_map h
  obtain ⟨e4, h⟩ := take_zip h
  obtain ⟨e5, h⟩ := take_konst h
  obtain ⟨e6, h⟩ := take_map h
  obtain ⟨e7, h⟩ := take_zip h
  obtain ⟨e8, h⟩ := take_zip h
  obtain ⟨e9, h⟩ := take_zip h
  refine ⟨?_, h⟩
  subst hp
  rw [e9, e8, e4, e7, e3, e6, e2, e5, e1]
  refine Prod.ext rfl ?_
  exact congrArg₂ (fun u v => (rd x0 Z i + rd x1 Z i) ^^^ (u ||| v)) (host_shl _ _ hn) (host_shr _ _ hn')

/-- Seven steps are one injection. -/
theorem inject_fix {x0 x1 bk x0' bk' t bj x1' : StableHlo.TRef sig ⟨s, .i32⟩} {k k' cj : StableHlo.TRef sig ⟨S_, .i32⟩}
    {j : BitVec 32} {d : Fin S_.rank → Fin s.rank} {bc bc' bc'' : S_.BroadcastsInDim s d} {i : s.Idx} {p : BitVec 32 × BitVec 32}
    {K K' : BitVec 32}
    (h : Holds Z (tmap k bk (broadcastInDim s d bc) :: tzip x0 bk x0' addi :: tmap k' bk' (broadcastInDim s d bc')
      :: tzip x1 bk' t addi :: tkonst cj (constantI S_ 32 j) :: tmap cj bj (broadcastInDim s d bc'') :: tzip t bj x1' addi :: rest))
    (hp : ((rd x0 Z i : BitVec 32), (rd x1 Z i : BitVec 32)) = p) (hk : rd k Z = fun _ => K) (hk' : rd k' Z = fun _ => K') :
    ((rd x0' Z i : BitVec 32), (rd x1' Z i : BitVec 32)) = inj K K' j p ∧ Holds Z rest := by
  obtain ⟨e1, h⟩ := take_map h
  obtain ⟨e2, h⟩ := take_zip h
  obtain ⟨e3, h⟩ := take_map h
  obtain ⟨e4, h⟩ := take_zip h
  obtain ⟨e5, h⟩ := take_konst h
  obtain ⟨e6, h⟩ := take_map h
  obtain ⟨e7, h⟩ := take_zip h
  refine ⟨?_, h⟩
  subst hp
  rw [e7, e4, e2, e1, e3, e6, e5, hk, hk']
  rfl

/-- The first seven steps: the third key word, and the counters with the key words added. -/
theorem start_fix {k0 k1 v0 c v1 : StableHlo.TRef sig ⟨S_, .i32⟩} {a b v2 v3 v4 v5 : StableHlo.TRef sig ⟨s, .i32⟩}
    {d : Fin S_.rank → Fin s.rank} {bc bc' : S_.BroadcastsInDim s d} {i : s.Idx} {K0 K1 n : BitVec 32}
    (h : Holds Z (tzip k0 k1 v0 xori :: tkonst c (constantI S_ 32 n) :: tzip v0 c v1 xori :: tmap k0 v2 (broadcastInDim s d bc)
      :: tzip a v2 v3 addi :: tmap k1 v4 (broadcastInDim s d bc') :: tzip b v4 v5 addi :: rest))
    (hk : rd k0 Z = fun _ => K0) (hk' : rd k1 Z = fun _ => K1) :
    (rd v1 Z = fun _ => K0 ^^^ K1 ^^^ n) ∧
    ((rd v3 Z i : BitVec 32), (rd v5 Z i : BitVec 32)) = ((rd a Z i : BitVec 32) + K0, (rd b Z i : BitVec 32) + K1) ∧ Holds Z rest := by
  obtain ⟨e1, h⟩ := take_zip h
  obtain ⟨e2, h⟩ := take_konst h
  obtain ⟨e3, h⟩ := take_zip h
  obtain ⟨e4, h⟩ := take_map h
  obtain ⟨e5, h⟩ := take_zip h
  obtain ⟨e6, h⟩ := take_map h
  obtain ⟨e7, h⟩ := take_zip h
  refine ⟨?_, ?_, h⟩
  · rw [e3, e1, e2, hk, hk']; rfl
  · rw [e5, e7, e4, e6, hk, hk']; rfl

end Cert.Spike

namespace Cert.ReferenceIdeal.Spike

open Cert.Spike Cert.ReferenceIdeal.Gen
open Idealize.ShloMosaic Idealize.ShloMosaic.TcCoe

variable {F : FTy → Type} [FloatOps F] {Z : Valuation τ sig (Elt F)}

/-- The hash of a list of four counters. -/
theorem hash_line (k0 k1 : StableHlo.TRef sig ⟨S_, .i32⟩) (a b : StableHlo.TRef sig ⟨S4, .i32⟩) (φ : fn_threefry2x32.Bufs)
    {K0 K1 : BitVec 32} (h : Holds Z (threefry2x32_line k0 k1 a b φ).1) (hk0 : rd k0 Z = fun _ => K0) (hk1 : rd k1 Z = fun _ => K1)
    (i : S4.Idx) :
    ((rd φ.v171 Z i : BitVec 32), (rd φ.v175 Z i : BitVec 32)) = tf K0 K1 (rd a Z i) (rd b Z i) := by
  obtain ⟨hk2, hp, h⟩ := start_fix (i := i) h hk0 hk1
  iterate 4 (replace h := round_fix h hp (by decide) (by decide); replace hp := h.1; replace h := h.2)
  replace h := inject_fix h hp hk1 hk2; replace hp := h.1; replace h := h.2
  iterate 4 (replace h := round_fix h hp (by decide) (by decide); replace hp := h.1; replace h := h.2)
  replace h := inject_fix h hp hk2 hk0; replace hp := h.1; replace h := h.2
  iterate 4 (replace h := round_fix h hp (by decide) (by decide); replace hp := h.1; replace h := h.2)
  replace h := inject_fix h hp hk0 hk1; replace hp := h.1; replace h := h.2
  iterate 4 (replace h := round_fix h hp (by decide) (by decide); replace hp := h.1; replace h := h.2)
  replace h := inject_fix h hp hk1 hk2; replace hp := h.1; replace h := h.2
  iterate 4 (replace h := round_fix h hp (by decide) (by decide); replace hp := h.1; replace h := h.2)
  replace h := inject_fix h hp hk2 hk0; replace hp := h.1
  exact hp

/-- The hash at a mask's entry. -/
theorem hash_0_line (k0 k1 : StableHlo.TRef sig ⟨S_, .i32⟩) (a b : StableHlo.TRef sig ⟨S16x768, .i32⟩) (φ : fn_threefry2x32_0.Bufs)
    {K0 K1 : BitVec 32} (h : Holds Z (threefry2x32_0_line k0 k1 a b φ).1) (hk0 : rd k0 Z = fun _ => K0) (hk1 : rd k1 Z = fun _ => K1)
    (i : S16x768.Idx) :
    ((rd φ.v171 Z i : BitVec 32), (rd φ.v175 Z i : BitVec 32)) = tf K0 K1 (rd a Z i) (rd b Z i) := by
  obtain ⟨hk2, hp, h⟩ := start_fix (i := i) h hk0 hk1
  iterate 4 (replace h := round_fix h hp (by decide) (by decide); replace hp := h.1; replace h := h.2)
  replace h := inject_fix h hp hk1 hk2; replace hp := h.1; replace h := h.2
  iterate 4 (replace h := round_fix h hp (by decide) (by decide); replace hp := h.1; replace h := h.2)
  replace h := inject_fix h hp hk2 hk0; replace hp := h.1; replace h := h.2
  iterate 4 (replace h := round_fix h hp (by decide) (by decide); replace hp := h.1; replace h := h.2)
  replace h := inject_fix h hp hk0 hk1; replace hp := h.1; replace h := h.2
  iterate 4 (replace h := round_fix h hp (by decide) (by decide); replace hp := h.1; replace h := h.2)
  replace h := inject_fix h hp hk1 hk2; replace hp := h.1; replace h := h.2
  iterate 4 (replace h := round_fix h hp (by decide) (by decide); replace hp := h.1; replace h := h.2)
  replace h := inject_fix h hp hk2 hk0; replace hp := h.1
  exact hp

/-- The hash at an entry of the whole array. -/
theorem hash_3_line (k0 k1 : StableHlo.TRef sig ⟨S_, .i32⟩) (a b : StableHlo.TRef sig ⟨S16x2048x768, .i32⟩) (φ : fn_threefry2x32_3.Bufs)
    {K0 K1 : BitVec 32} (h : Holds Z (threefry2x32_3_line k0 k1 a b φ).1) (hk0 : rd k0 Z = fun _ => K0) (hk1 : rd k1 Z = fun _ => K1)
    (i : S16x2048x768.Idx) :
    ((rd φ.v171 Z i : BitVec 32), (rd φ.v175 Z i : BitVec 32)) = tf K0 K1 (rd a Z i) (rd b Z i) := by
  obtain ⟨hk2, hp, h⟩ := start_fix (i := i) h hk0 hk1
  iterate 4 (replace h := round_fix h hp (by decide) (by decide); replace hp := h.1; replace h := h.2)
  replace h := inject_fix h hp hk1 hk2; replace hp := h.1; replace h := h.2
  iterate 4 (replace h := round_fix h hp (by decide) (by decide); replace hp := h.1; replace h := h.2)
  replace h := inject_fix h hp hk2 hk0; replace hp := h.1; replace h := h.2
  iterate 4 (replace h := round_fix h hp (by decide) (by decide); replace hp := h.1; replace h := h.2)
  replace h := inject_fix h hp hk0 hk1; replace hp := h.1; replace h := h.2
  iterate 4 (replace h := round_fix h hp (by decide) (by decide); replace hp := h.1; replace h := h.2)
  replace h := inject_fix h hp hk1 hk2; replace hp := h.1; replace h := h.2
  iterate 4 (replace h := round_fix h hp (by decide) (by decide); replace hp := h.1; replace h := h.2)
  replace h := inject_fix h hp hk2 hk0; replace hp := h.1
  exact hp

end Cert.ReferenceIdeal.Spike
-- ==== Proof.RefDraw.lean ====
/- What the reference's drawing functions return at an entry: the hash of its position, the uniform value, the Bernoulli bit. -/
module

public import proofs.«01_k».proof.Proof.RefHash
public import proofs.«01_k».proof.Proof.Draw
public import Idealize.ShloMosaic.Lib.Pointwise.SelectCore

@[expose] public section

set_option maxRecDepth 65536

noncomputable section

namespace Cert.Spike

open Idealize.ShloMosaic Idealize.ShloMosaic.TcCoe

variable {τ : Topo} {sig : RefSig} {F : FTy → Type} [FloatOps F] {T Ta Tb Tc Tx Ty : BufTy}
variable {Z : Valuation τ sig (Elt F)} {rest : List (Step τ sig (Elt F))}

/-- The value of a reshape. -/
theorem take_cast {x : StableHlo.TRef sig Tx} {y : StableHlo.TRef sig Ty} {he hn hx hy}
    (h : Holds Z (.cast x.ref y.ref he hn hx hy :: rest)) (he' : Tx.elt = Ty.elt) (hn' : Tx.shape.ShapeCasts Ty.shape) :
    (rd y Z = fun i => he' ▸ shapeCast Ty.shape (rd x Z) hn' i) ∧ Holds Z rest := by
  refine ⟨?_, h.2⟩
  obtain ⟨r, rfl, h1, h2⟩ := x
  obtain ⟨r', rfl, h1', h2'⟩ := y
  exact h.1

/-- The value of an operation of three operands. -/
theorem take_zip3 {c : StableHlo.TRef sig Tc} {a : StableHlo.TRef sig Ta} {b : StableHlo.TRef sig Tb} {y : StableHlo.TRef sig Ty}
    {f : Tc.Contents (Elt F) → Ta.Contents (Elt F) → Tb.Contents (Elt F) → Ty.Contents (Elt F)}
    (h : Holds Z (.zip3 c.ref a.ref b.ref y.ref (fun w u v => y.toBuf (f (c.ofBuf w) (a.ofBuf u) (b.ofBuf v)))
      c.dev a.dev b.dev y.dev :: rest)) : rd y Z = f (rd c Z) (rd a Z) (rd b Z) ∧ Holds Z rest := by
  refine ⟨?_, h.2⟩
  have e : Z y.ref = y.toBuf (f (c.ofBuf (Z c.ref)) (a.ofBuf (Z a.ref)) (b.ofBuf (Z b.ref))) := h.1
  unfold rd; rw [e, of_to]

/-- A counter below `2^32` as 64 bits: its low word, and a zero high word. -/
theorem low_word (n : ℕ) : (BitVec.ofNat 64 n).setWidth 32 = BitVec.ofNat 32 n := by
  apply BitVec.eq_of_toNat_eq; simp only [BitVec.toNat_setWidth, BitVec.toNat_ofNat]; omega
theorem high_word (n : ℕ) (h : n < 2 ^ 32) : (IntOp.shrui .host (BitVec.ofNat 64 n) 32#64).setWidth 32 = 0#32 := by
  unfold IntOp.shrui; rw [if_pos (by decide)]
  apply BitVec.eq_of_toNat_eq
  rw [show BitVec.ofNat 64 n >>> 32#64 = BitVec.ofNat 64 n >>> (32 : ℕ) from rfl]
  simp only [BitVec.toNat_setWidth, BitVec.toNat_ushiftRight, BitVec.toNat_ofNat, Nat.shiftRight_eq_div_pow]
  omega

end Cert.Spike

namespace Cert.ReferenceIdeal.Spike

open Cert.Spike Cert.ReferenceIdeal.Gen
open Idealize.ShloMosaic Idealize.ShloMosaic.TcCoe

/-- The two words of a key, as an array. -/
def keyArr (K0 K1 : BitVec 32) : S2.Idx → BitVec 32 := fun j => if (j 0).val = 0 then K0 else K1

theorem keyArr_fst (K0 K1 : BitVec 32) (h h') :
    shapeCast S_ (extractStridedSlice S1 ![0] (keyArr K0 K1) h) h' = fun _ => K0 := by
  funext i
  unfold shapeCast extractStridedSlice keyArr
  rw [if_pos]
  have := (Shape.reshapeEquiv h' i 0).isLt
  change _ < 1 at this
  simp; omega
theorem keyArr_snd (K0 K1 : BitVec 32) (h h') :
    shapeCast S_ (extractStridedSlice S1 ![1] (keyArr K0 K1) h) h' = fun _ => K1 := by
  funext i
  unfold shapeCast extractStridedSlice keyArr
  rw [if_neg]
  simp

/-- A key's first word, -/
abbrev slice0 (v : (⟨S2, .i32⟩ : BufTy).Contents (Elt Ideal)) : (⟨S1, .i32⟩ : BufTy).Contents (Elt Ideal) :=
  extractStridedSlice S1 ![0] v slices_S2_S1_0
/-- and its second. -/
abbrev slice1 (v : (⟨S2, .i32⟩ : BufTy).Contents (Elt Ideal)) : (⟨S1, .i32⟩ : BufTy).Contents (Elt Ideal) :=
  extractStridedSlice S1 ![1] v slices_S2_S1_1
/-- The low words. -/
abbrev low32 {s : Shape} (v : (⟨s, .i64⟩ : BufTy).Contents (Elt Ideal)) : (⟨s, .i32⟩ : BufTy).Contents (Elt Ideal) :=
  trunci 32 v natLt_32_64

/-- The position of an entry of the whole array. -/
def posA (i : S16x2048x768.Idx) : ℕ := 1572864 * (i 0).val + 768 * (i 1).val + (i 2).val
/-- The position of a mask's entry. -/
def posM (i : S16x768.Idx) : ℕ := 768 * (i 0).val + (i 1).val

theorem posA_lt (i : S16x2048x768.Idx) : posA i < 2 ^ 32 := by
  have h0 : (i 0).val < 16 := (i 0).isLt
  have h1 : (i 1).val < 2048 := (i 1).isLt
  have h2 : (i 2).val < 768 := (i 2).isLt
  unfold posA; omega
theorem posM_lt (i : S16x768.Idx) : posM i < 2 ^ 32 := by
  have h0 : (i 0).val < 16 := (i 0).isLt
  have h1 : (i 1).val < 768 := (i 1).isLt
  unfold posM; omega

theorem posA_word (i : S16x2048x768.Idx) :
    1572864#64 * BitVec.ofNat 64 (i 0).val + 768#64 * BitVec.ofNat 64 (i 1).val + 1#64 * BitVec.ofNat 64 (i 2).val
      = BitVec.ofNat 64 (posA i) := by
  unfold posA
  rw [BitVec.ofNat_add, BitVec.ofNat_add, BitVec.ofNat_mul, BitVec.ofNat_mul, BitVec.one_mul]
theorem posM_word (i : S16x768.Idx) :
    768#64 * BitVec.ofNat 64 (i 0).val + 1#64 * BitVec.ofNat 64 (i 1).val = BitVec.ofNat 64 (posM i) := by
  unfold posM
  rw [BitVec.ofNat_add, BitVec.ofNat_mul, BitVec.one_mul]

variable {Z : Valuation τ sig (Elt Ideal)}

/-- The uniform draw at an entry of the whole array. -/
theorem uniform_2_at (k : StableHlo.TRef sig ⟨S2, .i32⟩) (lo hi : StableHlo.TRef sig ⟨S_, .f32⟩) (φ : fn_uniform_2.Bufs)
    {K0 K1 : BitVec 32} (h : Holds Z (uniform_2_line k lo hi φ).1) (hk : rd k Z = keyArr K0 K1)
    (hlo : rd lo Z = constant (F := Ideal) S_ .f32 0x00000000#32) (hhi : rd hi Z = constant (F := Ideal) S_ .f32 0x3F800000#32) (i : S16x2048x768.Idx) :
    rd φ.v38 Z i = unif (bits32 K0 K1 0#32 (BitVec.ofNat 32 (posA i))) := by
  obtain ⟨e0, h⟩ := take_map h
  obtain ⟨e1, h⟩ := take_map h
  obtain ⟨e2, h⟩ := take_map h
  obtain ⟨e3, h⟩ := take_map h
  obtain ⟨e4, h⟩ := take_map (f := slice0) h
  obtain ⟨e5, h⟩ := take_cast h rfl shapeCasts_S1_S_
  obtain ⟨e6, h⟩ := take_map (f := slice1) h
  obtain ⟨e7, h⟩ := take_cast h rfl shapeCasts_S1_S_
  obtain ⟨e8, h⟩ := take_konst h
  obtain ⟨e9, h⟩ := take_konst h
  obtain ⟨e10, h⟩ := take_konst h
  obtain ⟨ec, h⟩ := take_konst h
  obtain ⟨e11, h⟩ := take_map h
  obtain ⟨e12, h⟩ := take_zip h
  obtain ⟨ec0, h⟩ := take_konst h
  obtain ⟨e13, h⟩ := take_map h
  obtain ⟨e14, h⟩ := take_zip h
  obtain ⟨ec1, h⟩ := take_konst h
  obtain ⟨e15, h⟩ := take_map h
  obtain ⟨e16, h⟩ := take_zip h
  obtain ⟨e17, h⟩ := take_zip h
  obtain ⟨e18, h⟩ := take_zip h
  obtain ⟨ec2, h⟩ := take_konst h
  obtain ⟨e19, h⟩ := take_map h
  obtain ⟨e20, h⟩ := take_zip h
  obtain ⟨e21, h⟩ := take_map (f := low32) h
  obtain ⟨e22, h⟩ := take_map (f := low32) h
  obtain ⟨hh, h⟩ := (holds_append _ _ _).mp h
  obtain ⟨e24, h⟩ := take_zip h
  obtain ⟨ec3, h⟩ := take_konst h
  obtain ⟨e25, h⟩ := take_map h
  obtain ⟨e26, h⟩ := take_zip h
  obtain ⟨ec4, h⟩ := take_konst h
  obtain ⟨e27, h⟩ := take_map h
  obtain ⟨e28, h⟩ := take_zip h
  obtain ⟨e29, h⟩ := take_map h
  obtain ⟨ecst, h⟩ := take_konst h
  obtain ⟨e30, h⟩ := take_map h
  obtain ⟨e31, h⟩ := take_zip h
  obtain ⟨e32, h⟩ := take_zip h
  obtain ⟨e33, h⟩ := take_map h
  obtain ⟨e34, h⟩ := take_zip h
  obtain ⟨e35, h⟩ := take_map h
  obtain ⟨e36, h⟩ := take_zip h
  obtain ⟨e37, h⟩ := take_map h
  obtain ⟨e38, h⟩ := take_zip h
  have k0 : rd φ.v5 Z = fun _ => K0 := by rw [e5, e4, hk]; exact keyArr_fst K0 K1 _ _
  have k1 : rd φ.v7 Z = fun _ => K1 := by rw [e7, e6, hk]; exact keyArr_snd K0 K1 _ _
  have p18 : rd φ.v18 Z i = BitVec.ofNat 64 (posA i) := by
    rw [e18, e17, e16, e14, e12, e15, e13, e11, ec, ec0, ec1, e8, e9, e10]; exact posA_word i
  have plo : rd φ.v21 Z i = BitVec.ofNat 32 (posA i) := by
    rw [e21]; exact (congrArg (BitVec.setWidth 32) p18).trans (low_word _)
  have phi : rd φ.v22 Z i = 0#32 := by
    rw [e22, e20, e19, ec2]
    exact (congrArg (fun w => BitVec.setWidth 32 (IntOp.shrui .host w 32#64)) p18).trans (high_word _ (posA_lt i))
  have hb := hash_3_line _ _ _ _ _ hh k0 k1 i
  rw [plo, phi] at hb
  have b24 : rd φ.v24 Z i = bits32 K0 K1 0#32 (BitVec.ofNat 32 (posA i)) := by
    rw [e24]
    exact congrArg (fun p : BitVec 32 × BitVec 32 => p.1 ^^^ p.2) hb
  have b28 : rd φ.v28 Z i = bits32 K0 K1 0#32 (BitVec.ofNat 32 (posA i)) >>> 9#32 ||| 1065353216#32 := by
    rw [e28, e26, e27, e25, ec3, ec4, ← b24]
    exact congrArg (· ||| 1065353216#32) (host_shr _ 9#32 (by decide))
  have b31 : rd φ.v31 Z i = unif (bits32 K0 K1 0#32 (BitVec.ofNat 32 (posA i))) := by
    rw [e31, e29, e30, ecst]
    exact congrArg (fun w => Ideal.ofBits .f32 w - Ideal.ofBits .f32 0x3F800000#32) b28
  rw [e38, e37, e36, e35, e34, e33, e32, e2, e3, e0, e1, hlo, hhi]
  refine Eq.trans ?_ (unif_scaled _)
  rw [← b31]
  rfl

/-- The uniform draw at a mask's entry. -/
theorem uniform_at (k : StableHlo.TRef sig ⟨S2, .i32⟩) (lo hi : StableHlo.TRef sig ⟨S_, .f32⟩) (φ : fn_uniform.Bufs)
    {K0 K1 : BitVec 32} (h : Holds Z (uniform_line k lo hi φ).1) (hk : rd k Z = keyArr K0 K1)
    (hlo : rd lo Z = constant (F := Ideal) S_ .f32 0x00000000#32) (hhi : rd hi Z = constant (F := Ideal) S_ .f32 0x3F800000#32)
    (i : S16x768.Idx) :
    rd φ.v34 Z i = unif (bits32 K0 K1 0#32 (BitVec.ofNat 32 (posM i))) := by
  obtain ⟨e0, h⟩ := take_map h
  obtain ⟨e1, h⟩ := take_map h
  obtain ⟨e2, h⟩ := take_map h
  obtain ⟨e3, h⟩ := take_map h
  obtain ⟨e4, h⟩ := take_map (f := slice0) h
  obtain ⟨e5, h⟩ := take_cast h rfl shapeCasts_S1_S_
  obtain ⟨e6, h⟩ := take_map (f := slice1) h
  obtain ⟨e7, h⟩ := take_cast h rfl shapeCasts_S1_S_
  obtain ⟨e8, h⟩ := take_konst h
  obtain ⟨e9, h⟩ := take_konst h
  obtain ⟨ec, h⟩ := take_konst h
  obtain ⟨e10, h⟩ := take_map h
  obtain ⟨e11, h⟩ := take_zip h
  obtain ⟨ec0, h⟩ := take_konst h
  obtain ⟨e12, h⟩ := take_map h
  obtain ⟨e13, h⟩ := take_zip h
  obtain ⟨e14, h⟩ := take_zip h
  obtain ⟨ec1, h⟩ := take_konst h
  obtain ⟨e15, h⟩ := take_map h
  obtain ⟨e16, h⟩ := take_zip h
  obtain ⟨e17, h⟩ := take_map (f := low32) h
  obtain ⟨e18, h⟩ := take_map (f := low32) h
  obtain ⟨hh, h⟩ := (holds_append _ _ _).mp h
  obtain ⟨e20, h⟩ := take_zip h
  obtain ⟨ec2, h⟩ := take_konst h
  obtain ⟨e21, h⟩ := take_map h
  obtain ⟨e22, h⟩ := take_zip h
  obtain ⟨ec3, h⟩ := take_konst h
  obtain ⟨e23, h⟩ := take_map h
  obtain ⟨e24, h⟩ := take_zip h
  obtain ⟨e25, h⟩ := take_map h
  obtain ⟨ecst, h⟩ := take_konst h
  obtain ⟨e26, h⟩ := take_map h
  obtain ⟨e27, h⟩ := take_zip h
  obtain ⟨e28, h⟩ := take_zip h
  obtain ⟨e29, h⟩ := take_map h
  obtain ⟨e30, h⟩ := take_zip h
  obtain ⟨e31, h⟩ := take_map h
  obtain ⟨e32, h⟩ := take_zip h
  obtain ⟨e33, h⟩ := take_map h
  obtain ⟨e34, h⟩ := take_zip h
  have k0 : rd φ.v5 Z = fun _ => K0 := by rw [e5, e4, hk]; exact keyArr_fst K0 K1 _ _
  have k1 : rd φ.v7 Z = fun _ => K1 := by rw [e7, e6, hk]; exact keyArr_snd K0 K1 _ _
  have p14 : rd φ.v14 Z i = BitVec.ofNat 64 (posM i) := by
    rw [e14, e13, e12, e11, e10, ec, ec0, e8, e9]; exact posM_word i
  have plo : rd φ.v17 Z i = BitVec.ofNat 32 (posM i) := by
    rw [e17]; exact (congrArg (BitVec.setWidth 32) p14).trans (low_word _)
  have phi : rd φ.v18 Z i = 0#32 := by
    rw [e18, e16, e15, ec1]
    exact (congrArg (fun w => BitVec.setWidth 32 (IntOp.shrui .host w 32#64)) p14).trans (high_word _ (posM_lt i))
  have hb := hash_0_line _ _ _ _ _ hh k0 k1 i
  rw [plo, phi] at hb
  have b20 : rd φ.v20 Z i = bits32 K0 K1 0#32 (BitVec.ofNat 32 (posM i)) := by
    rw [e20]
    exact congrArg (fun p : BitVec 32 × BitVec 32 => p.1 ^^^ p.2) hb
  have b24 : rd φ.v24 Z i = bits32 K0 K1 0#32 (BitVec.ofNat 32 (posM i)) >>> 9#32 ||| 1065353216#32 := by
    rw [e24, e22, e23, e21, ec2, ec3, ← b20]
    exact congrArg (· ||| 1065353216#32) (host_shr _ 9#32 (by decide))
  have b27 : rd φ.v27 Z i = unif (bits32 K0 K1 0#32 (BitVec.ofNat 32 (posM i))) := by
    rw [e27, e25, e26, ecst]
    exact congrArg (fun w => Ideal.ofBits .f32 w - Ideal.ofBits .f32 0x3F800000#32) b24
  rw [e34, e33, e32, e31, e30, e29, e28, e2, e3, e0, e1, hlo, hhi]
  refine Eq.trans ?_ (unif_scaled _)
  rw [← b27]
  rfl

/-- The Bernoulli draw at a mask's entry: the uniform value compared with the probability. -/
theorem bernoulli_at (k : StableHlo.TRef sig ⟨S2, .i32⟩) (p : StableHlo.TRef sig ⟨S_, .f32⟩) (φ : fn_bernoulli.Bufs)
    {K0 K1 P : BitVec 32} (h : Holds Z (bernoulli_line k p φ).1) (hk : rd k Z = keyArr K0 K1)
    (hp : rd p Z = constant (F := Ideal) S_ .f32 P) (i : S16x768.Idx) :
    rd φ.v2 Z i = Ideal.cmp .olt (unif (bits32 K0 K1 0#32 (BitVec.ofNat 32 (posM i)))) (Ideal.ofBits .f32 P) := by
  obtain ⟨ec, h⟩ := take_konst h
  obtain ⟨ec0, h⟩ := take_konst h
  obtain ⟨hu, h⟩ := (holds_append _ _ _).mp h
  obtain ⟨e1, h⟩ := take_map h
  obtain ⟨e2, h⟩ := take_zip h
  rw [e2, e1, hp, ← uniform_at _ _ _ _ hu hk ec ec0 i]
  rfl

/-- The Bernoulli draw at an entry of the whole array. -/
theorem bernoulli_1_at (k : StableHlo.TRef sig ⟨S2, .i32⟩) (p : StableHlo.TRef sig ⟨S_, .f32⟩) (φ : fn_bernoulli_1.Bufs)
    {K0 K1 P : BitVec 32} (h : Holds Z (bernoulli_1_line k p φ).1) (hk : rd k Z = keyArr K0 K1)
    (hp : rd p Z = constant (F := Ideal) S_ .f32 P) (i : S16x2048x768.Idx) :
    rd φ.v2 Z i = Ideal.cmp .olt (unif (bits32 K0 K1 0#32 (BitVec.ofNat 32 (posA i)))) (Ideal.ofBits .f32 P) := by
  obtain ⟨ec, h⟩ := take_konst h
  obtain ⟨ec0, h⟩ := take_konst h
  obtain ⟨hu, h⟩ := (holds_append _ _ _).mp h
  obtain ⟨e1, h⟩ := take_map h
  obtain ⟨e2, h⟩ := take_zip h
  rw [e2, e1, hp, ← uniform_2_at _ _ _ _ hu hk ec ec0 i]
  rfl

/-- A key split in four: row `r` is the hash of the counter `r`. -/
def splitArr (K0 K1 : BitVec 32) : S4x2.Idx → BitVec 32 := fun j =>
  if (j 1).val = 0 then (tf K0 K1 0#32 (BitVec.ofNat 32 (j 0).val)).1 else (tf K0 K1 0#32 (BitVec.ofNat 32 (j 0).val)).2

/-- Two columns side by side. -/
abbrev join2 (a b : (⟨S4x1, .i32⟩ : BufTy).Contents (Elt Ideal)) : (⟨S4x2, .i32⟩ : BufTy).Contents (Elt Ideal) :=
  concatenate S4x2 1 [⟨S4x1, a⟩, ⟨S4x1, b⟩] concatenates_S4x1_S4x1_S4x2_d1

/-- What the splitting returns. -/
theorem split_at (k : StableHlo.TRef sig ⟨S2, .i32⟩) (φ : fn_threefry_split.Bufs) {K0 K1 : BitVec 32}
    (h : Holds Z (threefry_split_line k φ).1) (hk : rd k Z = keyArr K0 K1) : rd φ.v14 Z = splitArr K0 K1 := by
  obtain ⟨e0, h⟩ := take_map (f := slice0) h
  obtain ⟨e1, h⟩ := take_cast h rfl shapeCasts_S1_S_
  obtain ⟨e2, h⟩ := take_map (f := slice1) h
  obtain ⟨e3, h⟩ := take_cast h rfl shapeCasts_S1_S_
  obtain ⟨e4, h⟩ := take_konst h
  obtain ⟨ec, h⟩ := take_konst h
  obtain ⟨e5, h⟩ := take_map h
  obtain ⟨e6, h⟩ := take_zip h
  obtain ⟨ec0, h⟩ := take_konst h
  obtain ⟨e7, h⟩ := take_map h
  obtain ⟨e8, h⟩ := take_zip h
  obtain ⟨e9, h⟩ := take_map (f := low32) h
  obtain ⟨e10, h⟩ := take_map (f := low32) h
  obtain ⟨hh, h⟩ := (holds_append _ _ _).mp h
  obtain ⟨e12, h⟩ := take_map h
  obtain ⟨e13, h⟩ := take_map h
  obtain ⟨e14, h⟩ := take_zip (f := join2) h
  have k0 : rd φ.v1 Z = fun _ => K0 := by rw [e1, e0, hk]; exact keyArr_fst K0 K1 _ _
  have k1 : rd φ.v3 Z = fun _ => K1 := by rw [e3, e2, hk]; exact keyArr_snd K0 K1 _ _
  have hb : ∀ i : S4.Idx, ((rd φ.call0.v171 Z i : BitVec 32), (rd φ.call0.v175 Z i : BitVec 32))
      = tf K0 K1 0#32 (BitVec.ofNat 32 (i 0).val) := by
    intro i
    have hi : (i 0).val < 4 := (i 0).isLt
    have p6 : rd φ.v6 Z i = BitVec.ofNat 64 (i 0).val := by
      rw [e6, e5, ec, e4]; show 1#64 * BitVec.ofNat 64 (i 0).val = _; exact BitVec.one_mul _
    have plo : rd φ.v9 Z i = BitVec.ofNat 32 (i 0).val := by
      rw [e9]; exact (congrArg (BitVec.setWidth 32) p6).trans (low_word _)
    have phi : rd φ.v10 Z i = 0#32 := by
      rw [e10, e8, e7, ec0]
      exact (congrArg (fun w => BitVec.setWidth 32 (IntOp.shrui .host w 32#64)) p6).trans (high_word _ (by omega))
    have hb := hash_line _ _ _ _ _ hh k0 k1 i
    rwa [plo, phi] at hb
  have hb1 := fun i => congrArg Prod.fst (hb i)
  have hb2 := fun i => congrArg Prod.snd (hb i)
  rw [e14, e12, e13]
  funext j
  rw [show join2 _ _ j = _ from concatenate_pair_apply 1 _ _ concatenates_S4x1_S4x1_S4x2_d1 j]
  unfold splitArr
  have hj : (j 1).val < 2 := (j 1).isLt
  by_cases h0 : (j 1).val = 0
  · rw [dif_pos (by rw [h0]; decide), if_pos h0]; exact hb1 _
  · rw [dif_neg (by show ¬ (j 1).val < 1; omega), if_neg h0]; exact hb2 _

end Cert.ReferenceIdeal.Spike
-- ==== Proof.RefMain.lean ====
/- What the reference's results hold at an entry. -/
module

public import proofs.«01_k».proof.Proof.RefDraw
public import proofs.«01_k».proof.Proof.Spec

@[expose] public section

set_option maxRecDepth 65536

noncomputable section

namespace Cert.ReferenceIdeal.Spike

open Cert.Spike Cert.ReferenceIdeal.Gen
open Idealize.ShloMosaic Idealize.ShloMosaic.TcCoe

/-- Row `r` of the split key, as a key. -/
theorem row_key (K0 K1 : BitVec 32) (r : ℕ) (hr : r < 4) {hs : S4x2.Slices ![r, 0] S1x2} :
    shapeCast S2 (extractStridedSlice S1x2 ![r, 0] (splitArr K0 K1) hs) shapeCasts_S1x2_S2
      = keyArr (tf K0 K1 0#32 (BitVec.ofNat 32 r)).1 (tf K0 K1 0#32 (BitVec.ofNat 32 r)).2 := by
  funext i
  rw [shapeCast_apply _ shapeCasts_S1x2_S2 i (fun a => match a with | ⟨0, _⟩ => ⟨0, Nat.one_pos⟩ | ⟨1, _⟩ => i 0)
    (by rw [Shape.rowMajor_val_two, Shape.rowMajor_val_one]; show 0 * 2 + (i 0).val = (i 0).val; omega)]
  show splitArr K0 K1 _ = _
  unfold splitArr keyArr
  show (if 0 + (i 0).val = 0 then (tf K0 K1 0#32 (BitVec.ofNat 32 (r + 0))).1 else (tf K0 K1 0#32 (BitVec.ofNat 32 (r + 0))).2) = _
  rw [Nat.zero_add, Nat.add_zero]

/-- The largest of the reference's zeroed spikes. -/
def refMax (X : S16x2048x768.Idx → EReal) : EReal :=
  Host.reduce (FloatOps.maximumf (F := Ideal) (φ := .f32)) (fun i => zeroed (X i) (i 0).val (i 1).val (i 2).val) (constant (F := Ideal) S_ .f32 0xFF800000#32)
    reducesTo_S16x2048x768_S_d0_1_2 h_S_ (fun a => a.elim0)

variable {V : Valuation τ sig (Elt Ideal)}

/-- The equation of a line's first step, and those of the rest. -/
theorem take_head {st : Step τ sig (Elt Ideal)} {rest : List (Step τ sig (Elt Ideal))} (h : Holds V (st :: rest)) :
    st.Eqn V ∧ Holds V rest := h

/-- The reference's two results, entry by entry. -/
theorem results_of (h : Holds V (main_line (F := Ideal)).1) :
    (∀ i : S16x2048x768.Idx, (V main_v32 : S16x2048x768.Idx → EReal) i
      = masked (refMax (V main_arg0)) ((V main_arg0 : S16x2048x768.Idx → EReal) i) (i 0).val (i 1).val (i 2).val)
    ∧ ∀ i : S16x2048x768.Idx, (V main_v33 : S16x2048x768.Idx → BitVec 32) i = (maskBit (i 0).val (i 2).val).setWidth 32 := by
  obtain ⟨a1, h⟩ := take_head h
  obtain ⟨a2, h⟩ := take_head h
  obtain ⟨a3, h⟩ := take_head h
  obtain ⟨a4, h⟩ := take_head h
  obtain ⟨a5, h⟩ := take_head h
  obtain ⟨a6, h⟩ := take_head h
  obtain ⟨a7, h⟩ := take_head h
  obtain ⟨a8, h⟩ := take_head h
  obtain ⟨a9, h⟩ := take_head h
  obtain ⟨a10, h⟩ := take_head h
  obtain ⟨hs, h⟩ := (holds_append _ _ _).mp h
  obtain ⟨b8, h⟩ := take_head h
  obtain ⟨b9, h⟩ := take_head h
  obtain ⟨b10, h⟩ := take_head h
  obtain ⟨b11, h⟩ := take_head h
  obtain ⟨b12, h⟩ := take_head h
  obtain ⟨b13, h⟩ := take_head h
  obtain ⟨b14, h⟩ := take_head h
  obtain ⟨b15, h⟩ := take_head h
  obtain ⟨b16, h⟩ := take_head h
  obtain ⟨b17, h⟩ := take_head h
  obtain ⟨ec, h⟩ := take_head h
  obtain ⟨hb, h⟩ := (holds_append _ _ _).mp h
  obtain ⟨e19, h⟩ := take_head h
  obtain ⟨e20, h⟩ := take_head h
  obtain ⟨ec2, h⟩ := take_head h
  obtain ⟨hz, h⟩ := (holds_append _ _ _).mp h
  obtain ⟨e22, h⟩ := take_head h
  obtain ⟨ec3, h⟩ := take_head h
  obtain ⟨hw, h⟩ := (holds_append _ _ _).mp h
  obtain ⟨ec4, h⟩ := take_head h
  obtain ⟨hr, h⟩ := (holds_append _ _ _).mp h
  obtain ⟨e25, h⟩ := take_head h
  obtain ⟨e26, h⟩ := take_head h
  obtain ⟨e27, h⟩ := take_head h
  obtain ⟨ec5, h⟩ := take_head h
  obtain ⟨e28, h⟩ := take_head h
  obtain ⟨ec6, h⟩ := take_head h
  obtain ⟨ec7, h⟩ := take_head h
  obtain ⟨hu, h⟩ := (holds_append _ _ _).mp h
  obtain ⟨e30, h⟩ := take_head h
  obtain ⟨e31, h⟩ := take_head h
  obtain ⟨hw4, h⟩ := (holds_append _ _ _).mp h
  obtain ⟨e33, h⟩ := take_head h
  have k6 : rd (.of main_v6) V = keyArr 0#32 42#32 := by
    have e : rd (.of main_v6) V = concatenate S2 0 [⟨S1, V main_v2⟩, ⟨S1, V main_v5⟩] concatenates_S1_S1_S2_d0 := a10
    have e2 : (V main_v2 : S1.Idx → BitVec 32) = fun _ => 0#32 := by
      rw [show V main_v2 = _ from a5, show V main_v1 = _ from a4, show V main_v0 = _ from a3, show V main_c = _ from a1,
        show V main_c_0 = _ from a2]
      funext i
      exact (by decide : IntOp.shrui .host 42#32 32#32 = 0#32)
    have e5 : (V main_v5 : S1.Idx → BitVec 32) = fun _ => 42#32 := by
      rw [show V main_v5 = _ from a9, show V main_v4 = _ from a8, show V main_v3 = _ from a7, show V main_c = _ from a1,
        show V main_c_1 = _ from a6]
      funext i
      exact (by decide : 42#32 &&& 4294967295#32 = 42#32)
    rw [e, e2, e5]
    funext j
    rw [concatenate_pair_apply]
    unfold keyArr
    have hj : (j 0).val < 2 := (j 0).isLt
    by_cases h0 : (j 0).val = 0
    · rw [dif_pos (by rw [h0]; decide), if_pos h0]
    · rw [dif_neg (by show ¬ (j 0).val < 1; omega), if_neg h0]
  have k7 : (V main_v7 : S4x2.Idx → BitVec 32) = splitArr 0#32 42#32 := split_at _ _ hs k6
  have k9 : rd (.of main_v9) V = keyArr (tf 0#32 42#32 0#32 0#32).1 (tf 0#32 42#32 0#32 0#32).2 :=
    (show _ = shapeCast S2 (V main_v8) shapeCasts_S1x2_S2 from b9).trans ((congrArg (fun w => shapeCast S2 w shapeCasts_S1x2_S2)
      (b8.trans (congrArg (fun w : S4x2.Idx → BitVec 32 => extractStridedSlice S1x2 ![0, 0] w slices_S4x2_S1x2_0_0) k7))).trans (row_key _ _ 0 (by decide)))
  have k11 : rd (.of main_v11) V = keyArr 64467757#32 2916123636#32 :=
    ((show _ = shapeCast S2 (V main_v10) shapeCasts_S1x2_S2 from b11).trans ((congrArg (fun w => shapeCast S2 w shapeCasts_S1x2_S2)
      (b10.trans (congrArg (fun w : S4x2.Idx → BitVec 32 => extractStridedSlice S1x2 ![1, 0] w slices_S4x2_S1x2_1_0) k7))).trans (row_key _ _ 1 (by decide)))).trans
        (congrArg (fun p : BitVec 32 × BitVec 32 => keyArr p.1 p.2) (by decide +kernel : tf 0#32 42#32 0#32 1#32 = (64467757#32, 2916123636#32)))
  have k13 : rd (.of main_v13) V = keyArr 2465931498#32 255383827#32 :=
    ((show _ = shapeCast S2 (V main_v12) shapeCasts_S1x2_S2 from b13).trans ((congrArg (fun w => shapeCast S2 w shapeCasts_S1x2_S2)
      (b12.trans (congrArg (fun w : S4x2.Idx → BitVec 32 => extractStridedSlice S1x2 ![2, 0] w slices_S4x2_S1x2_2_0) k7))).trans (row_key _ _ 2 (by decide)))).trans
        (congrArg (fun p : BitVec 32 × BitVec 32 => keyArr p.1 p.2) (by decide +kernel : tf 0#32 42#32 0#32 2#32 = (2465931498#32, 255383827#32)))
  have k15 : rd (.of main_v15) V = keyArr 3134548294#32 894150801#32 :=
    ((show _ = shapeCast S2 (V main_v14) shapeCasts_S1x2_S2 from b15).trans ((congrArg (fun w => shapeCast S2 w shapeCasts_S1x2_S2)
      (b14.trans (congrArg (fun w : S4x2.Idx → BitVec 32 => extractStridedSlice S1x2 ![3, 0] w slices_S4x2_S1x2_3_0) k7))).trans (row_key _ _ 3 (by decide)))).trans
        (congrArg (fun p : BitVec 32 × BitVec 32 => keyArr p.1 p.2) (by decide +kernel : tf 0#32 42#32 0#32 3#32 = (3134548294#32, 894150801#32)))
  have m18 : ∀ j : S16x768.Idx, (V main_v18 : S16x768.Idx → BitVec 1) j = maskBit (j 0).val (j 1).val := fun j =>
    (bernoulli_at _ _ _ hb k9 ec j).trans (cmp_mask _)
  have m20 : ∀ i : S16x2048x768.Idx, (V main_v20 : S16x2048x768.Idx → BitVec 1) i = maskBit (i 0).val (i 2).val := fun i => by
    rw [show V main_v20 = _ from e20, show V main_v19 = _ from e19]
    exact m18 _
  have z21 : ∀ i : S16x2048x768.Idx, (V main_v21 : S16x2048x768.Idx → BitVec 1) i = zeroDraw (flat (i 0).val (i 1).val (i 2).val) :=
    fun i => (bernoulli_1_at _ _ _ hz k11 ec2 i).trans (cmp_zero _)
  have r24 : ∀ i : S16x2048x768.Idx, (V main_v24 : S16x2048x768.Idx → BitVec 1) i = randDraw (flat (i 0).val (i 1).val (i 2).val) :=
    fun i => (bernoulli_1_at _ _ _ hr k13 ec4 i).trans (cmp_half _)
  have u29 : ∀ i : S16x2048x768.Idx, (V main_v29 : S16x2048x768.Idx → EReal) i = randVal (flat (i 0).val (i 1).val (i 2).val) :=
    fun i => uniform_2_at _ _ _ _ hu k15 ec6 ec7 i
  have z22 : ∀ i : S16x2048x768.Idx, (V main_v22 : S16x2048x768.Idx → BitVec 1) i
      = zeroDraw (flat (i 0).val (i 1).val (i 2).val) &&& maskBit (i 0).val (i 2).val := fun i => by
    rw [show V main_v22 = _ from e22, ← m20 i, ← z21 i]; rfl
  have r27 : ∀ i : S16x2048x768.Idx, (V main_v27 : S16x2048x768.Idx → BitVec 1) i
      = (randDraw (flat (i 0).val (i 1).val (i 2).val) &&& maskBit (i 0).val (i 2).val)
        &&& ~~~ (zeroDraw (flat (i 0).val (i 1).val (i 2).val) &&& maskBit (i 0).val (i 2).val) := fun i => by
    rw [show V main_v27 = _ from e27, show V main_v25 = _ from e25, show V main_v26 = _ from e26, ← z22 i, ← m20 i, ← r24 i]; rfl
  obtain ⟨w0, hw⟩ := take_map hw
  obtain ⟨w1, hw⟩ := take_zip3 hw
  obtain ⟨w4, hw4⟩ := take_zip3 hw4
  have s23 : (V main_v23 : S16x2048x768.Idx → EReal) = fun i => zeroed ((V main_arg0 : S16x2048x768.Idx → EReal) i) (i 0).val (i 1).val (i 2).val := by
    funext i
    have e : (V main_v23 : S16x2048x768.Idx → EReal) i = Scalar.select ((V main_v22 : S16x2048x768.Idx → BitVec 1) i) (Ideal.ofBits .f32 0x00000000#32) ((V main_arg0 : S16x2048x768.Idx → EReal) i) := by
      have ez : rd main_call3.v0 V i = Ideal.ofBits .f32 0x00000000#32 := by rw [w0]; exact congrFun ec3 _
      rw [← ez]
      exact congrFun w1 i
    rw [e, z22, ofBits_zero]
    unfold zeroed Scalar.select
    rcases bit_cases (maskBit (i 0).val (i 2).val) with hm | hm <;>
      rcases bit_cases (zeroDraw (flat (i 0).val (i 1).val (i 2).val)) with hz | hz <;> rw [hm, hz] <;> rfl
  refine ⟨fun i => ?_, fun i => ?_⟩
  · have e : (V main_v32 : S16x2048x768.Idx → EReal) i = Scalar.select ((V main_v27 : S16x2048x768.Idx → BitVec 1) i)
        (refMax (V main_arg0) * randVal (flat (i 0).val (i 1).val (i 2).val)) ((V main_v23 : S16x2048x768.Idx → EReal) i) := by
      refine (congrFun (show V main_v32 = _ from w4) i).trans ?_
      have e31 : ∀ i : S16x2048x768.Idx, (V main_v31 : S16x2048x768.Idx → EReal) i
          = Mul.mul (α := EReal) ((V main_v28 : S_.Idx → EReal) (fun a => a.elim0)) ((V main_v29 : S16x2048x768.Idx → EReal) i) := fun i => by
        rw [show V main_v31 = _ from e31, show V main_v30 = _ from e30]
        exact congrArg (fun j : S_.Idx => Mul.mul (α := EReal) ((V main_v28 : S_.Idx → EReal) j) ((V main_v29 : S16x2048x768.Idx → EReal) i)) (funext fun a => a.elim0)
      have e28' : (V main_v28 : S_.Idx → EReal) (fun a => a.elim0) = refMax (V main_arg0) := by
        rw [show V main_v28 = _ from e28, s23, show V main_cst_5 = _ from ec5]; rfl
      have p := e31 i
      rw [e28', u29 i] at p
      exact congrArg (fun w : EReal => Scalar.select ((V main_v27 : S16x2048x768.Idx → BitVec 1) i) w ((V main_v23 : S16x2048x768.Idx → EReal) i)) p
    rw [e, r27, s23]
    unfold masked zeroed Scalar.select
    rcases bit_cases (maskBit (i 0).val (i 2).val) with hm | hm <;>
      rcases bit_cases (zeroDraw (flat (i 0).val (i 1).val (i 2).val)) with hz | hz <;>
      rcases bit_cases (randDraw (flat (i 0).val (i 1).val (i 2).val)) with hr | hr <;> simp [hm, hz, hr]
  · have e : (V main_v33 : S16x2048x768.Idx → BitVec 32) = fun i => BitVec.setWidth 32 ((V main_v20 : S16x2048x768.Idx → BitVec 1) i) := e33
    rw [e]
    exact congrArg (fun w : BitVec 1 => w.setWidth 32) (m20 i)

end Cert.ReferenceIdeal.Spike
-- ==== Proof.Largest.lean ====
/- The largest zeroed spike: what the kernel's host finds from the maxima is what the reference finds. -/
module

public import proofs.«01_k».proof.Proof.Between
public import proofs.«01_k».proof.Proof.RefMain

@[expose] public section

set_option maxRecDepth 16384

noncomputable section

namespace Cert.KernelIdeal.Spike

open Cert.KernelIdeal.Gen Cert.Spike
open Idealize.ShloMosaic hiding ix2 ix3
open Idealize.ShloMosaic.TcCoe Idealize.ShloMosaic.Tactic Idealize.ShloMosaic.ValueIdx

/-- The slot table. -/
def slots : Vec Ideal S16x1x256 .i32 := fun i => lit1 (S16x1x256.rowMajor i)

/-- A batch's part of the slot table, entry by entry. -/
theorem ccut_slots (b : Fin 16) (p : Fin 256) : ccut slots b (ix3 o1 o1 p) = lit1t (256 * b.val + p.val) := slot_entry b p

/-- A row from its block and its place there. -/
theorem row_split (t : Fin 2048) : 256 * (blkOf t).val + (posIn t).val = t.val := Nat.div_add_mod t.val 256

/-- A slot that lists a masked column holds that column's zeroed spike, -/
theorem slotVal_hit (X : Vec Ideal S16x2048x768 .f32) (b : Fin 16) (t : Fin 2048) (p : Fin 256) (g : Fin 768)
    (hm : maskBit b.val g.val = 1#1) (hc : lit1t (256 * b.val + p.val) = BitVec.ofNat 32 g.val) :
    slotVal X slots b t p = zeroed (X (ix3 b t g)) b.val t.val g.val := by
  have hc' : ccut slots b (ix3 o1 o1 p) = BitVec.ofNat 32 g.val := (ccut_slots b p).trans hc
  have ht : row (blkOf t) (posIn t) = t := Fin.ext (row_split t)
  unfold slotVal zent zeroed
  rw [zbit_at _ _ _ _ _ _ hc', gath_hit _ _ _ _ _ hc', row_split]
  show (if _ then (0 : EReal) else X (ix3 b (row (blkOf t) (posIn t)) g)) = _
  rw [ht]
  simp [hm]
/-- and one past the end of the list holds zero. -/
theorem slotVal_pad (X : Vec Ideal S16x2048x768 .f32) (b : Fin 16) (t : Fin 2048) (p : Fin 256)
    (hc : lit1t (256 * b.val + p.val) = 4294967295#32) : slotVal X slots b t p = 0 := by
  unfold slotVal zent
  rw [gath_pad _ _ _ _ ((ccut_slots b p).trans hc), ite_self]

/-- The reference's maximum is bounded by what bounds every zeroed spike. -/
theorem refMax_le (X : Vec Ideal S16x2048x768 .f32) (M : EReal) :
    Cert.ReferenceIdeal.Spike.refMax X ≤ M ↔ ∀ b t f, zeroed (X (ix3 b t f)) b.val t.val f.val ≤ M := by
  refine (reduce_le _ _ _ none_but _ M).trans ⟨fun q b t f => q (ix3 b t f), fun q i => ?_⟩
  obtain ⟨b, t, f, rfl⟩ : ∃ (b : Fin 16) (t : Fin 2048) (f : Fin 768), i = ix3 b t f := ⟨i 0, i 1, i 2, ValueIdx.eq_ix3 _⟩
  exact q b t f

/-- The two are equal. -/
theorem largest (X : Vec Ideal S16x2048x768 .f32) (C : IVec S16x1x768 32) (hC : ∀ b f, C (ix3 b o1 f) = (maskBit b.val f.val).setWidth 32) :
    (shapeCast S1x1 (peak C (fun i => ⨆ t : Fin 2048, (X (ix3 (i 0) t (i 2)) : EReal)) (fun i => ⨆ t : Fin 2048, slotVal X slots (i 0) t (i 2)))
        shapeCasts_S_S1x1 (ix2 o1 o1) : EReal)
      = Cert.ReferenceIdeal.Spike.refMax X := by
  refine eq_of_forall_ge_iff (α := EReal) fun M => ?_
  rw [peak_le _ _ _ _ hC, refMax_le]
  refine ⟨fun q b t f => ?_, fun q => ⟨fun b f h => ?_, fun b p => ?_⟩⟩
  · rcases bit_cases (maskBit b.val f.val) with h | h
    · refine le_trans (le_of_eq ?_) ((iSup_le_iff (α := EReal)).mp (q.1 b f h) t)
      unfold zeroed
      rw [if_neg (by rw [h]; exact fun k => absurd k.1 (by decide))]
    · obtain ⟨p, hp⟩ := (lists b).1 f h
      rw [← slotVal_hit X b t p f h hp]
      exact (iSup_le_iff (α := EReal)).mp (q.2 b p) t
  · refine iSup_le (α := EReal) fun t => le_trans (le_of_eq ?_) (q b t f)
    unfold zeroed
    rw [if_neg (by rw [h]; exact fun k => absurd k.1 (by decide))]
  · refine iSup_le (α := EReal) fun t => ?_
    rcases (lists b).2.1 p with e | ⟨g, hm, e⟩
    · refine le_trans (le_of_eq (slotVal_pad X b t p e)) ?_
      obtain ⟨f, hm, hz⟩ := some_zero
      refine le_trans (le_of_eq ?_) (q 0 0 f)
      unfold zeroed
      exact (if_pos ⟨hm, hz⟩).symm
    · refine le_trans (le_of_eq (slotVal_hit X b t p g hm e)) (q b t g)

end Cert.KernelIdeal.Spike
-- ==== Proof.Result.lean ====
/- What the kernel's two results hold at an entry. -/
module

public import proofs.«01_k».proof.Proof.Largest

@[expose] public section

set_option maxRecDepth 16384

noncomputable section

namespace Cert.KernelIdeal.Spike

open Cert.KernelIdeal.Gen Cert.Spike
open Idealize.ShloMosaic hiding ix2 ix3
open Idealize.ShloMosaic.TcCoe Idealize.ShloMosaic.Tactic Idealize.ShloMosaic.ValueIdx

variable (m : (ℓ : Loc nD τ sig) → Buf (Elt Ideal) ℓ) (ρ : Dev nD → PrngReg) (c : Dev nD)

/-- The mask's table and the slots' turned table. -/
def maskTab : Vec Ideal S16x1x768 .i32 := fun i => lit0 (S16x1x768.rowMajor i)
def turned : Vec Ideal S16x256x1 .i32 := fun i => lit2 (S16x256x1.rowMajor i)

/-- The argument as launched. -/
abbrev X0 : Vec Ideal S16x2048x768 .f32 := m ((c : Thread nD τ).loc main_arg0)

/-! Where the first pass begins. -/

theorem e1_arg : E1 m ρ c main_arg0 = X0 m c := H1_of m ρ c main_arg0 (by decide)
theorem e1_mask : E1 m ρ c main_c = maskTab := (tables_at (H0 m ρ c)).1
theorem e1_slots : E1 m ρ c main_c_0 = slots := (tables_at (H0 m ρ c)).2.1

/-! Where the second pass begins. -/

theorem e5_arg : E5 m ρ c main_arg0 = X0 m c :=
  (H5_eq_H2 m ρ c main_arg0 (by decide) (by decide) (by decide)).trans ((H2_in m ρ c 0 rfl).trans (e1_arg m ρ c))
theorem e5_mask : E5 m ρ c main_c = maskTab :=
  (H5_eq_H2 m ρ c main_c (by decide) (by decide) (by decide)).trans ((H2_in m ρ c 2 rfl).trans (e1_mask m ρ c))
theorem e5_slots : E5 m ρ c main_c_0 = slots :=
  (H5_eq_H2 m ρ c main_c_0 (by decide) (by decide) (by decide)).trans ((H2_in m ρ c 1 rfl).trans (e1_slots m ρ c))
theorem e5_turned : E5 m ρ c main_c_1 = turned :=
  (H5_eq_H2 m ρ c main_c_1 (by decide) (by decide) (by decide)).trans ((H2_rest m ρ c main_c_1 (by decide)).trans (tables_at (H0 m ρ c)).2.2)
theorem e5_zeroed : E5 m ρ c main_v0_0 = fun i : S16x2048x256.Idx => slotVal (X0 m c) slots (i 0) (i 1) (i 2) := by
  refine (H5_eq_H2 m ρ c main_v0_0 (by decide) (by decide) (by decide)).trans ((H2_arr m ρ c 3).trans ((arr_zeroed (E1 m ρ) c).trans ?_))
  rw [e1_arg, e1_slots]
theorem e5_flags : E5 m ρ c main_v0_1 = fun i : S16x2048x256.Idx => (slotBit slots (i 0) (i 1) (i 2)).setWidth 8 := by
  refine (H5_eq_H2 m ρ c main_v0_1 (by decide) (by decide) (by decide)).trans ((H2_arr m ρ c 4).trans ((arr_flags (E1 m ρ) c).trans ?_))
  rw [e1_slots]
/-- The scale handed to the second pass is the reference's maximum. -/
theorem e5_largest : (E5 m ρ c main_v7 (ix2 o1 o1) : EReal) = Cert.ReferenceIdeal.Spike.refMax (X0 m c) := by
  rw [← largest (X0 m c) maskTab mask_entry]
  refine (congrFun (peak_at (H2 m ρ c)) _).trans ?_
  rw [show H2 m ρ c (Proc.devRef .tc main_c) = maskTab from (H2_in m ρ c 2 rfl).trans (e1_mask m ρ c),
    show H2 m ρ c (Proc.devRef .tc main_v0_3) = _ from (H2_arr m ρ c 6).trans (arr_cols (E1 m ρ) c),
    show H2 m ρ c (Proc.devRef .tc main_v0_4) = _ from (H2_arr m ρ c 7).trans (arr_zcols (E1 m ρ) c), e1_slots]
  exact congrArg (fun X : Vec Ideal S16x2048x768 .f32 => (shapeCast S1x1 (peak maskTab (fun i => ⨆ t : Fin 2048, (X (ix3 (i 0) t (i 2)) : EReal))
    (fun i => ⨆ t : Fin 2048, slotVal X slots (i 0) t (i 2))) shapeCasts_S_S1x1 (ix2 o1 o1) : EReal)) (e1_arg m ρ c)

/-- The integer mask. -/
theorem mask_result : (datA (E1 m ρ) c).arrAt 5 cfg0.N
    = fun i : S16x2048x768.Idx => (maskBit (i 0).val (i 2).val).setWidth 32 := by
  rw [arr_mask, e1_mask]
  funext i
  exact mask_entry (i 0) (i 2)

/-- The spikes. -/
theorem spike_result : (datB (E5 m ρ) c).arrAt 7 cfg1.N
    = fun i : S16x2048x768.Idx => masked (Cert.ReferenceIdeal.Spike.refMax (X0 m c)) (X0 m c i) (i 0).val (i 1).val (i 2).val := by
  refine outB_7 c (datB (E5 m ρ) c) _ fun t r f => ?_
  rw [afterB_7]
  refine (outBlk_at _ _ _ _ _ _ _ _ ?_ ?_ ?_ ?_ ?_ r f).trans ?_
  · intro r p
    refine (inB_1 (E5 m ρ) c t r p).trans ?_
    rw [e5_zeroed, cutB_0, cutB_3, e5_arg, e5_slots]
    exact slotVal_row _ _ (bB t) (hB t) r p
  · intro r p
    refine (inB_2 (E5 m ρ) c t r p).trans ?_
    rw [e5_flags, cutB_3, e5_slots]
    exact congrArg (BitVec.setWidth 8) (slotBit_row _ (bB t) (hB t) r p)
  · intro p
    refine (inB_4 (E5 m ρ) c t p).trans ?_
    rw [e5_turned, cutB_3, e5_slots]
    exact (turned_entry (bB t) p).trans (slot_entry (bB t) p).symm
  · intro f
    refine (inB_5 (E5 m ρ) c t f).trans ?_
    rw [e5_mask]
    exact mask_entry (bB t) f
  · rw [cutB_3, e5_slots]
    have e : (fun p => ccut slots (bB t) (ix3 o1 o1 p)) = fun p : Fin 256 => lit1t (256 * (bB t).val + p.val) := funext fun p => ccut_slots (bB t) p
    rw [e]
    exact lists (bB t)
  · rw [inB_6, e5_largest, inB_0, e5_arg]
    rfl

end Cert.KernelIdeal.Spike
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Run
public import proofs.«01_k».proof.Proof.RefLine
public import proofs.«01_k».proof.Proof.Result
public import Idealize.ShloMosaic.Adequacy
public import Idealize.ShloMosaic.Init

@[expose] public section

set_option maxRecDepth 16384

noncomputable section

namespace Cert.Proof

open Idealize.ShloMosaic Idealize.SL.Sem Cert.Kernel

/-- The kernel's frame is the same statement as its idealization's text read at float words: no rule rewrote anything. -/
theorem frame_same :
    quiescent_Kernel = (∀ (m : (ℓ : Loc Cert.KernelIdeal.nD Cert.KernelIdeal.τ Cert.KernelIdeal.sig) → Buf (Elt Bits) ℓ)
      (g : Dev Cert.KernelIdeal.nD → PrngReg), True →
      θ_run (Cert.KernelIdeal.defs (F := Bits)) (onTc (τ := Cert.KernelIdeal.τ) (Cert.KernelIdeal.main (F := Bits)))
        ⟨m, fun _ => 0, g⟩ (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))
          ∧ r.2.sem = fun _ => 0)) := by chain_rfl

/-- The kernel's frame. -/
theorem frame_kernel : quiescent_Kernel := frame_same ▸ fun m g _ => Cert.KernelIdeal.Spike.run_quiet m g

/-- The idealization's frame. -/
theorem frame_ideal : quiescent_KernelIdeal := fun m g _ => Cert.KernelIdeal.Spike.run_quiet m g

/-- The reference's frame. -/
theorem frame_reference : quiescent_ReferenceIdeal := fun m g _ => Cert.ReferenceIdeal.Spike.run_quiet m g

/-- The reference's results, from the argument it was launched with. -/
theorem reference_values (m : (ℓ : Loc Cert.ReferenceIdeal.nD Cert.ReferenceIdeal.τ Cert.ReferenceIdeal.sig) → Buf (Elt Ideal) ℓ) (c : Dev Cert.ReferenceIdeal.nD)
    (X : Vec Ideal Cert.ReferenceIdeal.S16x2048x768 .f32)
    (hX : m ((c.tc : Thread Cert.ReferenceIdeal.nD Cert.ReferenceIdeal.τ).loc Cert.ReferenceIdeal.main_arg0) = X) :
    (Cert.ReferenceIdeal.Spike.Z m c (Proc.devRef .tc Cert.ReferenceIdeal.main_v32) = fun i : Cert.ReferenceIdeal.S16x2048x768.Idx =>
      Cert.Spike.masked (Cert.ReferenceIdeal.Spike.refMax X) (X i) (i 0).val (i 1).val (i 2).val)
    ∧ Cert.ReferenceIdeal.Spike.Z m c (Proc.devRef .tc Cert.ReferenceIdeal.main_v33) = fun i : Cert.ReferenceIdeal.S16x2048x768.Idx =>
      (Cert.Spike.maskBit (i 0).val (i 2).val).setWidth 32 := by
  have r := Cert.ReferenceIdeal.Spike.results_of (Cert.ReferenceIdeal.Spike.Z_holds m c)
  rw [Cert.ReferenceIdeal.Spike.Z_arg, hX] at r
  exact ⟨funext r.1, funext r.2⟩

/-- The two programs compute the same results. -/
theorem same_results : algebraic_KernelIdeal_ReferenceIdeal := fun m g m' g' _ hm =>
  ⟨fun c => (Cert.KernelIdeal.Spike.datB (Cert.KernelIdeal.Spike.E5 m g) c).arrAt 7 Cert.KernelIdeal.cfg1.N,
    fun c => (Cert.KernelIdeal.Spike.datA (Cert.KernelIdeal.Spike.E1 m g) c).arrAt 5 Cert.KernelIdeal.cfg0.N,
    (θ_run Cert.KernelIdeal.defs _ _).mono (fun _ h c => ⟨(h.1 c).2.1, (h.1 c).2.2, (h.1 c).1⟩) (Cert.KernelIdeal.Spike.run_ends m g),
    (θ_run Cert.ReferenceIdeal.defs _ _).mono (fun r h c =>
      ⟨(h c _).trans ((reference_values m' c _ (hm c)).1.trans (Cert.KernelIdeal.Spike.spike_result m g c).symm),
        (h c _).trans ((reference_values m' c _ (hm c)).2.trans (Cert.KernelIdeal.Spike.mask_result m g c).symm),
        (h c _).trans (Cert.ReferenceIdeal.Spike.Z_arg m' c)⟩) (Cert.ReferenceIdeal.Spike.run_ends m' g')⟩

theorem claim : Cert.Claim := ⟨Cert.Kernel.Gen.facts, Cert.KernelIdeal.Gen.facts, Cert.ReferenceIdeal.Gen.facts,
  frame_kernel, frame_ideal, frame_reference, trivial, same_results⟩

end Cert.Proof

end
